-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_ReferenceIdeal [hPre_bounded_ReferenceIdeal : Cert.Pre_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_WholeIdeal (m : (ℓ : Loc Cert.WholeIdeal.nD Cert.WholeIdeal.τ Cert.WholeIdeal.sig) → Buf (Elt Ideal) ℓ) : Prop :=
  True

def Pre_Whole (m : (ℓ : Loc Cert.Whole.nD Cert.Whole.τ Cert.Whole.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded_ReferenceIdeal [hReferenceIdeal : Cert.ReferenceIdeal.Facts] [hPre_bounded_ReferenceIdeal : Cert.Pre_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1))
      ∧ r.2.sem = fun _ => 0)

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1))
      ∧ r.2.sem = fun _ => 0)

def preserves_Kernel_KernelIdeal : Prop :=
  True

def algebraic_KernelIdeal_ReferenceIdeal_on_finished_pre_bounded_KernelIdeal [hKernelIdeal : Cert.KernelIdeal.Facts] [hReferenceIdeal : Cert.ReferenceIdeal.Facts] [hPre_bounded_KernelIdeal : Cert.Pre_bounded_KernelIdeal.Facts] [hOn_finished : Cert.On_finished.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 2048]⟩ : Shape).Idx, (Layout.block ⟨2, ![4096, 2048]⟩ ⟨2, ![16384, 2048]⟩ 0 4 c ((Cert.On_finished.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![4096, 2048]⟩ : Shape).Idx → _) i = 1#1 → r.2.mem ((c.tc : Thread Cert.KernelIdeal.nD Cert.KernelIdeal.τ).loc Cert.KernelIdeal.main_v1) i = (Layout.block ⟨2, ![4096, 2048]⟩ ⟨2, ![16384, 2048]⟩ 0 4 c v0 : (⟨2, ![4096, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![16384, 2048]⟩ : Shape).Idx, (Cert.On_finished.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v7) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def preserves_Gather_GatherIdeal : Prop :=
  True

def bitexact_Gather_Whole_on_gathered [hGather : Cert.Gather.Facts] [hWhole : Cert.Whole.Facts] [hOn_gathered : Cert.On_gathered.Facts] : Prop :=
  ∀ (m : (ℓ : Loc Cert.Gather.nD Cert.Gather.τ Cert.Gather.sig) → Buf (Elt Bits) ℓ) (g : Dev Cert.Gather.nD → PrngReg)
    (m' : (ℓ : Loc Cert.Whole.nD Cert.Whole.τ Cert.Whole.sig) → Buf (Elt Bits) ℓ) (g' : Dev Cert.Whole.nD → PrngReg), Pre_Gather m →
    (∀ c : Dev Cert.Gather.nD,
      m ((c.tc : Thread Cert.Gather.nD Cert.Gather.τ).loc Cert.Gather.main_arg0) = Layout.block ⟨2, ![1024, 1024]⟩ ⟨2, ![4096, 1024]⟩ 0 4 c (m' (((0 : Dev Cert.Whole.nD).tc : Thread Cert.Whole.nD Cert.Whole.τ).loc Cert.Whole.main_arg0))
      ∧ m ((c.tc : Thread Cert.Gather.nD Cert.Gather.τ).loc Cert.Gather.main_arg1) = Layout.block ⟨2, ![1024, 1024]⟩ ⟨2, ![4096, 1024]⟩ 0 4 c (m' (((0 : Dev Cert.Whole.nD).tc : Thread Cert.Whole.nD Cert.Whole.τ).loc Cert.Whole.main_arg1))) →
    ∃ (v0 : Buf (Elt Bits) (((0 : Dev Cert.Whole.nD).tc : Thread Cert.Whole.nD Cert.Whole.τ).loc Cert.Whole.main_v4)),
      θ_run (Cert.Gather.defs (F := Bits)) (onTc (τ := Cert.Gather.τ) (Cert.Gather.main (F := Bits))) ⟨m, fun _ => 0, g⟩ (fun r => ∀ c : Dev Cert.Gather.nD,
          (∀ i : (⟨2, ![4096, 2048]⟩ : Shape).Idx, (Layout.block ⟨2, ![4096, 2048]⟩ ⟨2, ![16384, 2048]⟩ 0 4 c ((Cert.On_gathered.fn (F := Bits) (m' (((0 : Dev Cert.Whole.nD).tc : Thread Cert.Whole.nD Cert.Whole.τ).loc Cert.Whole.main_arg0)) (m' (((0 : Dev Cert.Whole.nD).tc : Thread Cert.Whole.nD Cert.Whole.τ).loc Cert.Whole.main_arg1)))) : (⟨2, ![4096, 2048]⟩ : Shape).Idx → _) i = 1#1 → r.2.mem ((c.tc : Thread Cert.Gather.nD Cert.Gather.τ).loc Cert.Gather.main_v1) i = (Layout.block ⟨2, ![4096, 2048]⟩ ⟨2, ![16384, 2048]⟩ 0 4 c v0 : (⟨2, ![4096, 2048]⟩ : Shape).Idx → _) i)
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.Whole.defs (F := Bits)) (onTc (τ := Cert.Whole.τ) (Cert.Whole.main (F := Bits))) ⟨m', fun _ => 0, g'⟩ (fun r =>
          (∀ i : (⟨2, ![16384, 2048]⟩ : Shape).Idx, (Cert.On_gathered.fn (F := Bits) (m' (((0 : Dev Cert.Whole.nD).tc : Thread Cert.Whole.nD Cert.Whole.τ).loc Cert.Whole.main_arg0)) (m' (((0 : Dev Cert.Whole.nD).tc : Thread Cert.Whole.nD Cert.Whole.τ).loc Cert.Whole.main_arg1))) i = 1#1 → r.2.mem (((0 : Dev Cert.Whole.nD).tc : Thread Cert.Whole.nD Cert.Whole.τ).loc Cert.Whole.main_v4) i = v0 i)
          ∧ r.2.mem (((0 : Dev Cert.Whole.nD).tc : Thread Cert.Whole.nD Cert.Whole.τ).loc Cert.Whole.main_arg0) = m' (((0 : Dev Cert.Whole.nD).tc : Thread Cert.Whole.nD Cert.Whole.τ).loc Cert.Whole.main_arg0)
          ∧ r.2.mem (((0 : Dev Cert.Whole.nD).tc : Thread Cert.Whole.nD Cert.Whole.τ).loc Cert.Whole.main_arg1) = m' (((0 : Dev Cert.Whole.nD).tc : Thread Cert.Whole.nD Cert.Whole.τ).loc Cert.Whole.main_arg1))

def algebraic_GatherIdeal_WholeIdeal_on_gathered [hGatherIdeal : Cert.GatherIdeal.Facts] [hWholeIdeal : Cert.WholeIdeal.Facts] [hOn_gathered : Cert.On_gathered.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.WholeIdeal.nD Cert.WholeIdeal.τ Cert.WholeIdeal.sig) → Buf (Elt Ideal) ℓ) (g' : Dev Cert.WholeIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![1024, 1024]⟩ ⟨2, ![4096, 1024]⟩ 0 4 c (m' (((0 : Dev Cert.WholeIdeal.nD).tc : Thread Cert.WholeIdeal.nD Cert.WholeIdeal.τ).loc Cert.WholeIdeal.main_arg0))
      ∧ m ((c.tc : Thread Cert.GatherIdeal.nD Cert.GatherIdeal.τ).loc Cert.GatherIdeal.main_arg1) = Layout.block ⟨2, ![1024, 1024]⟩ ⟨2, ![4096, 1024]⟩ 0 4 c (m' (((0 : Dev Cert.WholeIdeal.nD).tc : Thread Cert.WholeIdeal.nD Cert.WholeIdeal.τ).loc Cert.WholeIdeal.main_arg1))) →
    ∃ (v0 : Buf (Elt Ideal) (((0 : Dev Cert.WholeIdeal.nD).tc : Thread Cert.WholeIdeal.nD Cert.WholeIdeal.τ).loc Cert.WholeIdeal.main_v4)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          (∀ i : (⟨2, ![4096, 2048]⟩ : Shape).Idx, (Layout.block ⟨2, ![4096, 2048]⟩ ⟨2, ![16384, 2048]⟩ 0 4 c ((Cert.On_gathered.fn (F := Ideal) (m' (((0 : Dev Cert.WholeIdeal.nD).tc : Thread Cert.WholeIdeal.nD Cert.WholeIdeal.τ).loc Cert.WholeIdeal.main_arg0)) (m' (((0 : Dev Cert.WholeIdeal.nD).tc : Thread Cert.WholeIdeal.nD Cert.WholeIdeal.τ).loc Cert.WholeIdeal.main_arg1)))) : (⟨2, ![4096, 2048]⟩ : Shape).Idx → _) i = 1#1 → r.2.mem ((c.tc : Thread Cert.GatherIdeal.nD Cert.GatherIdeal.τ).loc Cert.GatherIdeal.main_v1) i = (Layout.block ⟨2, ![4096, 2048]⟩ ⟨2, ![16384, 2048]⟩ 0 4 c v0 : (⟨2, ![4096, 2048]⟩ : Shape).Idx → _) i)
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.WholeIdeal.defs (F := Ideal)) (onTc (τ := Cert.WholeIdeal.τ) (Cert.WholeIdeal.main (F := Ideal))) ⟨m', fun _ => 0, g'⟩ (fun r =>
          (∀ i : (⟨2, ![16384, 2048]⟩ : Shape).Idx, (Cert.On_gathered.fn (F := Ideal) (m' (((0 : Dev Cert.WholeIdeal.nD).tc : Thread Cert.WholeIdeal.nD Cert.WholeIdeal.τ).loc Cert.WholeIdeal.main_arg0)) (m' (((0 : Dev Cert.WholeIdeal.nD).tc : Thread Cert.WholeIdeal.nD Cert.WholeIdeal.τ).loc Cert.WholeIdeal.main_arg1))) i = 1#1 → r.2.mem (((0 : Dev Cert.WholeIdeal.nD).tc : Thread Cert.WholeIdeal.nD Cert.WholeIdeal.τ).loc Cert.WholeIdeal.main_v4) i = v0 i)
          ∧ r.2.mem (((0 : Dev Cert.WholeIdeal.nD).tc : Thread Cert.WholeIdeal.nD Cert.WholeIdeal.τ).loc Cert.WholeIdeal.main_arg0) = m' (((0 : Dev Cert.WholeIdeal.nD).tc : Thread Cert.WholeIdeal.nD Cert.WholeIdeal.τ).loc Cert.WholeIdeal.main_arg0)
          ∧ r.2.mem (((0 : Dev Cert.WholeIdeal.nD).tc : Thread Cert.WholeIdeal.nD Cert.WholeIdeal.τ).loc Cert.WholeIdeal.main_arg1) = m' (((0 : Dev Cert.WholeIdeal.nD).tc : Thread Cert.WholeIdeal.nD Cert.WholeIdeal.τ).loc Cert.WholeIdeal.main_arg1))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hWholeIdeal : Cert.WholeIdeal.Facts) (hWhole : Cert.Whole.Facts) (hPre_bounded_KernelIdeal : Cert.Pre_bounded_KernelIdeal.Facts) (hPre_bounded_ReferenceIdeal : Cert.Pre_bounded_ReferenceIdeal.Facts) (hOn_finished : Cert.On_finished.Facts) (hOn_gathered : Cert.On_gathered.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_ReferenceIdeal_pre_bounded_ReferenceIdeal (hReferenceIdeal := hReferenceIdeal) (hPre_bounded_ReferenceIdeal := hPre_bounded_ReferenceIdeal)
    ∧ quiescent_Gather (hGather := hGather)
    ∧ quiescent_GatherIdeal (hGatherIdeal := hGatherIdeal)
    ∧ quiescent_WholeIdeal (hWholeIdeal := hWholeIdeal)
    ∧ quiescent_Whole (hWhole := hWhole)
    ∧ preserves_Kernel_KernelIdeal
    ∧ algebraic_KernelIdeal_ReferenceIdeal_on_finished_pre_bounded_KernelIdeal (hKernelIdeal := hKernelIdeal) (hReferenceIdeal := hReferenceIdeal) (hPre_bounded_KernelIdeal := hPre_bounded_KernelIdeal) (hOn_finished := hOn_finished)
    ∧ preserves_Gather_GatherIdeal
    ∧ bitexact_Gather_Whole_on_gathered (hGather := hGather) (hWhole := hWhole) (hOn_gathered := hOn_gathered)
    ∧ algebraic_GatherIdeal_WholeIdeal_on_gathered (hGatherIdeal := hGatherIdeal) (hWholeIdeal := hWholeIdeal) (hOn_gathered := hOn_gathered)
-- ==== On_finished.lean ====
abbrev S4096x4096 : Shape := ⟨2, ![4096, 4096]⟩
abbrev S4096x2048 : Shape := ⟨2, ![4096, 2048]⟩
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)

variable [Facts]

def fn_where {F : FTy → Type} [FloatOps F] (arg0 : IVec S16384x2048 1) (arg1 : IVec S16384x2048 32) (arg2 : IVec S16384x2048 32) : IVec S16384x2048 32 :=
  let v0 : IVec S16384x2048 32 := select arg0 arg1 arg2
  v0

def fn_part1 {F : FTy → Type} [FloatOps F] (main_v7 : IVec S16384x2048 32) (main_v16 : IVec S16384x2048 32) : IVec S16384x2048 1 :=
  let main_v17 : IVec S16384x2048 1 := cmpi .eq main_v7 main_v16
  main_v17

def fn {F : FTy → Type} [FloatOps F] (main_arg0 : FVec F S4096x4096 .f32) (main_arg1 : FVec F S4096x2048 .f32) : IVec S16384x2048 1 :=
  let main_v0 : IVec S16384x2048 32 := iotaInDim S16384x2048 32 0
  let main_v1 : IVec S16384x2048 32 := iotaInDim S16384x2048 32 1
  let main_c : IVec S_ 32 := constantI S_ 32 4096#32
  let main_v2 : IVec S16384x2048 32 := broadcastInDim S16384x2048 ![] bcast_S_S16384x2048 main_c
  let main_v3 : IVec S16384x2048 32 := Host.divsi main_v0 main_v2
  let main_c_0 : IVec S_ 32 := constantI S_ 32 1024#32
  let main_v4 : IVec S16384x2048 32 := broadcastInDim S16384x2048 ![] bcast_S_S16384x2048 main_c_0
  let main_v5 : IVec S16384x2048 32 := Host.divsi main_v0 main_v4
  let main_c_1 : IVec S_ 32 := constantI S_ 32 4#32
  let main_v6 : IVec S16384x2048 32 := broadcastInDim S16384x2048 ![] bcast_S_S16384x2048 main_c_1
  let main_v7 : IVec S16384x2048 32 := Host.remsi main_v5 main_v6
  let main_c_2 : IVec S_ 32 := constantI S_ 32 1024#32
  let main_v8 : IVec S16384x2048 32 := broadcastInDim S16384x2048 ![] bcast_S_S16384x2048 main_c_2
  let main_v9 : IVec S16384x2048 1 := cmpi .slt main_v1 main_v8
  let main_c_3 : IVec S_ 32 := constantI S_ 32 1#32
  let main_v10 : IVec S16384x2048 32 := broadcastInDim S16384x2048 ![] bcast_S_S16384x2048 main_c_3
  let main_v11 : IVec S16384x2048 32 := addi main_v3 main_v10
  let main_c_4 : IVec S_ 32 := constantI S_ 32 3#32
  let main_v12 : IVec S16384x2048 32 := broadcastInDim S16384x2048 ![] bcast_S_S16384x2048 main_c_4
  let main_v13 : IVec S16384x2048 32 := addi main_v3 main_v12
  let main_v14 : IVec S16384x2048 32 := fn_where (F := F) main_v9 main_v11 main_v13
  let main_c_5 : IVec S_ 32 := constantI S_ 32 4#32
  let main_v15 : IVec S16384x2048 32 := broadcastInDim S16384x2048 ![] bcast_S_S16384x2048 main_c_5
  let main_v16 : IVec S16384x2048 32 := Host.remsi main_v14 main_v15
  fn_part1 (F := F) main_v7 main_v16
-- ==== On_gathered.lean ====
abbrev S4096x1024 : Shape := ⟨2, ![4096, 1024]⟩
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)

variable [Facts]

def fn {F : FTy → Type} [FloatOps F] (main_arg0 : FVec F S4096x1024 .f32) (main_arg1 : FVec F S4096x1024 .f32) : IVec S16384x2048 1 :=
  let main_v0 : IVec S16384x2048 32 := iotaInDim S16384x2048 32 0
  let main_c : IVec S_ 32 := constantI S_ 32 4096#32
  let main_v1 : IVec S16384x2048 32 := broadcastInDim S16384x2048 ![] bcast_S_S16384x2048 main_c
  let main_v2 : IVec S16384x2048 32 := Host.divsi main_v0 main_v1
  let main_c_0 : IVec S_ 32 := constantI S_ 32 1024#32
  let main_v3 : IVec S16384x2048 32 := broadcastInDim S16384x2048 ![] bcast_S_S16384x2048 main_c_0
  let main_v4 : IVec S16384x2048 32 := Host.divsi main_v0 main_v3
  let main_c_1 : IVec S_ 32 := constantI S_ 32 4#32
  let main_v5 : IVec S16384x2048 32 := broadcastInDim S16384x2048 ![] bcast_S_S16384x2048 main_c_1
  let main_v6 : IVec S16384x2048 32 := Host.remsi main_v4 main_v5
  let main_c_2 : IVec S_ 32 := constantI S_ 32 2#32
  let main_v7 : IVec S16384x2048 32 := broadcastInDim S16384x2048 ![] bcast_S_S16384x2048 main_c_2
  let main_v8 : IVec S16384x2048 32 := addi main_v2 main_v7
  let main_c_3 : IVec S_ 32 := constantI S_ 32 4#32
  let main_v9 : IVec S16384x2048 32 := broadcastInDim S16384x2048 ![] bcast_S_S16384x2048 main_c_3
  let main_v10 : IVec S16384x2048 32 := Host.remsi main_v8 main_v9
  let main_v11 : IVec S16384x2048 1 := cmpi .ne main_v6 main_v10
  main_v11
-- ==== Pre_bounded_KernelIdeal.lean ====
abbrev S4096x1024 : Shape := ⟨2, ![4096, 1024]⟩
abbrev S1024x2048 : Shape := ⟨2, ![1024, 2048]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x1024_S1024x2048_S4096x2048_1_0_0_1_n_n_wf : DotDims.WF S4096x1024 S1024x2048 S4096x2048 [1] [0] [0] [1] [] []

variable [Facts]

def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def fn {F : FTy → Type} [FloatOps F] (main_arg0 : FVec F S4096x1024 .f32) (main_arg1 : FVec F S1024x2048 .f32) : IVec S4096x2048 1 :=
  let main_v0 : FVec F S4096x2048 .f32 := (fun l r => Host.dotGeneral dot_S4096x1024_S1024x2048_S4096x2048_1_0_0_1_n_n none l r) main_arg0 main_arg1
  let main_v1 : FVec F S4096x2048 .f32 := Host.absf main_v0
  let main_cst : FVec F S_ .f32 := constant S_ .f32 0x41700000#32
  let main_v2 : FVec F S4096x2048 .f32 := broadcastInDim S4096x2048 ![] bcast_S_S4096x2048 main_cst
  let main_v3 : IVec S4096x2048 1 := cmpf .ole main_v1 main_v2
  main_v3
-- ==== Pre_bounded_ReferenceIdeal.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_v1 : FVec F S4096x2048 .f32 := Host.absf main_v0
  let main_cst : FVec F S_ .f32 := constant S_ .f32 0x41700000#32
  let main_v2 : FVec F S4096x2048 .f32 := broadcastInDim S4096x2048 ![] bcast_S_S4096x2048 main_cst
  let main_v3 : IVec S4096x2048 1 := cmpf .ole main_v1 main_v2
  main_v3
-- ==== Kernel.lean ====
abbrev S4096x1024 : Shape := ⟨2, ![4096, 1024]⟩
abbrev S1024x2048 : Shape := ⟨2, ![1024, 2048]⟩
abbrev S4096x2048 : Shape := ⟨2, ![4096, 2048]⟩
abbrev S2x1024x1024 : Shape := ⟨3, ![2, 1024, 1024]⟩
abbrev S2x2x1024x1024 : Shape := ⟨4, ![2, 2, 1024, 1024]⟩
abbrev S2 : Shape := ⟨1, ![2]⟩
abbrev S2x6 : Shape := ⟨2, ![2, 6]⟩
abbrev S1024x1024 : Shape := ⟨2, ![1024, 1024]⟩
abbrev S1x1024x1024 : Shape := ⟨3, ![1, 1024, 1024]⟩
abbrev S_ : Shape := ⟨0, ![]⟩
abbrev S1x1 : Shape := ⟨2, ![1, 1]⟩
abbrev S1x1x1024x1024 : Shape := ⟨4, ![1, 1, 1024, 1024]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .local _ .vmem, ⟨0, _⟩ => ⟨S4096x1024, .f32⟩
  | .local _ .vmem, ⟨1, _⟩ => ⟨S1024x2048, .f32⟩
  | .local _ .vmem, ⟨2, _⟩ => ⟨S2x1024x1024, .f32⟩
  | .local _ .vmem, ⟨3, _⟩ => ⟨S2x1024x1024, .f32⟩
  | .local _ .vmem, ⟨4, _⟩ => ⟨S2x2x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 2 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v25 : BitVec 32 := Scalar.muli v2 c1024_i32
  let v26 : Index := Scalar.indexCast v25
  let c0 : Index := 0#32
  ![v26.toNat, 0]
def k0_dev1 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25 : BitVec 32 := 1#32
  let v46 : BitVec 32 := Scalar.muli v13 c1_i32_25
  let v47 : BitVec 32 := Scalar.addi c0_i32_26 v46
  v47.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28 : BitVec 32 := 1#32
  let v48 : BitVec 32 := Scalar.muli v24 c1_i32_28
  let v49 : BitVec 32 := Scalar.addi c0_i32_29 v48
  v49.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_37 : BitVec 32 := 1#32
  let v50 : BitVec 32 := Scalar.muli v24 c1_i32_37
  let v51 : BitVec 32 := Scalar.addi c0_i32_38 v50
  v51.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_50 : BitVec 32 := 1#32
  let v60 : BitVec 32 := Scalar.muli v13 c1_i32_50
  let v61 : BitVec 32 := Scalar.addi c0_i32_51 v60
  v61.toNat
def k0_off2 (d0 : Dev nD) (c0_i32_56 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v70 : BitVec 32 := Scalar.subi v2 c0_i32_56
  let c1_i32_57 : BitVec 32 := 1#32
  let v71 : BitVec 32 := Scalar.subi v70 c1_i32_57
  let c4_i32_58 : BitVec 32 := 4#32
  let c0_i32_59 : BitVec 32 := 0#32
  let v72 : BitVec 1 := Scalar.cmpi .eq c4_i32_58 c0_i32_59
  let c1_i32_60 : BitVec 32 := 1#32
  let v73 : BitVec 32 := Scalar.select v72 c1_i32_60 c4_i32_58
  let v74 : BitVec 32 := Scalar.remsi v71 v73
  let c0_i32_62 : BitVec 32 := 0#32
  let v76 : BitVec 1 := Scalar.cmpi .slt v74 c0_i32_62
  let c0_i32_63 : BitVec 32 := 0#32
  let v77 : BitVec 1 := Scalar.cmpi .slt v73 c0_i32_63
  let v78 : BitVec 1 := Scalar.xori v76 v77
  let c0_i32_61 : BitVec 32 := 0#32
  let v75 : BitVec 1 := Scalar.cmpi .ne v74 c0_i32_61
  let v79 : BitVec 1 := Scalar.andi v78 v75
  let v80 : BitVec 32 := Scalar.addi v74 v73
  let v81 : BitVec 32 := Scalar.select v79 v80 v74
  let c1024_i32_64 : BitVec 32 := 1024#32
  let v82 : BitVec 32 := Scalar.muli v81 c1024_i32_64
  let v83 : Index := Scalar.indexCast v82
  let c0_65 : Index := 0#32
  ![v83.toNat, 0]
def k0_off3 (d0 : Dev nD) (c0_i32_72 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v92 : BitVec 32 := Scalar.addi v2 c0_i32_72
  let c1_i32_73 : BitVec 32 := 1#32
  let v93 : BitVec 32 := Scalar.addi v92 c1_i32_73
  let c4_i32_74 : BitVec 32 := 4#32
  let c0_i32_75 : BitVec 32 := 0#32
  let v94 : BitVec 1 := Scalar.cmpi .eq c4_i32_74 c0_i32_75
  let c1_i32_76 : BitVec 32 := 1#32
  let v95 : BitVec 32 := Scalar.select v94 c1_i32_76 c4_i32_74
  let v96 : BitVec 32 := Scalar.remsi v93 v95
  let c0_i32_78 : BitVec 32 := 0#32
  let v98 : BitVec 1 := Scalar.cmpi .slt v96 c0_i32_78
  let c0_i32_79 : BitVec 32 := 0#32
  let v99 : BitVec 1 := Scalar.cmpi .slt v95 c0_i32_79
  let v100 : BitVec 1 := Scalar.xori v98 v99
  let c0_i32_77 : BitVec 32 := 0#32
  let v97 : BitVec 1 := Scalar.cmpi .ne v96 c0_i32_77
  let v101 : BitVec 1 := Scalar.andi v100 v97
  let v102 : BitVec 32 := Scalar.addi v96 v95
  let v103 : BitVec 32 := Scalar.select v101 v102 v96
  let c1024_i32_80 : BitVec 32 := 1024#32
  let v104 : BitVec 32 := Scalar.muli v103 c1024_i32_80
  let v105 : Index := Scalar.indexCast v104
  let c0_81 : Index := 0#32
  ![v105.toNat, 0]
def k0_dev5 (d0 : Dev nD) : Nat :=
  let c0_i32_166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_165 : BitVec 32 := 1#32
  let v158 : BitVec 32 := Scalar.muli v24 c1_i32_165
  let v159 : BitVec 32 := Scalar.addi c0_i32_166 v158
  v159.toNat
def k0_dev6 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_178 : BitVec 32 := 1#32
  let v168 : BitVec 32 := Scalar.muli v13 c1_i32_178
  let v169 : BitVec 32 := Scalar.addi c0_i32_179 v168
  v169.toNat
def k0_dev7 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_293 : BitVec 32 := 1#32
  let v266 : BitVec 32 := Scalar.muli v24 c1_i32_293
  let v267 : BitVec 32 := Scalar.addi c0_i32_294 v266
  v267.toNat
def k0_dev8 (d0 : Dev nD) : Nat :=
  let c0_i32_307 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_306 : BitVec 32 := 1#32
  let v276 : BitVec 32 := Scalar.muli v13 c1_i32_306
  let v277 : BitVec 32 := Scalar.addi c0_i32_307 v276
  v277.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_423 : BitVec 32 := 1#32
  let v387 : BitVec 32 := Scalar.addi v2 c1_i32_423
  let c4_i32_424 : BitVec 32 := 4#32
  let c0_i32_425 : BitVec 32 := 0#32
  let v388 : BitVec 1 := Scalar.cmpi .eq c4_i32_424 c0_i32_425
  let c1_i32_426 : BitVec 32 := 1#32
  let v389 : BitVec 32 := Scalar.select v388 c1_i32_426 c4_i32_424
  let v390 : BitVec 32 := Scalar.remsi v387 v389
  let c0_i32_428 : BitVec 32 := 0#32
  let v392 : BitVec 1 := Scalar.cmpi .slt v390 c0_i32_428
  let c0_i32_429 : BitVec 32 := 0#32
  let v393 : BitVec 1 := Scalar.cmpi .slt v389 c0_i32_429
  let v394 : BitVec 1 := Scalar.xori v392 v393
  let c0_i32_427 : BitVec 32 := 0#32
  let v391 : BitVec 1 := Scalar.cmpi .ne v390 c0_i32_427
  let v395 : BitVec 1 := Scalar.andi v394 v391
  let v396 : BitVec 32 := Scalar.addi v390 v389
  let v397 : BitVec 32 := Scalar.select v395 v396 v390
  let c1024_i32_430 : BitVec 32 := 1024#32
  let v398 : BitVec 32 := Scalar.muli v397 c1024_i32_430
  let c0_i32_433 : BitVec 32 := 0#32
  ![v398.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_445 : BitVec 32 := 1#32
  let v417 : BitVec 32 := Scalar.subi v2 c1_i32_445
  let c4_i32_446 : BitVec 32 := 4#32
  let c0_i32_447 : BitVec 32 := 0#32
  let v418 : BitVec 1 := Scalar.cmpi .eq c4_i32_446 c0_i32_447
  let c1_i32_448 : BitVec 32 := 1#32
  let v419 : BitVec 32 := Scalar.select v418 c1_i32_448 c4_i32_446
  let v420 : BitVec 32 := Scalar.remsi v417 v419
  let c0_i32_450 : BitVec 32 := 0#32
  let v422 : BitVec 1 := Scalar.cmpi .slt v420 c0_i32_450
  let c0_i32_451 : BitVec 32 := 0#32
  let v423 : BitVec 1 := Scalar.cmpi .slt v419 c0_i32_451
  let v424 : BitVec 1 := Scalar.xori v422 v423
  let c0_i32_449 : BitVec 32 := 0#32
  let v421 : BitVec 1 := Scalar.cmpi .ne v420 c0_i32_449
  let v425 : BitVec 1 := Scalar.andi v424 v421
  let v426 : BitVec 32 := Scalar.addi v420 v419
  let v427 : BitVec 32 := Scalar.select v425 v426 v420
  let c1024_i32_452 : BitVec 32 := 1024#32
  let v428 : BitVec 32 := Scalar.muli v427 c1024_i32_452
  let c1024_i32_455 : BitVec 32 := 1024#32
  ![v428.toNat, 1024]
def k0_dev9 (d0 : Dev nD) : Nat :=
  let c0_i32_470_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_469_r0 : BitVec 32 := 1#32
  let v445_r0 : BitVec 32 := Scalar.muli v13 c1_i32_469_r0
  let v446_r0 : BitVec 32 := Scalar.addi c0_i32_470_r0 v445_r0
  v446_r0.toNat
def k0_dev10 (d0 : Dev nD) : Nat :=
  let c0_i32_473_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_472_r0 : BitVec 32 := 1#32
  let v447_r0 : BitVec 32 := Scalar.muli v24 c1_i32_472_r0
  let v448_r0 : BitVec 32 := Scalar.addi c0_i32_473_r0 v447_r0
  v448_r0.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S16384x2048 : Shape := ⟨2, ![16384, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S16384x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Gather.lean ====
abbrev S1024x1024 : Shape := ⟨2, ![1024, 1024]⟩
abbrev S4096x2048 : Shape := ⟨2, ![4096, 2048]⟩
abbrev S2x1024x1024 : Shape := ⟨3, ![2, 1024, 1024]⟩
abbrev S2x2x1024x1024 : Shape := ⟨4, ![2, 2, 1024, 1024]⟩
abbrev S2 : Shape := ⟨1, ![2]⟩
abbrev S2x6 : Shape := ⟨2, ![2, 6]⟩
abbrev S1x1024x1024 : Shape := ⟨3, ![1, 1024, 1024]⟩
abbrev S_ : Shape := ⟨0, ![]⟩
abbrev S1 : Shape := ⟨1, ![1]⟩
abbrev S1x1 : Shape := ⟨2, ![1, 1]⟩
abbrev S1x1x1024x1024 : Shape := ⟨4, ![1, 1, 1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S2x1024x1024, .f32⟩
  | .local _ .vmem, ⟨3, _⟩ => ⟨S2x2x1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 2 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22 : BitVec 32 := 1#32
  let v36 : BitVec 32 := Scalar.muli v13 c1_i32_22
  let v37 : BitVec 32 := Scalar.addi c0_i32_23 v36
  v37.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25 : BitVec 32 := 1#32
  let v38 : BitVec 32 := Scalar.muli v24 c1_i32_25
  let v39 : BitVec 32 := Scalar.addi c0_i32_26 v38
  v39.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v40 : BitVec 32 := Scalar.addi v2 c1_i32_27
  let c4_i32_28 : BitVec 32 := 4#32
  let c0_i32_29 : BitVec 32 := 0#32
  let v41 : BitVec 1 := Scalar.cmpi .eq c4_i32_28 c0_i32_29
  let c1_i32_30 : BitVec 32 := 1#32
  let v42 : BitVec 32 := Scalar.select v41 c1_i32_30 c4_i32_28
  let v43 : BitVec 32 := Scalar.remsi v40 v42
  let c0_i32_32 : BitVec 32 := 0#32
  let v45 : BitVec 1 := Scalar.cmpi .slt v43 c0_i32_32
  let c0_i32_33 : BitVec 32 := 0#32
  let v46 : BitVec 1 := Scalar.cmpi .slt v42 c0_i32_33
  let v47 : BitVec 1 := Scalar.xori v45 v46
  let c0_i32_31 : BitVec 32 := 0#32
  let v44 : BitVec 1 := Scalar.cmpi .ne v43 c0_i32_31
  let v48 : BitVec 1 := Scalar.andi v47 v44
  let v49 : BitVec 32 := Scalar.addi v43 v42
  let v50 : BitVec 32 := Scalar.select v48 v49 v43
  let c1024_i32 : BitVec 32 := 1024#32
  let v51 : BitVec 32 := Scalar.muli v50 c1024_i32
  let c0_i32_36 : BitVec 32 := 0#32
  ![v51.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_39 : BitVec 32 := 1#32
  let v57 : BitVec 32 := Scalar.subi v2 c1_i32_39
  let c4_i32_40 : BitVec 32 := 4#32
  let c0_i32_41 : BitVec 32 := 0#32
  let v58 : BitVec 1 := Scalar.cmpi .eq c4_i32_40 c0_i32_41
  let c1_i32_42 : BitVec 32 := 1#32
  let v59 : BitVec 32 := Scalar.select v58 c1_i32_42 c4_i32_40
  let v60 : BitVec 32 := Scalar.remsi v57 v59
  let c0_i32_44 : BitVec 32 := 0#32
  let v62 : BitVec 1 := Scalar.cmpi .slt v60 c0_i32_44
  let c0_i32_45 : BitVec 32 := 0#32
  let v63 : BitVec 1 := Scalar.cmpi .slt v59 c0_i32_45
  let v64 : BitVec 1 := Scalar.xori v62 v63
  let c0_i32_43 : BitVec 32 := 0#32
  let v61 : BitVec 1 := Scalar.cmpi .ne v60 c0_i32_43
  let v65 : BitVec 1 := Scalar.andi v64 v61
  let v66 : BitVec 32 := Scalar.addi v60 v59
  let v67 : BitVec 32 := Scalar.select v65 v66 v60
  let c1024_i32_46 : BitVec 32 := 1024#32
  let v68 : BitVec 32 := Scalar.muli v67 c1024_i32_46
  let c1024_i32_49 : BitVec 32 := 1024#32
  ![v68.toNat, 1024]
def k0_dev3 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_58 : BitVec 32 := 1#32
  let v74 : BitVec 32 := Scalar.muli v24 c1_i32_58
  let v75 : BitVec 32 := Scalar.addi c0_i32_59 v74
  v75.toNat
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_71 : BitVec 32 := 1#32
  let v84 : BitVec 32 := Scalar.muli v13 c1_i32_71
  let v85 : BitVec 32 := Scalar.addi c0_i32_72 v84
  v85.toNat
def k0_off3 (d0 : Dev nD) (c0_i32_112 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v118 : BitVec 32 := Scalar.subi v2 c0_i32_112
  let c4_i32_113 : BitVec 32 := 4#32
  let c0_i32_114 : BitVec 32 := 0#32
  let v119 : BitVec 1 := Scalar.cmpi .eq c4_i32_113 c0_i32_114
  let c1_i32_115 : BitVec 32 := 1#32
  let v120 : BitVec 32 := Scalar.select v119 c1_i32_115 c4_i32_113
  let v121 : BitVec 32 := Scalar.remsi v118 v120
  let c0_i32_117 : BitVec 32 := 0#32
  let v123 : BitVec 1 := Scalar.cmpi .slt v121 c0_i32_117
  let c0_i32_118 : BitVec 32 := 0#32
  let v124 : BitVec 1 := Scalar.cmpi .slt v120 c0_i32_118
  let v125 : BitVec 1 := Scalar.xori v123 v124
  let c0_i32_116 : BitVec 32 := 0#32
  let v122 : BitVec 1 := Scalar.cmpi .ne v121 c0_i32_116
  let v126 : BitVec 1 := Scalar.andi v125 v122
  let v127 : BitVec 32 := Scalar.addi v121 v120
  let v128 : BitVec 32 := Scalar.select v126 v127 v121
  let c1024_i32_119 : BitVec 32 := 1024#32
  let v129 : BitVec 32 := Scalar.muli v128 c1024_i32_119
  let c0_i32_123 : BitVec 32 := 0#32
  ![v129.toNat, 0]
def k0_off4 (d0 : Dev nD) (c0_i32_151 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v149 : BitVec 32 := Scalar.addi v2 c0_i32_151
  let c4_i32_152 : BitVec 32 := 4#32
  let c0_i32_153 : BitVec 32 := 0#32
  let v150 : BitVec 1 := Scalar.cmpi .eq c4_i32_152 c0_i32_153
  let c1_i32_154 : BitVec 32 := 1#32
  let v151 : BitVec 32 := Scalar.select v150 c1_i32_154 c4_i32_152
  let v152 : BitVec 32 := Scalar.remsi v149 v151
  let c0_i32_156 : BitVec 32 := 0#32
  let v154 : BitVec 1 := Scalar.cmpi .slt v152 c0_i32_156
  let c0_i32_157 : BitVec 32 := 0#32
  let v155 : BitVec 1 := Scalar.cmpi .slt v151 c0_i32_157
  let v156 : BitVec 1 := Scalar.xori v154 v155
  let c0_i32_155 : BitVec 32 := 0#32
  let v153 : BitVec 1 := Scalar.cmpi .ne v152 c0_i32_155
  let v157 : BitVec 1 := Scalar.andi v156 v153
  let v158 : BitVec 32 := Scalar.addi v152 v151
  let v159 : BitVec 32 := Scalar.select v157 v158 v152
  let c1024_i32_158 : BitVec 32 := 1024#32
  let v160 : BitVec 32 := Scalar.muli v159 c1024_i32_158
  let c1024_i32_162 : BitVec 32 := 1024#32
  ![v160.toNat, 1024]
def k0_dev5 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_173 : BitVec 32 := 1#32
  let v166 : BitVec 32 := Scalar.muli v24 c1_i32_173
  let v167 : BitVec 32 := Scalar.addi c0_i32_174 v166
  v167.toNat
def k0_dev6 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_187 : BitVec 32 := 1#32
  let v176 : BitVec 32 := Scalar.muli v13 c1_i32_187
  let v177 : BitVec 32 := Scalar.addi c0_i32_188 v176
  v177.toNat
def k0_dev7 (d0 : Dev nD) : Nat :=
  let c0_i32_301_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_300_r0 : BitVec 32 := 1#32
  let v269_r0 : BitVec 32 := Scalar.muli v13 c1_i32_300_r0
  let v270_r0 : BitVec 32 := Scalar.addi c0_i32_301_r0 v269_r0
  v270_r0.toNat
def k0_dev8 (d0 : Dev nD) : Nat :=
  let c0_i32_304_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_303_r0 : BitVec 32 := 1#32
  let v271_r0 : BitVec 32 := Scalar.muli v24 c1_i32_303_r0
  let v272_r0 : BitVec 32 := Scalar.addi c0_i32_304_r0 v271_r0
  v272_r0.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Whole.lean ====
abbrev S4096x1024 : Shape := ⟨2, ![4096, 1024]⟩
abbrev S1024x1024 : Shape := ⟨2, ![1024, 1024]⟩
abbrev S3072x1024 : Shape := ⟨2, ![3072, 1024]⟩
abbrev S4096x2048 : Shape := ⟨2, ![4096, 2048]⟩
abbrev S8192x2048 : Shape := ⟨2, ![8192, 2048]⟩
abbrev S16384x2048 : Shape := ⟨2, ![16384, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S3072x1024, .f32⟩
  | .hbm, ⟨4, _⟩ => ⟨S4096x1024, .f32⟩
  | .hbm, ⟨5, _⟩ => ⟨S3072x1024, .f32⟩
  | .hbm, ⟨6, _⟩ => ⟨S1024x1024, .f32⟩
  | .hbm, ⟨7, _⟩ => ⟨S4096x1024, .f32⟩
  | .hbm, ⟨8, _⟩ => ⟨S4096x2048, .f32⟩
  | .hbm, ⟨9, _⟩ => ⟨S8192x2048, .f32⟩
  | .hbm, ⟨10, _⟩ => ⟨S16384x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev main_call1_v0 : Ref sig .tc := ⟨.hbm, 5, rfl⟩
abbrev main_call1_v1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Proof.Pieces.lean ====
/-
# The pieces of the buffers, and how a load or a store meets them

The kernel works on 1024 x 1024 pieces: of the accumulator and of the local product one piece per direction, of the
landing buffer one per direction and slot, of the result one per direction. Each is a slice of a whole buffer with its
unit axes dropped. Here are those pieces, the devices around the ring, the closed forms of the kernel's offsets and
addressees, and the two rules by which a load or a store through the whole buffer at a piece's rectangle acts on the
piece held by itself.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the ring's (duties `Bool`) -/

abbrev UB : Type := URounds (GSem nD τ sig) Bool
abbrev UU : Type := UR sig nD τ × UB
abbrev MM (F : FTy → Type) : Type := MT nD τ sig Unit (Elt F) ℕ UU ℕ

abbrev EP : Emb (UR sig nD τ) (MM F) := embL
abbrev ER : Emb UB (MM F) := embR

abbrev 𝒱₀ : Variants := Variants.none

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

/-- Whom device `c` sends to in direction `d`: the next device (`false`) or the one before (`true`); -/
def dst (d : Bool) (c : Dev nD) : Dev nD := match d with | false => nxt c | true => prv c
/-- and whom it receives from. -/
def src (d : Bool) (c : Dev nD) : Dev nD := match d with | false => prv c | true => nxt c

theorem dst_src (d : Bool) (c : Dev nD) : dst d (src d c) = c := by revert d c; decide
theorem src_dst (d : Bool) (c : Dev nD) : src d (dst d c) = c := by revert d c; decide

/-- Direction `d` as a permutation of the devices. -/
def ring (d : Bool) : Dev nD ≃ Dev nD := ⟨dst d, src d, src_dst d, dst_src d⟩

/-! ## The kernel's addressees and offsets in closed form -/

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = prv c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = prv c := by revert c; decide +kernel
theorem dev9_eq (c : Dev nD) : (⟨k0_dev9 c, k0_dev9_lt c⟩ : Dev nD) = prv c := by revert c; decide +kernel
theorem dev10_eq (c : Dev nD) : (⟨k0_dev10 c, k0_dev10_lt c⟩ : Dev nD) = nxt c := by revert c; decide +kernel

theorem off1_eq (c : Dev nD) : k0_off1 c = ![1024 * c.val, 0] := by revert c; decide +kernel
theorem off2_0 (c : Dev nD) : k0_off2 c 0#32 = ![1024 * (src false c).val, 0] := by revert c; decide +kernel
theorem off2_1 (c : Dev nD) : k0_off2 c 1#32 = ![1024 * (src false (src false c)).val, 0] := by revert c; decide +kernel
theorem off2_2 (c : Dev nD) : k0_off2 c 2#32 = ![1024 * (src false (src false (src false c))).val, 0] := by revert c; decide +kernel
theorem off3_0 (c : Dev nD) : k0_off3 c 0#32 = ![1024 * (src true c).val, 0] := by revert c; decide +kernel
theorem off3_1 (c : Dev nD) : k0_off3 c 1#32 = ![1024 * (src true (src true c)).val, 0] := by revert c; decide +kernel
theorem off3_2 (c : Dev nD) : k0_off3 c 2#32 = ![1024 * (src true (src true (src true c))).val, 0] := by revert c; decide +kernel
theorem off4_eq (c : Dev nD) : k0_off4 c = ![1024 * (dst false c).val, 0] := by revert c; decide +kernel
theorem off5_eq (c : Dev nD) : k0_off5 c = ![1024 * (dst true c).val, 1024] := by revert c; decide +kernel

/-! ## The pieces -/

abbrev accR : Memref sig .tc .vmem S2x1024x1024 .f32 := Memref.whole cc0_scratch0
abbrev locR : Memref sig .tc .vmem S2x1024x1024 .f32 := Memref.whole cc0_scratch1
abbrev comR : Memref sig .tc .vmem S2x2x1024x1024 .f32 := Memref.whole cc0_scratch2
abbrev outR : Memref sig .tc .hbm S4096x2048 .f32 := Memref.whole main_v1

abbrev offA : Bool → Fin 3 → ℕ | false => ![0, 0, 0] | true => ![1, 0, 0]
abbrev offC : Bool → Bool → Fin 4 → ℕ
  | false, false => ![0, 0, 0, 0] | false, true => ![0, 1, 0, 0] | true, false => ![1, 0, 0, 0] | true, true => ![1, 1, 0, 0]
abbrev offO (d : Bool) (c : Dev nD) : Fin 2 → ℕ := match d with
  | false => ![1024 * (dst false c).val, 0] | true => ![1024 * (dst true c).val, 1024]

theorem inbA (d : Bool) : ∀ a, offA d a + S1x1024x1024.size a ≤ S2x1024x1024.size a := by revert d; decide
theorem inbC (d k : Bool) : ∀ a, offC d k a + S1x1x1024x1024.size a ≤ S2x2x1024x1024.size a := by revert d k; decide
theorem inbO (d : Bool) (c : Dev nD) : ∀ a, offO d c a + S1024x1024.size a ≤ S4096x2048.size a := by revert d c; decide

abbrev rectA (d : Bool) : Rect S2x1024x1024 := Rect.unit (s := S2x1024x1024) (offA d) S1x1024x1024.size (inbA d)
abbrev rectC (d k : Bool) : Rect S2x2x1024x1024 := Rect.unit (s := S2x2x1024x1024) (offC d k) S1x1x1024x1024.size (inbC d k)
abbrev rectO (d : Bool) (c : Dev nD) : Rect S4096x2048 := Rect.unit (s := S4096x2048) (offO d c) S1024x1024.size (inbO d c)

/-- Direction `d`'s piece of the accumulator, -/
abbrev accM (d : Bool) : Memref sig .tc .vmem S1024x1024 .f32 :=
  (accR.slice (rectA d) (fun _ => rfl)).squeeze S1024x1024 squeezes_S1x1024x1024_S1024x1024
/-- of the local product, -/
abbrev locM (d : Bool) : Memref sig .tc .vmem S1024x1024 .f32 :=
  (locR.slice (rectA d) (fun _ => rfl)).squeeze S1024x1024 squeezes_S1x1024x1024_S1024x1024
/-- of the landing buffer, slot `k`, -/
abbrev comM (d k : Bool) : Memref sig .tc .vmem S1024x1024 .f32 :=
  (comR.slice (rectC d k) (fun _ => rfl)).squeeze S1024x1024 squeezes_S1x1x1024x1024_S1024x1024
/-- and, at device `c`, of the result. -/
abbrev outM (d : Bool) (c : Dev nD) : Memref sig .tc .hbm S1024x1024 .f32 := outR.slice (rectO d c) (fun _ => rfl)

/-- A 1024 x 1024 piece's contents. -/
abbrev Mat (F : FTy → Type) : Type := S1024x1024.Idx → Elt F .f32

/-- What one transfer of a piece credits its semaphores. -/
def N : ℕ := (comM false false).view.dmaCredit
theorem N_pos : 0 < N := View.dmaCredit_pos _ (by decide)
theorem credit_com (d k : Bool) : (comM d k).view.dmaCredit = N := by revert d k; decide +kernel
theorem credit_acc (d : Bool) : (accM d).view.dmaCredit = N := by revert d; decide +kernel
theorem credit_out (d : Bool) (c : Dev nD) : (outM d c).view.dmaCredit = N := by revert d c; decide +kernel

attribute [irreducible] N

/-- A piece held whole by device `c` at contents `X`. -/
abbrev has (c : Dev nD) {sp : Space} {s : Shape} {e : EltTy} (p : Memref sig .tc sp s e) (X : s.Idx → Elt F e) : sProp (MM F) :=
  owns (Ix := Unit) (Name := ℕ) (U := UU) (Lvl := ℕ) (c : Thread nD τ) p fullShare X

/-! ## Loads and stores at a piece's rectangle -/

section Access

variable (c : Dev nD) {α : Type} {Q : α → sProp (MM F)}

/-- A load through the whole memref at a piece's rectangle reads the piece, at the rectangle's shape. -/
theorem wp_load_piece {cs : CoreSpace} {s s' : Shape} {e : EltTy} (m : Memref sig .tc cs s e) {off size : Fin s.rank → ℕ}
    (inb : ∀ a, off a + size a ≤ s.size a) (hq : (Rect.unit off size inb).shape.Squeezes s')
    (hc : s'.ShapeCasts (Rect.unit off size inb).shape) {hl : m.view.LoadsAt (Rect.unit off size inb).toLoadRect}
    {k : ((Rect.unit off size inb).shape.Idx → Elt F e) → Prog (TpuEff nD τ sig (Elt F) Λ₀ .tc) α} (X : s'.Idx → Elt F e) :
    has c ((m.slice (Rect.unit off size inb) (fun _ => rfl)).squeeze s' hq) X
      ⊢ iprop((has c ((m.slice (Rect.unit off size inb) (fun _ => rfl)).squeeze s' hq) X
            -∗ wp frame (wpE (defs₀ (F := F)) 𝒱₀ (c : Thread nD τ) none) Set.univ (k (shapeCast _ X hc)) Q)
          -∗ wp frame (wpE (defs₀ (F := F)) 𝒱₀ (c : Thread nD τ) none) Set.univ (.op (.load m (Rect.unit off size inb).toLoadRect hl) k) Q) := by
  unfold has owns
  iintro ⟨%f, %hf, H⟩ Hk
  iapply (wp_load_rect 𝒱₀ (c : Thread nD τ) none Set.univ (m := m) (r := Rect.unit off size inb)
    (S := ((m.slice (Rect.unit off size inb) (fun _ => rfl)).squeeze s' hq).view.set) (f := f)
    (View.set_reshape (m.view.slice (Rect.unit off size inb)) hq.numel_eq).symm.subset) $$ H
  iintro H
  subst hf
  rw [show shapeCast (Rect.unit off size inb).shape (((m.slice (Rect.unit off size inb) (fun _ => rfl)).squeeze s' hq).view.read (Elt F) f) hc
      = (m.access (Rect.unit off size inb)).read (Elt F) f from by
    funext j
    show (m.view.slice (Rect.unit off size inb)).read (Elt F) f (Shape.reshapeEquiv _ (Shape.reshapeEquiv _ j)) = _
    rw [Shape.reshapeEquiv_reshapeEquiv, Shape.reshapeEquiv_self]]
  iapply Hk
  iexists f
  isplitr
  · ipureintro; rfl
  · iexact H

/-- A store of a whole piece through the whole memref at the piece's rectangle leaves the piece at what is stored. -/
theorem wp_store_piece {cs : CoreSpace} {s s' : Shape} {e : EltTy} (m : Memref sig .tc cs s e) {off size : Fin s.rank → ℕ}
    (inb : ∀ a, off a + size a ≤ s.size a) (hq : (Rect.unit off size inb).shape.Squeezes s')
    (hc : (Rect.unit off size inb).shape.ShapeCasts s') {w : (Rect.unit off size inb).shape.Idx → Elt F e}
    {hx : (m.access (Rect.unit off size inb)).Stores Finset.univ} {hm : (Finset.univ : Finset (Rect.unit off size inb).shape.Idx) = Finset.univ ∨ ∀ a, (Rect.unit off size inb).stride a = 1}
    {k : PUnit → Prog (TpuEff nD τ sig (Elt F) Λ₀ .tc) α} (X : s'.Idx → Elt F e) :
    has c ((m.slice (Rect.unit off size inb) (fun _ => rfl)).squeeze s' hq) X
      ⊢ iprop((has c ((m.slice (Rect.unit off size inb) (fun _ => rfl)).squeeze s' hq) (shapeCast s' w hc)
            -∗ wp frame (wpE (defs₀ (F := F)) 𝒱₀ (c : Thread nD τ) none) Set.univ (k ⟨⟩) Q)
          -∗ wp frame (wpE (defs₀ (F := F)) 𝒱₀ (c : Thread nD τ) none) Set.univ (.op (.store m (Rect.unit off size inb) w Finset.univ hx hm) k) Q) := by
  unfold has owns
  iintro ⟨%f, %hf, H⟩ Hk
  iapply (wp_store 𝒱₀ (c : Thread nD τ) none Set.univ (m := m) (r := Rect.unit off size inb) (Mk := Finset.univ)
    (S := ((m.slice (Rect.unit off size inb) (fun _ => rfl)).squeeze s' hq).view.set) (f := f)
    (View.set_reshape (m.view.slice (Rect.unit off size inb)) hq.numel_eq).symm.subset) $$ H
  iintro H
  iapply Hk
  iexists _
  isplitr
  rotate_left
  · iexact H
  · ipureintro
    funext j
    show (m.view.slice (Rect.unit off size inb)).read (Elt F) ((m.view.slice (Rect.unit off size inb)).write (Elt F) f w Finset.univ) (Shape.reshapeEquiv _ j) = _
    rw [View.read_write_univ]
    rfl

/-- A load at a rectangle of a buffer held whole. -/
theorem wp_load_rect_whole {cs : CoreSpace} {s : Shape} {e : EltTy} (m : Memref sig .tc cs s e) {off size : Fin s.rank → ℕ}
    (inb : ∀ a, off a + size a ≤ s.size a) {hl : m.view.LoadsAt (Rect.unit off size inb).toLoadRect}
    {k : ((Rect.unit off size inb).shape.Idx → Elt F e) → Prog (TpuEff nD τ sig (Elt F) Λ₀ .tc) α}
    (off' : Fin s.rank → ℕ) (inb' : ∀ a, off' a + size a ≤ s.size a) (ho : off = off') (X : s.Idx → Elt F e) :
    has c m X
      ⊢ iprop((has c m X -∗ wp frame (wpE (defs₀ (F := F)) 𝒱₀ (c : Thread nD τ) none) Set.univ
            (k (fun j => X ((Rect.unit off' size inb').emb j))) Q)
          -∗ wp frame (wpE (defs₀ (F := F)) 𝒱₀ (c : Thread nD τ) none) Set.univ (.op (.load m (Rect.unit off size inb).toLoadRect hl) k) Q) := by
  subst ho
  unfold has owns
  iintro ⟨%f, %hf, H⟩ Hk
  iapply (wp_load 𝒱₀ (c : Thread nD τ) none Set.univ (m := m) (f := f) (View.setOn_subset_set _ _)) $$ H
  iintro H
  subst hf
  iapply Hk
  iexists f
  isplitr
  · ipureintro; rfl
  · iexact H

end Access

/-! ## A whole buffer as its pieces -/

section Split

variable {b : Ref sig .tc} {T : Type} [Fintype T] [DecidableEq T] [Inhabited T]
  {sz : Fin b.ty.shape.rank → ℕ} (off : T → Fin b.ty.shape.rank → ℕ) (inb : ∀ t a, off t a + sz a ≤ b.ty.shape.size a)
  {s' : Shape} (hq : ∀ t, (Rect.unit (off t) sz (inb t)).shape.Squeezes s')
  (hd : ∀ t t', t ≠ t' → Disjoint (Rect.unit (off t) sz (inb t)).set (Rect.unit (off t') sz (inb t')).set)
  (hcov : ∀ i : b.ty.shape.Idx, ∃ t, i ∈ (Rect.unit (off t) sz (inb t)).set)

/-- The piece of a whole buffer at one rectangle, its unit axes dropped. -/
abbrev pieceOf (t : T) : Memref sig .tc b.space s' b.ty.elt :=
  ((Memref.whole b).slice (Rect.unit (off t) sz (inb t)) (fun _ => rfl)).squeeze s' (hq t)

theorem pieceOf_set (t : T) : (pieceOf off inb hq t).view.set = (Rect.unit (off t) sz (inb t)).set :=
  (View.set_reshape ((View.whole b).slice (Rect.unit (off t) sz (inb t))) (hq t).numel_eq).trans (View.set_slice_whole b _)

theorem piece_intro (c : Dev nD) (t : T) (f : Buf (Elt F) ((c : Thread nD τ).loc b)) :
    (((c : Thread nD τ).loc b) ↦[(pieceOf off inb hq t).view.set]{fullShare} f : sProp (MM F)) ⊢ iprop(∃ X, has c (pieceOf off inb hq t) X) := by
  iintro H
  iexists _
  iapply (owns_intro (c : Thread nD τ) (pieceOf off inb hq t) fullShare f)
  iexact H

theorem piece_elim (c : Dev nD) (t : T) :
    (iprop(∃ X, has c (pieceOf off inb hq t) X) : sProp (MM F))
      ⊢ iprop(∃ f : Buf (Elt F) ((c : Thread nD τ).loc b), ((c : Thread nD τ).loc b) ↦[(pieceOf off inb hq t).view.set]{fullShare} f) := by
  unfold has owns
  iintro ⟨%X, %f, -, H⟩
  iexists f
  iexact H

include hd hcov in
/-- A buffer held whole at some contents is its pieces, each held at some contents. -/
theorem split_pieces (c : Dev nD) :
    (iprop(∃ f : Buf (Elt F) ((c : Thread nD τ).loc b), ((c : Thread nD τ).loc b) ↦{fullShare} f) : sProp (MM F))
      ⊢ bigSep Finset.univ fun t => iprop(∃ X, has c (pieceOf off inb hq t) X) := by
  have hu : (Finset.univ : Finset (Idx ((c : Thread nD τ).loc b))) = (Finset.univ : Finset T).biUnion fun t => (pieceOf off inb hq t).view.set := by
    ext i
    simp only [Finset.mem_univ, Finset.mem_biUnion, true_and, true_iff]
    obtain ⟨t, ht⟩ := hcov i
    exact ⟨t, (pieceOf_set off inb hq t).symm ▸ ht⟩
  have hb (f : Buf (Elt F) ((c : Thread nD τ).loc b)) : (((c : Thread nD τ).loc b) ↦{fullShare} f : sProp (MM F))
      = bigSep Finset.univ fun t => ((c : Thread nD τ).loc b) ↦[(pieceOf off inb hq t).view.set]{fullShare} f := by
    rw [← pointsTo_biUnion _ _ (fun t _ t' _ h => by rw [pieceOf_set, pieceOf_set]; exact hd t t' h), ← hu]
  have hm (f : Buf (Elt F) ((c : Thread nD τ).loc b)) : (((c : Thread nD τ).loc b) ↦{fullShare} f : sProp (MM F))
      ⊢ bigSep Finset.univ fun t => iprop(∃ X, has c (pieceOf off inb hq t) X) :=
    (Entails.of_eq (hb f)).trans (bigSep_mono fun t _ => piece_intro off inb hq c t f)
  iintro ⟨%f, H⟩
  iapply (hm f)
  iexact H

include hd hcov in
/-- And back. -/
theorem join_pieces (c : Dev nD) :
    (bigSep Finset.univ fun t => iprop(∃ X, has c (pieceOf off inb hq t) X))
      ⊢ (iprop(∃ f : Buf (Elt F) ((c : Thread nD τ).loc b), ((c : Thread nD τ).loc b) ↦{fullShare} f) : sProp (MM F)) := by
  have hu : (Finset.univ : Finset (Idx ((c : Thread nD τ).loc b))) = (Finset.univ : Finset T).biUnion fun t => (pieceOf off inb hq t).view.set := by
    ext i
    simp only [Finset.mem_univ, Finset.mem_biUnion, true_and, true_iff]
    obtain ⟨t, ht⟩ := hcov i
    exact ⟨t, (pieceOf_set off inb hq t).symm ▸ ht⟩
  have hm : (bigSep Finset.univ fun t => (iprop(∃ X, has c (pieceOf off inb hq t) X) : sProp (MM F)))
      ⊢ bigSep Finset.univ fun t => iprop(∃ f : Buf (Elt F) ((c : Thread nD τ).loc b), ((c : Thread nD τ).loc b) ↦[(pieceOf off inb hq t).view.set]{fullShare} f) :=
    bigSep_mono fun t _ => piece_elim off inb hq c t
  iintro H
  ihave H := hm $$ H
  ihave H := (BI.bigSep_exists_pi Finset.univ (fun (t : T) (f : Buf (Elt F) ((c : Thread nD τ).loc b)) =>
    (((c : Thread nD τ).loc b) ↦[(pieceOf off inb hq t).view.set]{fullShare} f : sProp (MM F)))) $$ H
  icases H with ⟨%fs, H⟩
  ihave H := (pointsTo_biUnion_join Finset.univ (fun t => (pieceOf off inb hq t).view.set) fs (fs default)
    (fun t _ t' _ h => by rw [pieceOf_set, pieceOf_set]; exact hd t t' h)) $$ H
  icases H with ⟨%g, -, H⟩
  iexists g
  rw [hu]
  iexact H

end Split

/-! ### The three scratch buffers -/

theorem disjA (d d' : Bool) (h : d ≠ d') : Disjoint (rectA d).set (rectA d').set := by
  rw [Finset.disjoint_left]
  intro i hi hi'
  have h0 := Rect.mem_set_unit.mp hi 0
  have h1 := Rect.mem_set_unit.mp hi' 0
  cases d <;> cases d' <;> simp at h h0 h1 <;> omega

theorem covA (i : S2x1024x1024.Idx) : ∃ d, i ∈ (rectA d).set := by
  have h0 : (i 0).val < 2 := (i 0).isLt
  have h1 : (i 1).val < 1024 := (i 1).isLt
  have h2 : (i 2).val < 1024 := (i 2).isLt
  refine ⟨decide ((i 0).val = 1), Rect.mem_set_unit.mpr fun a => ?_⟩
  by_cases h : (i 0).val = 1 <;> fin_cases a <;> simp [h] <;> omega

theorem disjC (t t' : Bool × Bool) (h : t ≠ t') : Disjoint (rectC t.1 t.2).set (rectC t'.1 t'.2).set := by
  rw [Finset.disjoint_left]
  intro i hi hi'
  have h0 := Rect.mem_set_unit.mp hi 0
  have h1 := Rect.mem_set_unit.mp hi' 0
  have g0 := Rect.mem_set_unit.mp hi 1
  have g1 := Rect.mem_set_unit.mp hi' 1
  obtain ⟨d, k⟩ := t
  obtain ⟨d', k'⟩ := t'
  cases d <;> cases d' <;> cases k <;> cases k' <;> simp at h h0 h1 g0 g1 <;> omega

theorem covC (i : S2x2x1024x1024.Idx) : ∃ t : Bool × Bool, i ∈ (rectC t.1 t.2).set := by
  have h0 : (i 0).val < 2 := (i 0).isLt
  have h1 : (i 1).val < 2 := (i 1).isLt
  have h2 : (i 2).val < 1024 := (i 2).isLt
  have h3 : (i 3).val < 1024 := (i 3).isLt
  refine ⟨(decide ((i 0).val = 1), decide ((i 1).val = 1)), Rect.mem_set_unit.mpr fun a => ?_⟩
  by_cases h : (i 0).val = 1 <;> by_cases h' : (i 1).val = 1 <;> fin_cases a <;> simp [h, h'] <;> omega

/-- A piece held at some contents. -/
def hasAny (c : Dev nD) {sp : Space} {s : Shape} {e : EltTy} (p : Memref sig .tc sp s e) : sProp (MM F) := iprop(∃ X, has c p X)

omit [FloatOps F] in
theorem bigSep_bool {M : Type} [URA M] (Φ : Bool → sProp M) : bigSep Finset.univ Φ = iprop(Φ false ∗ Φ true) :=
  bigSep_univ_eq_bigSepL [false, true] (by decide) (by decide) Φ
omit [FloatOps F] in
theorem bigSep_bool2 {M : Type} [URA M] (Φ : Bool × Bool → sProp M) :
    bigSep Finset.univ Φ = iprop(Φ (false, false) ∗ Φ (false, true) ∗ Φ (true, false) ∗ Φ (true, true)) :=
  bigSep_univ_eq_bigSepL [(false, false), (false, true), (true, false), (true, true)] (by decide) (by decide) Φ

theorem acc_split (c : Dev nD) : (iprop(∃ f : Buf (Elt F) ((c : Thread nD τ).loc cc0_scratch0), ((c : Thread nD τ).loc cc0_scratch0) ↦{fullShare} f) : sProp (MM F))
    ⊢ iprop(hasAny c (accM false) ∗ hasAny c (accM true)) :=
  (split_pieces (b := cc0_scratch0) offA inbA (fun _ => squeezes_S1x1024x1024_S1024x1024) disjA covA c).trans (Entails.of_eq (bigSep_bool _))
theorem acc_join (c : Dev nD) : iprop(hasAny c (accM false) ∗ hasAny c (accM true))
    ⊢ (iprop(∃ f : Buf (Elt F) ((c : Thread nD τ).loc cc0_scratch0), ((c : Thread nD τ).loc cc0_scratch0) ↦{fullShare} f) : sProp (MM F)) :=
  (Entails.of_eq (bigSep_bool fun d => hasAny c (accM d)).symm).trans
    (join_pieces (b := cc0_scratch0) offA inbA (fun _ => squeezes_S1x1024x1024_S1024x1024) disjA covA c)
theorem loc_split (c : Dev nD) : (iprop(∃ f : Buf (Elt F) ((c : Thread nD τ).loc cc0_scratch1), ((c : Thread nD τ).loc cc0_scratch1) ↦{fullShare} f) : sProp (MM F))
    ⊢ iprop(hasAny c (locM false) ∗ hasAny c (locM true)) :=
  (split_pieces (b := cc0_scratch1) offA inbA (fun _ => squeezes_S1x1024x1024_S1024x1024) disjA covA c).trans (Entails.of_eq (bigSep_bool _))
theorem loc_join (c : Dev nD) : iprop(hasAny c (locM false) ∗ hasAny c (locM true))
    ⊢ (iprop(∃ f : Buf (Elt F) ((c : Thread nD τ).loc cc0_scratch1), ((c : Thread nD τ).loc cc0_scratch1) ↦{fullShare} f) : sProp (MM F)) :=
  (Entails.of_eq (bigSep_bool fun d => hasAny c (locM d)).symm).trans
    (join_pieces (b := cc0_scratch1) offA inbA (fun _ => squeezes_S1x1024x1024_S1024x1024) disjA covA c)
theorem com_split (c : Dev nD) : (iprop(∃ f : Buf (Elt F) ((c : Thread nD τ).loc cc0_scratch2), ((c : Thread nD τ).loc cc0_scratch2) ↦{fullShare} f) : sProp (MM F))
    ⊢ iprop(hasAny c (comM false false) ∗ hasAny c (comM false true) ∗ hasAny c (comM true false) ∗ hasAny c (comM true true)) :=
  (split_pieces (b := cc0_scratch2) (fun t : Bool × Bool => offC t.1 t.2) (fun t => inbC t.1 t.2) (fun _ => squeezes_S1x1x1024x1024_S1024x1024)
    disjC covC c).trans (Entails.of_eq (bigSep_bool2 _))
theorem com_join (c : Dev nD) : iprop(hasAny c (comM false false) ∗ hasAny c (comM false true) ∗ hasAny c (comM true false) ∗ hasAny c (comM true true))
    ⊢ (iprop(∃ f : Buf (Elt F) ((c : Thread nD τ).loc cc0_scratch2), ((c : Thread nD τ).loc cc0_scratch2) ↦{fullShare} f) : sProp (MM F)) :=
  (Entails.of_eq (bigSep_bool2 fun t => hasAny c (comM t.1 t.2)).symm).trans
    (join_pieces (b := cc0_scratch2) (fun t : Bool × Bool => offC t.1 t.2) (fun t => inbC t.1 t.2) (fun _ => squeezes_S1x1x1024x1024_S1024x1024)
      disjC covC c)

/-! ### The result -/

theorem disjO (c : Dev nD) : Disjoint (rectO false c).set (rectO true c).set := by
  rw [Finset.disjoint_left]
  intro i hi hi'
  have h0 := Rect.mem_set_unit.mp hi 1
  have h1 := Rect.mem_set_unit.mp hi' 1
  simp at h0 h1
  omega

/-- The result's buffer gives up its two pieces; the rest of it plays no part. -/
theorem out_split (c : Dev nD) (f : Buf (Elt F) ((c : Thread nD τ).loc main_v1)) :
    (((c : Thread nD τ).loc main_v1) ↦{fullShare} f : sProp (MM F)) ⊢ iprop(hasAny c (outM false c) ∗ hasAny c (outM true c)) := by
  have h0 : (outM false c).view.set = (rectO false c).set := View.set_slice_whole main_v1 _
  have h1 : (outM true c).view.set = (rectO true c).set := View.set_slice_whole main_v1 _
  iintro H
  ihave H := (pointsTo_split_subset (I := (outM false c).view.set) (Finset.subset_univ _)).1 $$ H
  icases H with ⟨H0, H⟩
  ihave H := (pointsTo_split_subset (I := (outM true c).view.set) (by
    rw [h0, h1, Finset.subset_sdiff]
    exact ⟨Finset.subset_univ _, (disjO c).symm⟩)).1 $$ H
  icases H with ⟨H1, -⟩
  unfold hasAny
  isplitl [H0]
  · iexists _; iapply (owns_intro (c : Thread nD τ) (outM false c) fullShare f); iexact H0
  · iexists _; iapply (owns_intro (c : Thread nD τ) (outM true c) fullShare f); iexact H1

end Cert.RingProof

end
-- ==== Proof.Schedule.lean ====
/-
# Who signals whom, how much, and with what in hand

Per device there are sixteen semaphores the kernel uses: the barrier's, the exit barrier's, two for the copies into the
result, and per direction and hop one for a transfer's departure and one for its arrival. Each is used for one round.
This module names them, says what each landing hands over — contents included —, what each device owes the others at
launch and in which order it pays, and the order of levels by which the waits are shown to end.
-/
module

public import proofs.«01_k».proof.Proof.Pieces

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores -/

/-- The kinds of semaphore: the barrier, the exit barrier, the copy into the result of one direction, the departure and
    the arrival of one direction's transfer at one hop. -/
inductive Kind where
  | bar
  | bar2
  | copy (d : Bool)
  | send (d : Bool) (s : Fin 3)
  | recv (d : Bool) (s : Fin 3)
  deriving DecidableEq

/-- Direction `d`'s row number. -/
abbrev row : Bool → ℕ | false => 0 | true => 1

theorem copy_lt (d : Bool) : 2 + row d < 28 := by revert d; decide
theorem send_lt (d : Bool) (s : Fin 3) : 4 + 6 * row d + s.val < 28 := by revert d s; decide
theorem recv_lt (d : Bool) (s : Fin 3) : 16 + 6 * row d + s.val < 28 := by revert d s; decide

/-- Which semaphore a kind is. -/
def semOf : Kind → SemLoc sig
  | .bar => .reg (SemArray.scalar (sig.barrier 0 rfl) : Sems sig S_).sem
  | .bar2 => .reg cc0_scoped0.sem
  | .copy d => .dma ⟨2 + row d, copy_lt d⟩
  | .send d s => .dma ⟨4 + 6 * row d + s.val, send_lt d s⟩
  | .recv d s => .dma ⟨16 + 6 * row d + s.val, recv_lt d s⟩

/-- All the kinds, in a list. -/
def allKinds : List Kind :=
  [.bar, .bar2, .copy false, .copy true, .send false 0, .send false 1, .send false 2, .send true 0, .send true 1, .send true 2,
    .recv false 0, .recv false 1, .recv false 2, .recv true 0, .recv true 1, .recv true 2]

instance : Fintype Kind := ⟨⟨allKinds, by decide⟩, fun k => by
  cases k with
  | bar => decide
  | bar2 => decide
  | copy d => revert d; decide
  | send d s => revert d s; decide
  | recv d s => revert d s; decide⟩

/-- Which kind a semaphore is. -/
def kindOf (sm : SemLoc sig) : Option Kind := allKinds.find? fun k => decide (semOf k = sm)

theorem kindOf_semOf (k : Kind) : kindOf (semOf k) = Option.some k := by revert k; decide +kernel

theorem semOf_injective : Function.Injective semOf := fun k k' h => by
  have := kindOf_semOf k
  rw [h, kindOf_semOf] at this
  exact (Option.some.inj this).symm

/-- Device `c`'s semaphore of kind `k`. -/
abbrev cell (c : Dev nD) (k : Kind) : GSem nD τ sig := ((c : Thread nD τ), semOf k)

theorem cell_injective {c c' : Dev nD} {k k' : Kind} (h : cell c k = cell c' k') : c = c' ∧ k = k' :=
  ⟨congrArg (fun g : GSem nD τ sig => g.1.1) h, semOf_injective (congrArg Prod.snd h)⟩

/-- How much one contribution to a semaphore is; -/
def unit : Kind → ℕ | .bar => 1 | .bar2 => 1 | _ => N
/-- whose contributions there are; -/
def dut : Kind → Finset Bool | .bar => Finset.univ | .bar2 => Finset.univ | _ => {false}
/-- and how much they are together. -/
def total : Kind → ℕ | .bar => 2 | .bar2 => 2 | _ => N

theorem unit_pos (k : Kind) : 0 < unit k := by
  cases k with
  | bar => exact Nat.one_pos
  | bar2 => exact Nat.one_pos
  | copy d => exact N_pos
  | send d s => exact N_pos
  | recv d s => exact N_pos

/-- The slot of the landing buffer that hop `s` lands in. -/
def slot : Fin 3 → Bool | 0 => false | 1 => true | 2 => false

/-! ## Contents -/

/-- Device `c`'s columns of `x` as its kernel finds them; -/
def xAt (c : Dev nD) : S4096x1024.Idx → Elt F .f32 :=
  (win0_0.blk (0 : Fin 1)).view.read (Elt F) ((s₀ m ρ).mem ((c : Thread nD τ).loc main_arg0))
/-- and its rows of `w`. -/
def wAt (c : Dev nD) : S1024x2048.Idx → Elt F .f32 :=
  (win0_1.blk (0 : Fin 1)).view.read (Elt F) ((s₀ m ρ).mem ((c : Thread nD τ).loc main_arg1))

theorem inbX (i : Dev nD) : ∀ a, (![1024 * i.val, 0] : Fin 2 → ℕ) a + S1024x1024.size a ≤ S4096x1024.size a := by revert i; decide
abbrev offW : Bool → Fin 2 → ℕ | false => ![0, 0] | true => ![0, 1024]
theorem inbW (d : Bool) : ∀ a, offW d a + S1024x1024.size a ≤ S1024x2048.size a := by revert d; decide

abbrev rectX (i : Dev nD) : Rect S4096x1024 := Rect.unit (s := S4096x1024) ![1024 * i.val, 0] S1024x1024.size (inbX i)
abbrev rectW (d : Bool) : Rect S1024x2048 := Rect.unit (s := S1024x2048) (offW d) S1024x1024.size (inbW d)

/-- Row chunk `i` of what device `c` holds of `x`; -/
def xChunk (c i : Dev nD) : Mat F := fun j => xAt m ρ c ((rectX i).emb j)
/-- direction `d`'s columns of what it holds of `w`; -/
def wCols (c : Dev nD) (d : Bool) : Mat F := fun j => wAt m ρ c ((rectW d).emb j)

/-- The matrix product of two pieces. -/
def mm (a b : Mat F) : Mat F :=
  matmul (F := F) (φ₁ := .f32) (φ₂ := .f32) dot_S1024x1024_S1024x1024_S1024x1024_1_0_0_1_n_n none a b (constant S1024x1024 .f32 0x00000000#32)

/-- device `c`'s partial product for chunk `i`. -/
def gemm (c : Dev nD) (d : Bool) (i : Dev nD) : Mat F := mm (xChunk m ρ c i) (wCols m ρ c d)

/-- The partial sum device `c` holds in direction `d` after `s` hops: of the chunk of the device `s` places back, summed
    over that device and those between. -/
def rs (c : Dev nD) (d : Bool) : ℕ → Mat F
  | 0 => gemm m ρ c d c
  | s + 1 => addf (F := F) (rs (src d c) d s) (gemm m ρ c d ((src d)^[s + 1] c))

/-- The kernel's `x * (1 / (1 + exp (0 - x)))`, elementwise. -/
def act (x : Mat F) : Mat F :=
  mulf (F := F) x (divf (broadcast S1024x1024 (Scalar.ofBits .f32 0x3F800000#32))
    (addf (broadcast S1024x1024 (Scalar.ofBits .f32 0x3F800000#32)) (exp (subf (broadcast S1024x1024 (Scalar.ofBits .f32 0x00000000#32)) x))))

/-! ## The payloads -/

/-- What goes with direction `d`'s transfer at hop `s` from device `e`: at hop 1, the slot of the other direction's landing
    buffer that `e` has by then read, for the other direction's hop 2. -/
def extra (e : Dev nD) (d : Bool) (s : Fin 3) : sProp (MM F) := if s = 1 then hasAny e (comM (!d) false) else iprop(emp)

/-- What duty `d` of device `c`'s semaphore of each kind hands over. -/
def pay (c : Dev nD) : Kind → Bool → sProp (MM F)
  | .bar, d => iprop(hasAny (dst d c) (comM d false) ∗ hasAny (dst d c) (comM d true))
  | .bar2, _ => iprop(emp)
  | .copy d, _ => iprop(has c (outM d c) (act (rs m ρ c d 3)) ∗ has c (accM d) (act (rs m ρ c d 3)))
  | .send d s, _ => has c (accM d) (rs m ρ c d s.val)
  | .recv d s, _ => iprop(has c (comM d (slot s)) (rs m ρ (src d c) d s.val) ∗ extra (src d c) d s)

instance hasAny_storable (c : Dev nD) {sp : Space} {s : Shape} {e : EltTy} (p : Memref sig .tc sp s e) :
    BI.Storable (upEmb : UEmb _ (MM F)) (hasAny c p) := by unfold hasAny; infer_instance
instance extra_storable (e : Dev nD) (d : Bool) (s : Fin 3) : BI.Storable (upEmb : UEmb _ (MM F)) (extra e d s) := by
  unfold extra; split <;> infer_instance
instance pay_storable (c : Dev nD) (k : Kind) (d : Bool) : BI.Storable (upEmb : UEmb _ (MM F)) (pay m ρ c k d) := by
  cases k <;> unfold pay <;> infer_instance

/-- The schedule: one round per semaphore. -/
def ringRd : Rounds.Schedule (GSem nD τ sig) Bool (MM F) where
  duties g r := if r = 0 ∧ g.1.2 = .tc then (match kindOf g.2 with | .some k => dut k | none => ∅) else ∅
  unitless _ := False
  amount g _ _ := match kindOf g.2 with | .some k => unit k | none => 1
  payload g _ d := match kindOf g.2 with | .some k => pay m ρ g.1.1 k d | none => iprop(emp)
  amount_pos g _ _ _ := by
    cases kindOf g.2 with
    | none => exact Nat.one_pos
    | some k => exact unit_pos k

instance ringRd_payload_storable (g : GSem nD τ sig) (r : ℕ) (d : Bool) :
    BI.Storable (upEmb : UEmb _ (MM F)) ((ringRd (F := F) m ρ).payload g r d) := by
  show BI.Storable upEmb (match kindOf g.2 with | .some k => pay m ρ g.1.1 k d | none => iprop(emp))
  cases kindOf g.2 <;> infer_instance

theorem duties_cell (c : Dev nD) (k : Kind) : (ringRd (F := F) m ρ).duties (cell c k) 0 = dut k := by
  dsimp only [ringRd]; rw [if_pos ⟨rfl, rfl⟩, kindOf_semOf]
theorem duties_later (g : GSem nD τ sig) : ∀ r, 1 ≤ r → (ringRd (F := F) m ρ).duties g r = ∅ :=
  fun r hr => by dsimp only [ringRd]; rw [if_neg fun h => by omega]
theorem amount_cell (c : Dev nD) (k : Kind) (d : Bool) : (ringRd (F := F) m ρ).amount (cell c k) 0 d = unit k := by
  dsimp only [ringRd]; rw [kindOf_semOf]
theorem payload_cell (c : Dev nD) (k : Kind) (d : Bool) : (ringRd (F := F) m ρ).payload (cell c k) 0 d = pay m ρ c k d := by
  dsimp only [ringRd]; rw [kindOf_semOf]

theorem expect_cell (c : Dev nD) (k : Kind) : (ringRd (F := F) m ρ).expect (cell c k) 0 = total k := by
  unfold Schedule.expect Schedule.amountOf
  rw [duties_cell, Finset.sum_congr rfl fun d _ => amount_cell m ρ c k d]
  cases k with
  | bar => exact Finset.sum_const_nat (m := 1) fun _ _ => rfl
  | bar2 => exact Finset.sum_const_nat (m := 1) fun _ _ => rfl
  | copy d => exact Finset.sum_singleton _ _
  | send d s => exact Finset.sum_singleton _ _
  | recv d s => exact Finset.sum_singleton _ _

/-- What device `c` gets by waiting for the whole round of its semaphore of each kind. -/
def gets (c : Dev nD) (k : Kind) : sProp (MM F) := match k with
  | .bar => iprop(pay m ρ c .bar false ∗ pay m ρ c .bar true)
  | .bar2 => iprop(emp ∗ emp)
  | k => pay m ρ c k false

theorem rest_cell (c : Dev nD) (k : Kind) :
    bigSep ((ringRd (F := F) m ρ).duties (cell c k) 0 \ ∅) (fun d => (ringRd (F := F) m ρ).payload (cell c k) 0 d) = gets m ρ c k := by
  rw [Finset.sdiff_empty, duties_cell, bigSep_congr fun d _ => payload_cell m ρ c k d]
  cases k with
  | bar => exact bigSep_bool _
  | bar2 => exact bigSep_bool _
  | copy d => exact bigSep_singleton
  | send d s => exact bigSep_singleton
  | recv d s => exact bigSep_singleton

/-! ## What each device owes, and the levels -/

/-- What is owed for a list of contributions, each of a direction and a kind: to the device that way, on its semaphore
    of that kind. The head of the list is paid first. -/
def owe (c : Dev nD) : List (Bool × Kind) → CellTallies nD τ sig Unit
  | [] => 0
  | p :: l => owe c l + tallyAt (cell (dst p.1 c) p.2) () (unit p.2)

/-- Each device's contributions to the others, in the order it makes them. -/
def debts : List (Bool × Kind) :=
  [(true, .bar), (false, .bar), (false, .recv false 0), (true, .recv true 0), (false, .recv false 1), (true, .recv true 1),
    (false, .recv false 2), (true, .recv true 2), (true, .bar2), (false, .bar2)]

def L (g : GSem nD τ sig) : Finset Unit := if g.1.2 = .tc then {()} else ∅

def lvl : Kind → ℕ | .bar => 1 | .bar2 => 6 | .copy _ => 0 | .send _ _ => 0 | .recv _ s => 2 + s.val
/-- The level of a semaphore: departures, copies and the staging at 0, the barrier at 1, hop `s`'s arrival at `2 + s`, the
    exit barrier at 6. -/
def lv (g : GSem nD τ sig) (_ : Unit) : ℕ := match kindOf g.2 with | .some k => lvl k | none => 0

theorem lv_cell (c : Dev nD) (k : Kind) : lv (cell c k) () = lvl k := by
  dsimp only [lv]; rw [kindOf_semOf]

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {g : GSem nD τ sig} {u : Unit} : ∀ {l : List (Bool × Kind)}, 0 < owe c l g u →
    ∃ p ∈ l, g = cell (dst p.1 c) p.2
  | [], h => absurd h (by show ¬ 0 < (0 : CellTallies nD τ sig Unit) g u; rw [Pi.zero_apply, Finsupp.zero_apply]; exact Nat.lt_irrefl 0)
  | p :: l, h => by
    unfold owe at h
    rw [Pi.add_apply, Finsupp.add_apply, tallyAt_apply] at h
    by_cases hg : g = cell (dst p.1 c) p.2
    · exact ⟨p, List.mem_cons_self, hg⟩
    · rw [if_neg (fun h' => hg h'.1), Nat.add_zero] at h
      obtain ⟨q, hq, hg⟩ := owe_pos h
      exact ⟨q, List.mem_cons_of_mem _ hq, hg⟩

/-- A device may wait at a level below those of all it still owes. -/
theorem mayWait_below (c : Dev nD) (sm : SemLoc sig) (n : ℕ) (hn : lv ((c : Thread nD τ), sm) () ≤ n) (l : List (Bool × Kind))
    (hl : ∀ p ∈ l, n < lvl p.2) : (levAts L lv : sProp (MM F)) ⊢ MayWait (c : Thread nD τ) sm () (owe c l) :=
  MayOwe.of_cut (L := L) (lev := lv) n (fun p hp => by rw [Finset.mem_singleton.mp hp, L_tc]; exact Finset.mem_singleton_self _)
    (fun g u hg => by obtain ⟨p, _, rfl⟩ := owe_pos hg; exact Finset.mem_singleton_self _)
    (fun p hp => by rw [Finset.mem_singleton.mp hp]; exact hn)
    (fun g u hg => by obtain ⟨p, hp, rfl⟩ := owe_pos hg; rw [lv_cell]; exact hl p hp)

end Cert.RingProof

end
-- ==== Proof.Rules.lean ====
/-
# The protocol's steps

One rule per kind of step: a signal, a transfer to a neighbour, a copy into the result, a wait. Each says what the step
takes and what it gives back, with the semaphores' invariants and the level facts in one persistent assertion.
-/
module

public import proofs.«01_k».proof.Proof.Schedule

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg) (K : Dev nD × Kind → ℕ)

/-! ## The persistent part -/

/-- One semaphore's invariant, and that its round has been reached. -/
def rec1 (p : Dev nD × Kind) : sProp (MM F) :=
  iprop(cellInv ER (ringRd m ρ) (K p) (cell p.1 p.2) ∗ reached ER (cell p.1 p.2) 0)

instance rec1_persistent (p : Dev nD × Kind) : BI.Persistent (rec1 m ρ K p) := by unfold rec1; infer_instance

/-- Those of every semaphore of every device. -/
def recs : sProp (MM F) := bigSep Finset.univ (rec1 m ρ K)

instance recs_persistent : BI.Persistent (recs m ρ K) := by unfold recs; infer_instance

/-- Those, with the level facts. -/
def ctx : sProp (MM F) := iprop(recs m ρ K ∗ levAts L lv)

instance ctx_persistent : BI.Persistent (ctx m ρ K) := by unfold ctx; infer_instance

theorem recs_at (c : Dev nD) (k : Kind) : recs m ρ K ⊢ rec1 m ρ K (c, k) := by
  unfold recs; exact bigSep_elim (Finset.mem_univ (c, k))

/-- The invariant of any one semaphore, that its round is reached, and the level facts. -/
theorem ctx_at (c : Dev nD) (k : Kind) :
    ctx m ρ K ⊢ iprop(cellInv ER (ringRd m ρ) (K (c, k)) (cell c k) ∗ reached ER (cell c k) 0 ∗ levAts L lv) := by
  unfold ctx
  iintro ⟨H, HL⟩
  ihave H := (recs_at m ρ K c k) $$ H
  unfold rec1
  icases H with ⟨H1, H2⟩
  isplitl [H1]; · iexact H1
  isplitl [H2]; · iexact H2
  iexact HL

/-- What a device still owes, its record of past waits left open. -/
def owing (c : Dev nD) (l : List (Bool × Kind)) : sProp (MM F) :=
  iprop(∃ W, owes (c : Thread nD τ) (owe c l) W)

/-- A device is at the start of its semaphore's round. -/
abbrev at0 (c : Dev nD) (k : Kind) : sProp (MM F) := atPos ER (cell c k) 0 ∅ 0
/-- A device may make the contribution `d` to the semaphore of kind `k` of device `o`. -/
abbrev tok (o : Dev nD) (k : Kind) (d : Bool) : sProp (MM F) := dutyTok ER (cell o k) 0 d
/-- A device may expect the whole round of its semaphore. -/
abbrev due (c : Dev nD) (k : Kind) : sProp (MM F) := cred (tallyAt (cell c k) () (total k))
/-- A semaphore done with, at zero. -/
abbrev done (c : Dev nD) (k : Kind) : sProp (MM F) := semVal (cell c k) 0

section Steps

variable (c : Dev nD) {α : Type} {Q : α → sProp (MM F)} {k : PUnit → Prog (TpuEff nD τ sig (Elt F) Λ₀ .tc) α}

/-! ## Waits -/

/-- Waiting for the whole of a semaphore's round: everything handed over in it, and the semaphore at zero for good. -/
theorem wait_all {w : TpuEff nD τ sig (Elt F) Λ₀ .tc PUnit} (kd : Kind) (l : List (Bool × Kind))
    (hw : ∀ Q : PUnit → sProp (MM F), wpE (defs₀ (F := F)) 𝒱₀ (c : Thread nD τ) none Set.univ w Q
      = waitSpec (c : Thread nD τ) Set.univ (semOf kd) (total kd) Q)
    (hl : ∀ p ∈ l, lvl kd < lvl p.2) :
    iprop(ctx m ρ K ∗ due c kd ∗ owing c l ∗ at0 c kd)
      ⊢ iprop(((owing c l ∗ done c kd ∗ gets m ρ c kd)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold owing
  iintro ⟨#HC, Hc, ⟨%W, HO⟩, Hat⟩ Hk
  ihave #HI := (ctx_at m ρ K c kd) $$ HC
  icases HI with ⟨#HI, -, #HL⟩
  iapply (Rounds.wp_wait_rest_token 𝒱₀ ER (ringRd m ρ) (c : Thread nD τ) none (κ := K (c, kd)) hw (Set.mem_univ _) ()
      (O := owe c l) (W := W) (R := 0) (m := 0) (T := ∅) (by rw [Nat.zero_add, expect_cell])) $$ [Hc HO Hat]
  · isplitr; · iexact HI
    isplitl [Hc]; · iexact Hc
    isplitl [HO]; · iexact HO
    isplitr; · iapply (mayWait_below c (semOf kd) (lvl kd) (le_of_eq (lv_cell c kd)) l hl); iexact HL
    iexact Hat
  iintro ⟨HO, Hat, -, Hpay⟩
  ihave Hp := (Entails.of_eq (rest_cell m ρ c kd)) $$ Hpay
  imod (Rounds.cell_close ER (ringRd m ρ) (Set.mem_univ (K (c, kd))) (fun h => h) (R := 0 + 1) (duties_later m ρ (cell c kd))) $$ [Hat] with Hz
  · isplitr; · iexact HI
    iexact Hat
  iapply Hk
  isplitl [HO]; · iexists _; iexact HO
  isplitl [Hz]; · iexact Hz
  iexact Hp

/-- At a transfer's wait: the semaphore named by the program is the one of this kind. -/
theorem wait_dma (kd : Kind) (l : List (Bool × Kind)) {sem : DmaSem sig} {sp sp' : Space} {s s' : Shape} {e e' : EltTy}
    {srcM : Memref sig .tc sp s e} {dstM : Memref sig .tc sp' s' e'} {h₁ h₂}
    (hs : SemLoc.dma sem = semOf kd) (hd : dstM.view.dmaCredit = total kd) (hl : ∀ p ∈ l, lvl kd < lvl p.2) :
    iprop(ctx m ρ K ∗ due c kd ∗ owing c l ∗ at0 c kd)
      ⊢ iprop(((owing c l ∗ done c kd ∗ gets m ρ c kd)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM h₁ h₂) k) Q) :=
  wait_all m ρ K c kd l (fun Q => by rw [wpE_waitDma2_eq, hs, hd]) hl

/-- At a barrier's wait. -/
theorem wait_reg (kd : Kind) (l : List (Bool × Kind)) {sem : Sem sig} {n : ℕ}
    (hs : SemLoc.reg sem = semOf kd) (hd : n = total kd) (hl : ∀ p ∈ l, lvl kd < lvl p.2) :
    iprop(ctx m ρ K ∗ due c kd ∗ owing c l ∗ at0 c kd)
      ⊢ iprop(((owing c l ∗ done c kd ∗ gets m ρ c kd)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem n) k) Q) :=
  wait_all m ρ K c kd l (fun Q => by rw [wpE_semWait_eq, hs, hd]) hl

/-! ## Signals -/

/-- A signal to the neighbour in direction `x`, its contribution handed over. -/
theorem signal_to (kd : Kind) (x : Bool) (l : List (Bool × Kind)) {n : Dev nD} {sem : Sem sig} {a : ℕ}
    (hn : n = dst x c) (hs : SemLoc.reg sem = semOf kd) (ha : a = unit kd) (hd : (!x) ∈ dut kd) :
    iprop(ctx m ρ K ∗ owing c ((x, kd) :: l) ∗ tok (dst x c) kd (!x) ∗ pay m ρ (dst x c) kd (!x))
      ⊢ iprop((owing c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) sem a) k) Q) := by
  subst hn ha
  unfold owing
  iintro ⟨#HC, ⟨%W, HO⟩, Ht, Hp⟩ Hk
  ihave #HI := (ctx_at m ρ K (dst x c) kd) $$ HC
  icases HI with ⟨#HI, #HR, -⟩
  iapply (Rounds.wp_signal 𝒱₀ ER (ringRd m ρ) (c : Thread nD τ) none (dst := (dst x c : Thread nD τ)) (κ := K (dst x c, kd)) (r := 0)
      (d := !x) (by rw [hs, duties_cell]; exact hd) (by rw [hs]; exact amount_cell m ρ (dst x c) kd (!x)) () (owe c l)
      (O₀ := owe c ((x, kd) :: l)) (by rw [hs]; rfl)) $$ [HO Ht Hp]
  · rw [hs]
    isplitr; · iexact HI
    isplitl [HO]; · iexact HO
    isplitl [Ht]; · iexact Ht
    isplitl [Hp]; · rw [payload_cell]; iexact Hp
    iexact HR
  iintro HO
  iapply Hk
  iexists _
  iexact HO

/-! ## Transfers and copies -/

/-- What the arrival of direction `d`'s transfer at hop `s` from device `c` hands to the receiver. -/
theorem pay_recv (d : Bool) (s : Fin 3) :
    pay m ρ (dst d c) (.recv d s) false = iprop(has (dst d c) (comM d (slot s)) (rs m ρ c d s.val) ∗ extra c d s) := by
  show iprop(has (dst d c) (comM d (slot s)) (rs m ρ (src d (dst d c)) d s.val) ∗ extra (src d (dst d c)) d s) = _
  rw [src_dst]

/-- Direction `d`'s transfer at hop `s`, from the accumulator's piece into the right slot of the neighbour's landing buffer. -/
theorem send_to (d : Bool) (s : Fin 3) (l : List (Bool × Kind)) {n : Dev nD} {sS sR : DmaSem sig}
    {srcM dstM : Memref sig .tc .vmem S1024x1024 .f32} {hsc hsrc hdst hsem}
    (hn : n = dst d c) (hsS : SemLoc.dma sS = semOf (.send d s)) (hsR : SemLoc.dma sR = semOf (.recv d s))
    (hsM : srcM = accM d) (hdM : dstM = comM d (slot s)) :
    iprop(ctx m ρ K ∗ has c (accM d) (rs m ρ c d s.val) ∗ (hasAny (dst d c) (comM d (slot s)) ∗ extra c d s)
        ∗ owing c ((d, .recv d s) :: l) ∗ tok c (.send d s) false ∗ tok (dst d c) (.recv d s) false)
      ⊢ iprop(((due c (.send d s) ∗ owing c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc n : Thread nD τ) dstM (.dma sS) hsc) (.dma sR) hsrc hdst hsem) k) Q) := by
  subst hn hsM hdM
  unfold owing hasAny has owns
  iintro ⟨#HC, ⟨%fs, %hfs, Hs⟩, ⟨⟨%X, %fd, -, Hd⟩, Hx⟩, ⟨%W, HO⟩, Ht₁, Ht₂⟩ Hk
  ihave #H1 := (ctx_at m ρ K c (.send d s)) $$ HC
  icases H1 with ⟨#HI₁, #HR₁, -⟩
  ihave #H2 := (ctx_at m ρ K (dst d c) (.recv d s)) $$ HC
  icases H2 with ⟨#HI₂, #HR₂, -⟩
  iapply (Rounds.wp_send_pointsTo_with 𝒱₀ ER (ringRd m ρ) (c : Thread nD τ) none (c' := (dst d c : Thread nD τ))
      (κ₁ := K (c, .send d s)) (κ₂ := K (dst d c, .recv d s)) (r₁ := 0) (r₂ := 0) (d₁ := false) (d₂ := false) (fs := fs) (fd := fd)
      (F := extra c d s) (O₀ := owe c ((d, .recv d s) :: l))
      (by rw [hsS, duties_cell]; exact Finset.mem_singleton_self _) (by rw [hsR, duties_cell]; exact Finset.mem_singleton_self _)
      () () N (show (comM d (slot s)).view.amount (SemLoc.dma sR) = N from credit_com d (slot s)) (by rw [hsS]; exact amount_cell m ρ c (.send d s) false)
      (by rw [hsR]; exact amount_cell m ρ (dst d c) (.recv d s) false) (owe c l) (by rw [hsR]; rfl) (W := W)
      (by
        rw [hsS, payload_cell]
        unfold pay has owns
        iintro H
        iexists fs
        isplitr; · ipureintro; exact hfs
        iexact H)
      (by
        rw [hsR, payload_cell, pay_recv]
        unfold has owns
        iintro ⟨H, HF⟩
        isplitr [HF]
        · iexists _
          isplitr
          rotate_left
          · iexact H
          · ipureintro; rw [View.read_write_univ]; exact hfs
        · iexact HF)) $$ [Hs Hd Hx HO Ht₁ Ht₂]
  · rw [hsS, hsR]
    isplitr; · iexact HI₁
    isplitr; · iexact HI₂
    isplitl [Hs]; · iexact Hs
    isplitl [Hd Hx]
    · isplitl [Hd]; · iexact Hd
      iexact Hx
    isplitl [HO]; · iexact HO
    isplitl [Ht₁]; · iexact Ht₁
    isplitr; · iexact HR₁
    isplitl [Ht₂]; · iexact Ht₂
    iexact HR₂
  rw [hsS]
  iintro ⟨Hc, HO⟩
  iapply Hk
  isplitl [Hc]; · iexact Hc
  iexists _
  iexact HO

/-- Direction `d`'s copy of the finished piece into the result. -/
theorem copy_out (d : Bool) {sem : DmaSem sig} {srcM : Memref sig .tc .vmem S1024x1024 .f32} {dstM : Memref sig .tc .hbm S1024x1024 .f32}
    {hsrc hdst hsem} (hs : SemLoc.dma sem = semOf (.copy d)) (hsM : srcM = accM d) (hdM : dstM = outM d c) :
    iprop(ctx m ρ K ∗ has c (accM d) (act (rs m ρ c d 3)) ∗ hasAny c (outM d c) ∗ tok c (.copy d) false)
      ⊢ iprop((due c (.copy d) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.here dstM) (.dma sem) hsrc hdst hsem) k) Q) := by
  subst hsM hdM
  unfold hasAny has owns
  iintro ⟨#HC, ⟨%fs, %hfs, Hs⟩, ⟨%X, %fd, -, Hd⟩, Ht⟩ Hk
  ihave #H1 := (ctx_at m ρ K c (.copy d)) $$ HC
  icases H1 with ⟨#HI, #HR, -⟩
  iapply (Rounds.wp_copy_pointsTo 𝒱₀ ER (ringRd m ρ) (c : Thread nD τ) none (κ := K (c, .copy d)) (r := 0) (d := false) (fs := fs) (fd := fd)
      (by rw [hs, duties_cell]; exact Finset.mem_singleton_self _) () N (show (outM d c).view.amount (SemLoc.dma sem) = N from credit_out d c)
      (by rw [hs]; exact amount_cell m ρ c (.copy d) false)
      (by
        rw [hs, payload_cell]
        unfold pay has owns
        iintro ⟨H, HF⟩
        isplitr [HF]
        · iexists _
          isplitr
          rotate_left
          · iexact H
          · ipureintro; rw [View.read_write_univ]; exact hfs
        · iexists fs
          isplitr; · ipureintro; exact hfs
          iexact HF)) $$ [Hs Hd Ht]
  · rw [hs]
    isplitr; · iexact HI
    isplitl [Hs]; · iexact Hs
    isplitl [Hd]; · iexact Hd
    isplitl [Ht]; · iexact Ht
    iexact HR
  rw [hs]
  iintro Hc
  iapply Hk
  iexact Hc

end Steps

end Cert.RingProof

end
-- ==== Proof.Steps.lean ====
/-
# Loads and stores of the kernel's own pieces, and the stretches it repeats

The loads and stores of the staged operands, the accumulator, the local product and the landing buffer; then the two
stretches of the program that come once per hop and direction: computing the next partial product, and waiting for a hop
and adding what has arrived to it.
-/
module

public import proofs.«01_k».proof.Proof.Rules

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)
variable (K : Dev nD × Kind → ℕ)

/-! ## Payloads -/

/-- A piece at the shape the accumulator's rectangle has it; -/
def up (v : Mat F) : S1x1024x1024.Idx → Elt F .f32 := shapeCast S1x1024x1024 v shapeCasts_S1024x1024_S1x1024x1024
/-- and back; -/
def dn (v : S1x1024x1024.Idx → Elt F .f32) : Mat F := shapeCast S1024x1024 v shapeCasts_S1x1024x1024_S1024x1024
/-- a piece at the shape the landing buffer's rectangle has it; -/
def upC (v : Mat F) : S1x1x1024x1024.Idx → Elt F .f32 := shapeCast S1x1x1024x1024 v (show S1024x1024.ShapeCasts S1x1x1024x1024 from shapeCasts_S1x1x1024x1024_S1024x1024.symm)
/-- and back. -/
def dnC (v : S1x1x1024x1024.Idx → Elt F .f32) : Mat F := shapeCast S1024x1024 v shapeCasts_S1x1x1024x1024_S1024x1024

theorem dn_up (v : Mat F) : dn (up v) = v := by
  unfold dn up; funext j
  show v (Shape.reshapeEquiv _ (Shape.reshapeEquiv _ j)) = v j
  rw [Shape.reshapeEquiv_reshapeEquiv, Shape.reshapeEquiv_self]
theorem dnC_upC (v : Mat F) : dnC (upC v) = v := by
  unfold dnC upC; funext j
  show v (Shape.reshapeEquiv _ (Shape.reshapeEquiv _ j)) = v j
  rw [Shape.reshapeEquiv_reshapeEquiv, Shape.reshapeEquiv_self]

theorem cast_self (v : Mat F) : shapeCast S1024x1024 v shapeCasts_S1024x1024_S1024x1024 = v := by
  funext j
  show v (Shape.reshapeEquiv _ j) = v j
  rw [Shape.reshapeEquiv_self]

theorem pay1_eq (x w : Mat F) : k0_pay1 x w = up (mm x w) :=
  show up (mm (shapeCast S1024x1024 x shapeCasts_S1024x1024_S1024x1024) (shapeCast S1024x1024 w shapeCasts_S1024x1024_S1024x1024)) = _ by rw [cast_self, cast_self]
theorem pay2_eq (x w : Mat F) : k0_pay2 x w = up (mm x w) := pay1_eq x w
theorem pay3_eq (x w : Mat F) : k0_pay3 x w = mm x w :=
  show mm (shapeCast S1024x1024 x shapeCasts_S1024x1024_S1024x1024) (shapeCast S1024x1024 w shapeCasts_S1024x1024_S1024x1024) = _ by rw [cast_self, cast_self]
theorem pay4_eq (v : Mat F) : k0_pay4 v = up v := rfl
theorem pay5_eq (x w : Mat F) : k0_pay5 x w = up (mm x w) := pay1_eq x w
theorem pay8_eq (x : Mat F) : k0_pay8 x = x := cast_self x
theorem pay9_eq (w : Mat F) : k0_pay9 w = w := cast_self w
theorem pay10_eq (x w : Mat F) : k0_pay10 x w = up (mm x w) := rfl
theorem pay11_eq (x w : Mat F) : k0_pay11 x w = up (mm x w) := pay1_eq x w
theorem pay14_eq (x w : Mat F) : k0_pay14 x w = up (mm x w) := pay1_eq x w
theorem pay15_eq (x w : Mat F) : k0_pay15 x w = up (mm x w) := pay1_eq x w

theorem pay6_eq (a b : Mat F) : k0_pay6 (upC a) (up b) = up (addf (F := F) a b) :=
  show up (addf (F := F) (dnC (upC a)) (dn (up b))) = _ by rw [dnC_upC, dn_up]
theorem pay7_eq (a b : Mat F) : k0_pay7 (upC a) (up b) = up (addf (F := F) a b) := pay6_eq a b
theorem pay12_eq (a b : Mat F) : k0_pay12 (upC a) (up b) = up (addf (F := F) a b) := pay6_eq a b
theorem pay13_eq (a b : Mat F) : k0_pay13 (upC a) (up b) = up (addf (F := F) a b) := pay6_eq a b
theorem pay16_eq (a b : Mat F) : k0_pay16 (upC a) (up b) = up (addf (F := F) a b) := pay6_eq a b
theorem pay17_eq (a b : Mat F) : k0_pay17 (upC a) (up b) = up (addf (F := F) a b) := pay6_eq a b
theorem pay18_eq (a : Mat F) : k0_pay18 (up a) = a := dn_up a
theorem pay19_eq (a : Mat F) : k0_pay19 a (Scalar.ofBits .f32 0x00000000#32) = up (act a) := rfl
theorem pay20_eq (a : Mat F) : k0_pay20 (up a) = a := dn_up a
theorem pay22_eq (a : Mat F) : k0_pay22 (k0_pay20 (up a)) (k0_pay21 (up a)) = up (act a) :=
  show up (act (dn (up a))) = _ by rw [dn_up]

/-! ## Loads and stores -/

/-- The two staged operands of device `c`. -/
def xw (c : Dev nD) : sProp (MM F) :=
  iprop(has c (Memref.whole cc0_stg0_0) (xAt m ρ c) ∗ has c (Memref.whole cc0_stg1_0) (wAt m ρ c))

section Steps

variable (c : Dev nD) {α : Type} {Q : α → sProp (MM F)}

/-- A load of a row chunk of the staged `x`. -/
theorem load_x (i : Dev nD) {off : Fin 2 → ℕ} {inb} (ho : off = ![1024 * i.val, 0])
    {hl : (Memref.whole cc0_stg0_0).view.LoadsAt (Rect.unit (s := S4096x1024) off S1024x1024.size inb).toLoadRect}
    {k : Mat F → Prog (TpuEff nD τ sig (Elt F) Λ₀ .tc) α} :
    xw m ρ c ⊢ iprop((xw m ρ c -∗ wp frame (wpE (defs₀ (F := F)) 𝒱₀ (c : Thread nD τ) none) Set.univ (k (xChunk m ρ c i)) Q)
      -∗ wp frame (wpE (defs₀ (F := F)) 𝒱₀ (c : Thread nD τ) none) Set.univ (.op (.load (Memref.whole cc0_stg0_0) (Rect.unit (s := S4096x1024) off S1024x1024.size inb).toLoadRect hl) k) Q) := by
  unfold xw
  iintro ⟨Hx, Hw⟩ Hk
  iapply (wp_load_rect_whole c (Memref.whole cc0_stg0_0) inb ![1024 * i.val, 0] (inbX i) ho (xAt m ρ c)) $$ Hx
  iintro Hx
  iapply Hk
  isplitl [Hx]; · iexact Hx
  iexact Hw

/-- A load of a direction's columns of the staged `w`. -/
theorem load_w (d : Bool) {off : Fin 2 → ℕ} {inb} (ho : off = offW d)
    {hl : (Memref.whole cc0_stg1_0).view.LoadsAt (Rect.unit (s := S1024x2048) off S1024x1024.size inb).toLoadRect}
    {k : Mat F → Prog (TpuEff nD τ sig (Elt F) Λ₀ .tc) α} :
    xw m ρ c ⊢ iprop((xw m ρ c -∗ wp frame (wpE (defs₀ (F := F)) 𝒱₀ (c : Thread nD τ) none) Set.univ (k (wCols m ρ c d)) Q)
      -∗ wp frame (wpE (defs₀ (F := F)) 𝒱₀ (c : Thread nD τ) none) Set.univ (.op (.load (Memref.whole cc0_stg1_0) (Rect.unit (s := S1024x2048) off S1024x1024.size inb).toLoadRect hl) k) Q) := by
  unfold xw
  iintro ⟨Hx, Hw⟩ Hk
  iapply (wp_load_rect_whole c (Memref.whole cc0_stg1_0) inb (offW d) (inbW d) ho (wAt m ρ c)) $$ Hw
  iintro Hw
  iapply Hk
  isplitl [Hx]; · iexact Hx
  iexact Hw

/-- Direction `d`'s piece of a buffer of two such pieces. -/
abbrev rowM (R : Memref sig .tc .vmem S2x1024x1024 .f32) (d : Bool) : Memref sig .tc .vmem S1024x1024 .f32 :=
  (R.slice (rectA d) (fun _ => rfl)).squeeze S1024x1024 squeezes_S1x1024x1024_S1024x1024

/-- A load of a direction's piece of the accumulator or of the local product. -/
theorem load_row (R : Memref sig .tc .vmem S2x1024x1024 .f32) (d : Bool) {off : Fin 3 → ℕ} {inb} (ho : off = offA d)
    {hl : R.view.LoadsAt (Rect.unit (s := S2x1024x1024) off S1x1024x1024.size inb).toLoadRect}
    {k : (S1x1024x1024.Idx → Elt F .f32) → Prog (TpuEff nD τ sig (Elt F) Λ₀ .tc) α} (X : Mat F) :
    has c (rowM R d) X ⊢ iprop((has c (rowM R d) X -∗ wp frame (wpE (defs₀ (F := F)) 𝒱₀ (c : Thread nD τ) none) Set.univ (k (up X)) Q)
      -∗ wp frame (wpE (defs₀ (F := F)) 𝒱₀ (c : Thread nD τ) none) Set.univ (.op (.load R (Rect.unit (s := S2x1024x1024) off S1x1024x1024.size inb).toLoadRect hl) k) Q) := by
  subst ho
  exact wp_load_piece c R inb squeezes_S1x1024x1024_S1024x1024 shapeCasts_S1024x1024_S1x1024x1024 X

/-- A store of a whole such piece. -/
theorem store_row (R : Memref sig .tc .vmem S2x1024x1024 .f32) (d : Bool) {off : Fin 3 → ℕ} {inb} (ho : off = offA d) {w : S1x1024x1024.Idx → Elt F .f32} (Y : Mat F) (hw : w = up Y)
    {hx : (R.access (Rect.unit (s := S2x1024x1024) off S1x1024x1024.size inb)).Stores Finset.univ} {hm}
    {k : PUnit → Prog (TpuEff nD τ sig (Elt F) Λ₀ .tc) α} :
    hasAny c (rowM R d) ⊢ iprop((has c (rowM R d) Y -∗ wp frame (wpE (defs₀ (F := F)) 𝒱₀ (c : Thread nD τ) none) Set.univ (k ⟨⟩) Q)
      -∗ wp frame (wpE (defs₀ (F := F)) 𝒱₀ (c : Thread nD τ) none) Set.univ (.op (.store R (Rect.unit (s := S2x1024x1024) off S1x1024x1024.size inb) w Finset.univ hx hm) k) Q) := by
  subst ho hw
  unfold hasAny
  iintro ⟨%X, H⟩
  have h := wp_store_piece (Q := Q) (k := k) (w := up Y) (hx := hx) (hm := hm) c R inb squeezes_S1x1024x1024_S1024x1024 shapeCasts_S1x1024x1024_S1024x1024 X
  rw [show shapeCast S1024x1024 (up Y) shapeCasts_S1x1024x1024_S1024x1024 = Y from dn_up Y] at h
  iapply h $$ H

/-- A load of a slot of the landing buffer. -/
theorem load_com (d k' : Bool) {off : Fin 4 → ℕ} {inb} (ho : off = offC d k')
    {hl : comR.view.LoadsAt (Rect.unit (s := S2x2x1024x1024) off S1x1x1024x1024.size inb).toLoadRect}
    {k : (S1x1x1024x1024.Idx → Elt F .f32) → Prog (TpuEff nD τ sig (Elt F) Λ₀ .tc) α} (X : Mat F) :
    has c (comM d k') X ⊢ iprop((has c (comM d k') X -∗ wp frame (wpE (defs₀ (F := F)) 𝒱₀ (c : Thread nD τ) none) Set.univ (k (upC X)) Q)
      -∗ wp frame (wpE (defs₀ (F := F)) 𝒱₀ (c : Thread nD τ) none) Set.univ (.op (.load comR (Rect.unit (s := S2x2x1024x1024) off S1x1x1024x1024.size inb).toLoadRect hl) k) Q) := by
  subst ho
  exact wp_load_piece c comR inb squeezes_S1x1x1024x1024_S1024x1024 _ X

theorem hasAny_intro {sp : Space} {s : Shape} {e : EltTy} (p : Memref sig .tc sp s e) (X : s.Idx → Elt F e) :
    has c p X ⊢ (hasAny c p : sProp (MM F)) := by
  unfold hasAny; iintro H; iexists X; iexact H

/-! ## The stretches -/

/-- Computing the next partial product into the local buffer. -/
theorem fill_loc (d : Bool) (i : Dev nD) {ox ow : Fin 2 → ℕ} {o₁ o₂ : Fin 3 → ℕ} {ix iw i₁ i₂ hl₁ hl₂ hl₃ hx hm}
    {pay : Mat F → Mat F → S1x1024x1024.Idx → Elt F .f32} {k : PUnit → Prog (TpuEff nD τ sig (Elt F) Λ₀ .tc) α}
    (hox : ox = ![1024 * i.val, 0]) (how : ow = offW d) (ho₁ : o₁ = offA d) (ho₂ : o₂ = offA d) (hp : ∀ x w, pay x w = up (mm x w)) :
    iprop(xw m ρ c ∗ hasAny c (locM d))
      ⊢ iprop(((xw m ρ c ∗ has c (locM d) (gemm m ρ c d i)) -∗ wp frame (wpE (defs₀ (F := F)) 𝒱₀ (c : Thread nD τ) none) Set.univ (k ⟨⟩) Q)
        -∗ wp frame (wpE (defs₀ (F := F)) 𝒱₀ (c : Thread nD τ) none) Set.univ (.op (.load (Memref.whole cc0_stg0_0) (Rect.unit (s := S4096x1024) ox S1024x1024.size ix).toLoadRect hl₁) fun x =>
            .op (.load (Memref.whole cc0_stg1_0) (Rect.unit (s := S1024x2048) ow S1024x1024.size iw).toLoadRect hl₂) fun w =>
            .op (.load locR (Rect.unit (s := S2x1024x1024) o₁ S1x1024x1024.size i₁).toLoadRect hl₃) fun _ =>
            .op (.store locR (Rect.unit (s := S2x1024x1024) o₂ S1x1024x1024.size i₂) (pay x w) Finset.univ hx hm) k) Q) := by
  iintro ⟨Hxw, Hl⟩ Hk
  iapply (load_x m ρ c i hox) $$ Hxw; iintro Hxw
  iapply (load_w m ρ c d how) $$ Hxw; iintro Hxw
  unfold hasAny
  icases Hl with ⟨%X, Hl⟩
  iapply (load_row c locR d ho₁ X) $$ Hl; iintro Hl
  ihave Hl := (hasAny_intro c (locM d) X) $$ Hl
  iapply (store_row c locR d ho₂ (gemm m ρ c d i) (hp _ _)) $$ Hl; iintro Hl
  iapply Hk
  isplitl [Hxw]; · iexact Hxw
  iexact Hl

/-- What a device holds for one hop in one direction: that it may send, that the neighbour's arrival may be paid, its own
    places at the two semaphores, and that it may expect an arrival itself. -/
def hopTok (d : Bool) (s : Fin 3) : sProp (MM F) :=
  iprop((tok c (.send d s) false ∗ tok (dst d c) (.recv d s) false) ∗ at0 c (.send d s) ∗ at0 c (.recv d s) ∗ due c (.recv d s))
/-- The same once its transfer is on its way; -/
def hopMid (d : Bool) (s : Fin 3) : sProp (MM F) :=
  iprop(due c (.send d s) ∗ at0 c (.send d s) ∗ at0 c (.recv d s) ∗ due c (.recv d s))
/-- and once the hop is over. -/
def hopEnd (d : Bool) (s : Fin 3) : sProp (MM F) := iprop(done c (.send d s) ∗ done c (.recv d s))

/-- Sending. -/
theorem hop_send (d : Bool) (s : Fin 3) (l : List (Bool × Kind)) {n : Dev nD} {sS sR : DmaSem sig}
    {srcM dstM : Memref sig .tc .vmem S1024x1024 .f32} {hsc hsrc hdst hsem} {k : PUnit → Prog (TpuEff nD τ sig (Elt F) Λ₀ .tc) α}
    (hn : n = dst d c) (hsS : SemLoc.dma sS = semOf (.send d s)) (hsR : SemLoc.dma sR = semOf (.recv d s))
    (hsM : srcM = accM d) (hdM : dstM = comM d (slot s)) :
    iprop(ctx m ρ K ∗ has c (accM d) (rs m ρ c d s.val) ∗ (hasAny (dst d c) (comM d (slot s)) ∗ extra c d s)
        ∗ owing c ((d, .recv d s) :: l) ∗ hopTok c d s)
      ⊢ iprop(((hopMid c d s ∗ owing c l) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma srcM (.remote (Dev.tc n : Thread nD τ) dstM (.dma sS) hsc) (.dma sR) hsrc hdst hsem) k) Q) := by
  unfold hopTok hopMid
  iintro ⟨#HC, Ha, Hd, HO, ⟨Ht₁, Ht₂⟩, H1, H2, H3⟩ Hk
  iapply (send_to m ρ K c d s l hn hsS hsR hsM hdM) $$ [Ha Hd HO Ht₁ Ht₂]
  · isplitr; · iexact HC
    isplitl [Ha]; · iexact Ha
    isplitl [Hd]; · iexact Hd
    isplitl [HO]; · iexact HO
    isplitl [Ht₁]; · iexact Ht₁
    iexact Ht₂
  iintro ⟨Hd, HO⟩
  iapply Hk
  isplitr [HO]
  · isplitl [Hd]; · iexact Hd
    isplitl [H1]; · iexact H1
    isplitl [H2]; · iexact H2
    iexact H3
  iexact HO

/-- Waiting for a hop both ways, and adding what has arrived to the local product into the accumulator. -/
theorem hop_end (d : Bool) (s : Fin 3) (l : List (Bool × Kind)) {sS sR : DmaSem sig} {aS bS aR bR : Memref sig .tc .vmem S1024x1024 .f32}
    {oc : Fin 4 → ℕ} {ol oa oa' : Fin 3 → ℕ} {h₁ h₂ h₃ h₄ ic il ia ia' hl₁ hl₂ hl₃ hx hm}
    {pay : (S1x1x1024x1024.Idx → Elt F .f32) → (S1x1024x1024.Idx → Elt F .f32) → S1x1024x1024.Idx → Elt F .f32}
    {k : PUnit → Prog (TpuEff nD τ sig (Elt F) Λ₀ .tc) α}
    (hsS : SemLoc.dma sS = semOf (.send d s)) (hsR : SemLoc.dma sR = semOf (.recv d s)) (hbS : bS = accM d) (hbR : bR = comM d (slot s))
    (hoc : oc = offC d (slot s)) (hol : ol = offA d) (hoa : oa = offA d) (hoa' : oa' = offA d)
    (hp : ∀ a b, pay (upC a) (up b) = up (addf (F := F) a b)) (hl : ∀ p ∈ l, 2 + s.val < lvl p.2) :
    iprop(ctx m ρ K ∗ hopMid c d s ∗ owing c l ∗ has c (locM d) (gemm m ρ c d ((src d)^[s.val + 1] c)))
      ⊢ iprop(((hopEnd c d s ∗ owing c l ∗ has c (accM d) (rs m ρ c d (s.val + 1)) ∗ hasAny c (locM d)
              ∗ hasAny c (comM d (slot s)) ∗ extra (src d c) d s) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS aS bS h₁ h₂) fun _ => .op (.waitDma2 sR aR bR h₃ h₄) fun _ =>
            .op (.load comR (Rect.unit (s := S2x2x1024x1024) oc S1x1x1024x1024.size ic).toLoadRect hl₁) fun a =>
            .op (.load locR (Rect.unit (s := S2x1024x1024) ol S1x1024x1024.size il).toLoadRect hl₂) fun b =>
            .op (.load accR (Rect.unit (s := S2x1024x1024) oa S1x1024x1024.size ia).toLoadRect hl₃) fun _ =>
            .op (.store accR (Rect.unit (s := S2x1024x1024) oa' S1x1024x1024.size ia') (pay a b) Finset.univ hx hm) k) Q) := by
  subst hbS hbR
  unfold hopMid hopEnd
  iintro ⟨#HC, ⟨H1, H2, H3, H4⟩, HO, Hl⟩ Hk
  iapply (wait_dma m ρ K c (.send d s) l hsS (credit_acc d) (fun p hp => lt_of_le_of_lt (Nat.zero_le _) (hl p hp))) $$ [H1 H2 HO]
  · isplitr; · iexact HC
    isplitl [H1]; · iexact H1
    isplitl [HO]; · iexact HO
    iexact H2
  iintro ⟨HO, Hz₁, Hp⟩
  ihave Ha := (Entails.of_eq (show gets m ρ c (.send d s) = has c (accM d) (rs m ρ c d s.val) from rfl)) $$ Hp
  iapply (wait_dma m ρ K c (.recv d s) l hsR (credit_com d (slot s)) hl) $$ [H3 H4 HO]
  · isplitr; · iexact HC
    isplitl [H4]; · iexact H4
    isplitl [HO]; · iexact HO
    iexact H3
  iintro ⟨HO, Hz₂, Hp⟩
  ihave Hp := (Entails.of_eq (show gets m ρ c (.recv d s) = iprop(has c (comM d (slot s)) (rs m ρ (src d c) d s.val) ∗ extra (src d c) d s) from rfl)) $$ Hp
  icases Hp with ⟨Hc, Hx⟩
  iapply (load_com c d (slot s) hoc _) $$ Hc; iintro Hc
  iapply (load_row c locR d hol _) $$ Hl; iintro Hl
  iapply (load_row c accR d hoa _) $$ Ha; iintro Ha
  ihave Ha := (hasAny_intro c (accM d) _) $$ Ha
  iapply (store_row c accR d hoa' (rs m ρ c d (s.val + 1)) (hp _ _)) $$ Ha; iintro Ha
  iapply Hk
  isplitl [Hz₁ Hz₂]
  · isplitl [Hz₁]; · iexact Hz₁
    iexact Hz₂
  isplitl [HO]; · iexact HO
  isplitl [Ha]; · iexact Ha
  isplitl [Hl]; · iapply (hasAny_intro c (locM d) _); iexact Hl
  isplitl [Hc]; · iapply (hasAny_intro c (comM d (slot s)) _); iexact Hc
  iexact Hx

end Steps

end Cert.RingProof

end
-- ==== Proof.Body.lean ====
/-
# The kernel's body, part by part

What each part of the body takes and gives, in the program's order: the first two partial products, the barrier, and then,
three times, sending both ways, computing the next partial products while the transfers are on their way, and adding what
arrives; at the end the activation and the copies into the result.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)
variable (K : Dev nD × Kind → ℕ)

/-- What a device still owes after its first `n` contributions. -/
abbrev rest (n : ℕ) : List (Bool × Kind) := debts.drop n

/-- What the signal of the barrier one way hands over: the device's own landing slots of the opposite direction. -/
theorem pay_bar (c : Dev nD) (x : Bool) :
    iprop(hasAny c (comM (!x) false) ∗ hasAny c (comM (!x) true)) = pay m ρ (dst x c) .bar (!x) := by
  show _ = iprop(hasAny (dst (!x) (dst x c)) (comM (!x) false) ∗ hasAny (dst (!x) (dst x c)) (comM (!x) true))
  rw [show dst (!x) (dst x c) = c by cases x; exacts [prv_nxt c, nxt_prv c]]

theorem hasAny_elim (c : Dev nD) {sp : Space} {s : Shape} {e : EltTy} (p : Memref sig .tc sp s e) :
    (hasAny c p : sProp (MM F)) ⊢ iprop(∃ X, has c p X) := by
  unfold hasAny; exact BI.Entails.refl _

/-- Only hop 1's transfers carry a slot with them. -/
theorem extra_ne (c : Dev nD) (d : Bool) {s : Fin 3} (h : s ≠ 1) : (extra c d s : sProp (MM F)) = iprop(emp) := by
  unfold extra; rw [if_neg h]
theorem extra_one (c : Dev nD) (d : Bool) : (extra c d 1 : sProp (MM F)) = hasAny c (comM (!d) false) := by
  unfold extra; rw [if_pos rfl]

/-- What the barrier's wait gives: both neighbours' landing slots. -/
theorem gets_bar (c : Dev nD) : gets m ρ c .bar
    = iprop((hasAny (nxt c) (comM false false) ∗ hasAny (nxt c) (comM false true)) ∗ (hasAny (prv c) (comM true false) ∗ hasAny (prv c) (comM true true))) := rfl

/-- The first partial product, of the device's own chunk, left columns. -/
theorem part1 (c : Dev nD) (Kt : (Σ' (d0 : Dev nD) (v2 : BitVec 32) (v13 : BitVec 32) (v24 : BitVec 32), FVec F S1x1024x1024 .f32) → sProp (MM F)) :
    iprop((xw m ρ c ∗ hasAny c (accM false))
        ∗ (∀ v2 v13 v24, (xw m ρ c ∗ hasAny c (accM false)) -∗ Kt ⟨c, v2, v13, v24, up (rs m ρ c false 0)⟩))
      ⊢ wp frame (wpE (defs₀ (F := F)) 𝒱₀ (c : Thread nD τ) none) Set.univ
          (k0_part1 (Memref.whole cc0_stg0_0) (Memref.isWhole_whole _) (Memref.whole cc0_stg1_0) (Memref.isWhole_whole _) (Memref.whole main_v1) (Memref.isWhole_whole _)
            accR (Memref.isWhole_whole _) locR (Memref.isWhole_whole _) comR (Memref.isWhole_whole _) cc0_scratch3 cc0_scratch4 cc0_scratch5 cc0_scoped0 ) Kt := by
  simp only [k0_part1_eq_skeleton]; unfold k0_part1_skel
  simp only [semSignalWord, semWaitWord, Prog.lift, Prog.bind_op, Prog.bind_ret, Prog.pure_eq_ret, wp_deviceId]
  iintro ⟨⟨Hxw, Ha⟩, Hk⟩
  iapply (load_x m ρ c c (off1_eq c)) $$ Hxw; iintro Hxw
  iapply (load_w m ρ c false rfl) $$ Hxw; iintro Hxw
  unfold hasAny
  icases Ha with ⟨%X, Ha⟩
  iapply (load_row c accR false rfl X) $$ Ha; iintro Ha
  rw [show k0_pay1 (xChunk m ρ c c) (wCols m ρ c false) = up (rs m ρ c false 0) from pay1_eq _ _]
  rw [wp_ret]; imodintro; iapply Hk
  isplitl [Hxw]; · iexact Hxw
  iexists X; iexact Ha
/-- What a device needs for the two signals and the wait of the barrier of kind `kd`. -/
def barTok (c : Dev nD) (kd : Kind) : sProp (MM F) :=
  iprop(tok (dst true c) kd false ∗ tok (dst false c) kd true ∗ at0 c kd ∗ due c kd)

/-- The second partial product, the barrier, and the first transfer to the right. -/
theorem part2 (c : Dev nD) (v2 v13 v24 : BitVec 32) (Kt : PUnit → sProp (MM F)) :
    iprop((ctx m ρ K ∗ xw m ρ c ∗ hasAny c (accM false) ∗ hasAny c (accM true)
        ∗ (hasAny c (comM false false) ∗ hasAny c (comM false true)) ∗ (hasAny c (comM true false) ∗ hasAny c (comM true true))
        ∗ owing c (rest 0) ∗ barTok c .bar ∗ hopTok c false 0)
        ∗ ((xw m ρ c ∗ has c (accM true) (rs m ρ c true 0) ∗ owing c (rest 3) ∗ done c .bar ∗ hopMid c false 0
            ∗ hasAny (nxt c) (comM false true) ∗ hasAny (prv c) (comM true false) ∗ hasAny (prv c) (comM true true)) -∗ Kt ⟨⟩))
      ⊢ wp frame (wpE (defs₀ (F := F)) 𝒱₀ (c : Thread nD τ) none) Set.univ
          (k0_part2 (Memref.whole cc0_stg0_0) (Memref.isWhole_whole _) (Memref.whole cc0_stg1_0) (Memref.isWhole_whole _) (Memref.whole main_v1) (Memref.isWhole_whole _)
            accR (Memref.isWhole_whole _) locR (Memref.isWhole_whole _) comR (Memref.isWhole_whole _) cc0_scratch3 cc0_scratch4 cc0_scratch5 cc0_scoped0 c v2 v13 v24 (up (rs m ρ c false 0))) Kt := by
  simp only [k0_part2_eq_skeleton]; unfold k0_part2_skel
  simp only [semSignalWord, semWaitWord, Prog.lift, Prog.bind_op, Prog.bind_ret, Prog.pure_eq_ret, wp_deviceId]
  unfold barTok
  iintro ⟨⟨#HC, Hxw, Ha, Hb, Hcf, Hct, HO, ⟨Ht₁, Ht₂, Hat, Hdue⟩, Hhop⟩, Hk⟩
  iapply (store_row c accR false rfl (rs m ρ c false 0) rfl) $$ Ha; iintro Ha
  iapply (load_x m ρ c c (off1_eq c)) $$ Hxw; iintro Hxw
  iapply (load_w m ρ c true rfl) $$ Hxw; iintro Hxw
  ihave Hb := (hasAny_elim c (accM true)) $$ Hb
  icases Hb with ⟨%X, Hb⟩
  iapply (load_row c accR true rfl X) $$ Hb; iintro Hb
  ihave Hb := (hasAny_intro c (accM true) X) $$ Hb
  iapply (store_row c accR true rfl (rs m ρ c true 0) (pay2_eq _ _)) $$ Hb; iintro Hb
  ihave Hcf := (Entails.of_eq (show iprop(hasAny c (comM false false) ∗ hasAny c (comM false true)) = pay m ρ (dst true c) .bar false from pay_bar m ρ c true)) $$ Hcf
  ihave Hct := (Entails.of_eq (show iprop(hasAny c (comM true false) ∗ hasAny c (comM true true)) = pay m ρ (dst false c) .bar true from pay_bar m ρ c false)) $$ Hct
  iapply (signal_to m ρ K c .bar true (rest 1) (dev1_eq c) rfl rfl (by decide)) $$ [HO Ht₁ Hcf]
  · isplitr; · iexact HC
    isplitl [HO]; · iexact HO
    isplitl [Ht₁]; · iexact Ht₁
    iexact Hcf
  iintro HO
  iapply (signal_to m ρ K c .bar false (rest 2) (dev2_eq c) rfl rfl (by decide)) $$ [HO Ht₂ Hct]
  · isplitr; · iexact HC
    isplitl [HO]; · iexact HO
    isplitl [Ht₂]; · iexact Ht₂
    iexact Hct
  iintro HO
  iapply (wait_reg m ρ K c .bar (rest 2) rfl rfl (by decide)) $$ [HO Hat Hdue]
  · isplitr; · iexact HC
    isplitl [Hdue]; · iexact Hdue
    isplitl [HO]; · iexact HO
    iexact Hat
  iintro ⟨HO, Hz, Hp⟩
  ihave Hp := (Entails.of_eq (gets_bar m ρ c)) $$ Hp
  icases Hp with ⟨⟨Hff, Hft⟩, Htf, Htt⟩
  iapply (hop_send m ρ K c false 0 (rest 3) (dev3_eq c) rfl rfl rfl rfl) $$ [Ha Hff HO Hhop]
  · isplitr; · iexact HC
    isplitl [Ha]; · iexact Ha
    isplitl [Hff]
    · isplitl [Hff]; · iexact Hff
      rw [extra_ne c false (s := 0) (by decide)]; iempintro
    isplitl [HO]; · iexact HO
    iexact Hhop
  iintro ⟨Hm, HO⟩
  rw [wp_ret]; imodintro; iapply Hk
  isplitl [Hxw]; · iexact Hxw
  isplitl [Hb]; · iexact Hb
  isplitl [HO]; · iexact HO
  isplitl [Hz]; · iexact Hz
  isplitl [Hm]; · iexact Hm
  isplitl [Hft]; · iexact Hft
  isplitl [Htf]; · iexact Htf
  iexact Htt

/-- The first transfer to the left, and the next partial product for the right. -/
theorem part3 (c : Dev nD) (v2 v13 : BitVec 32) (Kt : (Σ' (v88 : FVec F S1024x1024 .f32), Vec F S1x1024x1024 .f32) → sProp (MM F)) :
    iprop((ctx m ρ K ∗ xw m ρ c ∗ has c (accM true) (rs m ρ c true 0) ∗ hasAny (prv c) (comM true false) ∗ owing c (rest 3) ∗ hopTok c true 0 ∗ hasAny c (locM false))
        ∗ (∀ v89, (xw m ρ c ∗ owing c (rest 4) ∗ hopMid c true 0 ∗ hasAny c (locM false)) -∗ Kt ⟨gemm m ρ c false (src false c), v89⟩))
      ⊢ wp frame (wpE (defs₀ (F := F)) 𝒱₀ (c : Thread nD τ) none) Set.univ
          (k0_part3 (Memref.whole cc0_stg0_0) (Memref.isWhole_whole _) (Memref.whole cc0_stg1_0) (Memref.isWhole_whole _) (Memref.whole main_v1) (Memref.isWhole_whole _)
            accR (Memref.isWhole_whole _) locR (Memref.isWhole_whole _) comR (Memref.isWhole_whole _) cc0_scratch3 cc0_scratch4 cc0_scratch5 cc0_scoped0 c v2 v13) Kt := by
  simp only [k0_part3_eq_skeleton]; unfold k0_part3_skel
  simp only [semSignalWord, semWaitWord, Prog.lift, Prog.bind_op, Prog.bind_ret, Prog.pure_eq_ret, wp_deviceId]
  iintro ⟨⟨#HC, Hxw, Ha, Hd, HO, Hhop, Hl⟩, Hk⟩
  iapply (hop_send m ρ K c true 0 (rest 4) (dev4_eq c) rfl rfl rfl rfl) $$ [Ha Hd HO Hhop]
  · isplitr; · iexact HC
    isplitl [Ha]; · iexact Ha
    isplitl [Hd]
    · isplitl [Hd]; · iexact Hd
      rw [extra_ne c true (s := 0) (by decide)]; iempintro
    isplitl [HO]; · iexact HO
    iexact Hhop
  iintro ⟨Hm, HO⟩
  iapply (load_x m ρ c (src false c) (off2_0 c)) $$ Hxw; iintro Hxw
  iapply (load_w m ρ c false rfl) $$ Hxw; iintro Hxw
  unfold hasAny
  icases Hl with ⟨%X, Hl⟩
  iapply (load_row c locR false rfl X) $$ Hl; iintro Hl
  rw [show k0_pay3 (xChunk m ρ c (src false c)) (wCols m ρ c false) = gemm m ρ c false (src false c) from pay3_eq _ _]
  rw [wp_ret]; imodintro; iapply Hk
  isplitl [Hxw]; · iexact Hxw
  isplitl [HO]; · iexact HO
  isplitl [Hm]; · iexact Hm
  iexists X; iexact Hl

/-- Both next partial products in place. -/
theorem part4 (c : Dev nD) (v2 : BitVec 32) (v89 : Vec F S1x1024x1024 .f32) (Kt : PUnit → sProp (MM F)) :
    iprop((xw m ρ c ∗ hasAny c (locM false) ∗ hasAny c (locM true))
        ∗ ((xw m ρ c ∗ has c (locM false) (gemm m ρ c false (src false c)) ∗ has c (locM true) (gemm m ρ c true (src true c))) -∗ Kt ⟨⟩))
      ⊢ wp frame (wpE (defs₀ (F := F)) 𝒱₀ (c : Thread nD τ) none) Set.univ
          (k0_part4 (Memref.whole cc0_stg0_0) (Memref.isWhole_whole _) (Memref.whole cc0_stg1_0) (Memref.isWhole_whole _) (Memref.whole main_v1) (Memref.isWhole_whole _)
            accR (Memref.isWhole_whole _) locR (Memref.isWhole_whole _) comR (Memref.isWhole_whole _) cc0_scratch3 cc0_scratch4 cc0_scratch5 cc0_scoped0 c v2 (gemm m ρ c false (src false c)) v89) Kt := by
  simp only [k0_part4_eq_skeleton]; unfold k0_part4_skel
  simp only [semSignalWord, semWaitWord, Prog.lift, Prog.bind_op, Prog.bind_ret, Prog.pure_eq_ret, wp_deviceId]
  iintro ⟨⟨Hxw, Ha, Hb⟩, Hk⟩
  iapply (store_row c locR false rfl (gemm m ρ c false (src false c)) (pay4_eq _)) $$ Ha; iintro Ha
  iapply (fill_loc m ρ c true (src true c) (off3_0 c) rfl rfl rfl pay5_eq) $$ [Hxw Hb]
  · isplitl [Hxw]; · iexact Hxw
    iexact Hb
  iintro ⟨Hxw, Hb⟩
  rw [wp_ret]; imodintro; iapply Hk
  isplitl [Hxw]; · iexact Hxw
  isplitl [Ha]; · iexact Ha
  iexact Hb

/-- Hop 0 to the right, received and added. -/
theorem part5 (c : Dev nD) (v24 : BitVec 32) (Kt : PUnit → sProp (MM F)) :
    iprop((ctx m ρ K ∗ hopMid c false 0 ∗ owing c (rest 4) ∗ has c (locM false) (gemm m ρ c false ((src false)^[(0 : Fin 3).val + 1] c)))
        ∗ ((hopEnd c false 0 ∗ owing c (rest 4) ∗ has c (accM false) (rs m ρ c false ((0 : Fin 3).val + 1)) ∗ hasAny c (locM false)
            ∗ hasAny c (comM false (slot 0)) ∗ extra (src false c) false 0) -∗ Kt ⟨⟩))
      ⊢ wp frame (wpE (defs₀ (F := F)) 𝒱₀ (c : Thread nD τ) none) Set.univ
          (k0_part5 (Memref.whole cc0_stg0_0) (Memref.isWhole_whole _) (Memref.whole cc0_stg1_0) (Memref.isWhole_whole _) (Memref.whole main_v1) (Memref.isWhole_whole _)
            accR (Memref.isWhole_whole _) locR (Memref.isWhole_whole _) comR (Memref.isWhole_whole _) cc0_scratch3 cc0_scratch4 cc0_scratch5 cc0_scoped0 v24) Kt := by
  simp only [k0_part5_eq_skeleton]; unfold k0_part5_skel
  simp only [semSignalWord, semWaitWord, Prog.lift, Prog.bind_op, Prog.bind_ret, Prog.pure_eq_ret, wp_deviceId]
  iintro ⟨H, Hk⟩
  iapply (hop_end m ρ K c false 0 (rest 4) rfl rfl rfl rfl rfl rfl rfl rfl pay6_eq (by decide)) $$ H
  iintro H
  rw [wp_ret]; imodintro; iapply Hk
  iexact H

/-- Hop 0 to the left, received and added. -/
theorem part6 (c : Dev nD) (v13 v24 : BitVec 32) (Kt : PUnit → sProp (MM F)) :
    iprop((ctx m ρ K ∗ hopMid c true 0 ∗ owing c (rest 4) ∗ has c (locM true) (gemm m ρ c true ((src true)^[(0 : Fin 3).val + 1] c)))
        ∗ ((hopEnd c true 0 ∗ owing c (rest 4) ∗ has c (accM true) (rs m ρ c true ((0 : Fin 3).val + 1)) ∗ hasAny c (locM true)
            ∗ hasAny c (comM true (slot 0)) ∗ extra (src true c) true 0) -∗ Kt ⟨⟩))
      ⊢ wp frame (wpE (defs₀ (F := F)) 𝒱₀ (c : Thread nD τ) none) Set.univ
          (k0_part6 (Memref.whole cc0_stg0_0) (Memref.isWhole_whole _) (Memref.whole cc0_stg1_0) (Memref.isWhole_whole _) (Memref.whole main_v1) (Memref.isWhole_whole _)
            accR (Memref.isWhole_whole _) locR (Memref.isWhole_whole _) comR (Memref.isWhole_whole _) cc0_scratch3 cc0_scratch4 cc0_scratch5 cc0_scoped0 v13 v24) Kt := by
  simp only [k0_part6_eq_skeleton]; unfold k0_part6_skel
  simp only [semSignalWord, semWaitWord, Prog.lift, Prog.bind_op, Prog.bind_ret, Prog.pure_eq_ret, wp_deviceId]
  iintro ⟨H, Hk⟩
  iapply (hop_end m ρ K c true 0 (rest 4) rfl rfl rfl rfl rfl rfl rfl rfl pay7_eq (by decide)) $$ H
  iintro H
  rw [wp_ret]; imodintro; iapply Hk
  iexact H

/-- Hop 1's transfers both ways, and the next partial product's operands. -/
theorem part7 (c : Dev nD) (v2 v13 : BitVec 32) (Kt : (Σ' (v193 : FVec F S1024x1024 .f32), FVec F S1024x1024 .f32) → sProp (MM F)) :
    iprop((ctx m ρ K ∗ xw m ρ c ∗ has c (accM false) (rs m ρ c false 1) ∗ has c (accM true) (rs m ρ c true 1)
        ∗ (hasAny (nxt c) (comM false (slot 1)) ∗ extra c false 1) ∗ (hasAny (prv c) (comM true (slot 1)) ∗ extra c true 1)
        ∗ owing c (rest 4) ∗ hopTok c false 1 ∗ hopTok c true 1)
        ∗ ((xw m ρ c ∗ owing c (rest 6) ∗ hopMid c false 1 ∗ hopMid c true 1) -∗ Kt ⟨xChunk m ρ c (src false (src false c)), wCols m ρ c false⟩))
      ⊢ wp frame (wpE (defs₀ (F := F)) 𝒱₀ (c : Thread nD τ) none) Set.univ
          (k0_part7 (Memref.whole cc0_stg0_0) (Memref.isWhole_whole _) (Memref.whole cc0_stg1_0) (Memref.isWhole_whole _) (Memref.whole main_v1) (Memref.isWhole_whole _)
            accR (Memref.isWhole_whole _) locR (Memref.isWhole_whole _) comR (Memref.isWhole_whole _) cc0_scratch3 cc0_scratch4 cc0_scratch5 cc0_scoped0 c v2 v13) Kt := by
  simp only [k0_part7_eq_skeleton]; unfold k0_part7_skel
  simp only [semSignalWord, semWaitWord, Prog.lift, Prog.bind_op, Prog.bind_ret, Prog.pure_eq_ret, wp_deviceId]
  iintro ⟨⟨#HC, Hxw, Ha, Hb, Hf, Ht, HO, Hhf, Hht⟩, Hk⟩
  iapply (hop_send m ρ K c false 1 (rest 5) (dev5_eq c) rfl rfl rfl rfl) $$ [Ha Hf HO Hhf]
  · isplitr; · iexact HC
    isplitl [Ha]; · iexact Ha
    isplitl [Hf]; · iexact Hf
    isplitl [HO]; · iexact HO
    iexact Hhf
  iintro ⟨Hmf, HO⟩
  iapply (hop_send m ρ K c true 1 (rest 6) (dev6_eq c) rfl rfl rfl rfl) $$ [Hb Ht HO Hht]
  · isplitr; · iexact HC
    isplitl [Hb]; · iexact Hb
    isplitl [Ht]; · iexact Ht
    isplitl [HO]; · iexact HO
    iexact Hht
  iintro ⟨Hmt, HO⟩
  iapply (load_x m ρ c (src false (src false c)) (off2_1 c)) $$ Hxw; iintro Hxw
  iapply (load_w m ρ c false rfl) $$ Hxw; iintro Hxw
  rw [pay8_eq, pay9_eq]
  rw [wp_ret]; imodintro; iapply Hk
  isplitl [Hxw]; · iexact Hxw
  isplitl [HO]; · iexact HO
  isplitl [Hmf]; · iexact Hmf
  iexact Hmt

/-- Both partial products for hop 1. -/
theorem part8 (c : Dev nD) (v2 : BitVec 32) (Kt : PUnit → sProp (MM F)) :
    iprop((xw m ρ c ∗ hasAny c (locM false) ∗ hasAny c (locM true))
        ∗ ((xw m ρ c ∗ has c (locM false) (gemm m ρ c false (src false (src false c))) ∗ has c (locM true) (gemm m ρ c true (src true (src true c)))) -∗ Kt ⟨⟩))
      ⊢ wp frame (wpE (defs₀ (F := F)) 𝒱₀ (c : Thread nD τ) none) Set.univ
          (k0_part8 (Memref.whole cc0_stg0_0) (Memref.isWhole_whole _) (Memref.whole cc0_stg1_0) (Memref.isWhole_whole _) (Memref.whole main_v1) (Memref.isWhole_whole _)
            accR (Memref.isWhole_whole _) locR (Memref.isWhole_whole _) comR (Memref.isWhole_whole _) cc0_scratch3 cc0_scratch4 cc0_scratch5 cc0_scoped0 c v2 (xChunk m ρ c (src false (src false c))) (wCols m ρ c false)) Kt := by
  simp only [k0_part8_eq_skeleton]; unfold k0_part8_skel
  simp only [semSignalWord, semWaitWord, Prog.lift, Prog.bind_op, Prog.bind_ret, Prog.pure_eq_ret, wp_deviceId]
  unfold hasAny
  iintro ⟨⟨Hxw, ⟨%X, Ha⟩, Hb⟩, Hk⟩
  iapply (load_row c locR false rfl X) $$ Ha; iintro Ha
  ihave Ha := (hasAny_intro c (locM false) X) $$ Ha
  iapply (store_row c locR false rfl (gemm m ρ c false (src false (src false c))) (pay10_eq _ _)) $$ Ha; iintro Ha
  ihave Hb := (Entails.of_eq (show iprop(∃ X, has c (locM true) X) = hasAny c (locM true) from rfl)) $$ Hb
  iapply (fill_loc m ρ c true (src true (src true c)) (off3_1 c) rfl rfl rfl pay11_eq) $$ [Hxw Hb]
  · isplitl [Hxw]; · iexact Hxw
    iexact Hb
  iintro ⟨Hxw, Hb⟩
  rw [wp_ret]; imodintro; iapply Hk
  isplitl [Hxw]; · iexact Hxw
  isplitl [Ha]; · iexact Ha
  iexact Hb

/-- Hop 1 to the right, received and added. -/
theorem part9 (c : Dev nD) (v24 : BitVec 32) (Kt : PUnit → sProp (MM F)) :
    iprop((ctx m ρ K ∗ hopMid c false 1 ∗ owing c (rest 6) ∗ has c (locM false) (gemm m ρ c false ((src false)^[(1 : Fin 3).val + 1] c)))
        ∗ ((hopEnd c false 1 ∗ owing c (rest 6) ∗ has c (accM false) (rs m ρ c false ((1 : Fin 3).val + 1)) ∗ hasAny c (locM false)
            ∗ hasAny c (comM false (slot 1)) ∗ extra (src false c) false 1) -∗ Kt ⟨⟩))
      ⊢ wp frame (wpE (defs₀ (F := F)) 𝒱₀ (c : Thread nD τ) none) Set.univ
          (k0_part9 (Memref.whole cc0_stg0_0) (Memref.isWhole_whole _) (Memref.whole cc0_stg1_0) (Memref.isWhole_whole _) (Memref.whole main_v1) (Memref.isWhole_whole _)
            accR (Memref.isWhole_whole _) locR (Memref.isWhole_whole _) comR (Memref.isWhole_whole _) cc0_scratch3 cc0_scratch4 cc0_scratch5 cc0_scoped0 v24) Kt := by
  simp only [k0_part9_eq_skeleton]; unfold k0_part9_skel
  simp only [semSignalWord, semWaitWord, Prog.lift, Prog.bind_op, Prog.bind_ret, Prog.pure_eq_ret, wp_deviceId]
  iintro ⟨H, Hk⟩
  iapply (hop_end m ρ K c false 1 (rest 6) rfl rfl rfl rfl rfl rfl rfl rfl pay12_eq (by decide)) $$ H
  iintro H
  rw [wp_ret]; imodintro; iapply Hk
  iexact H

/-- Hop 1 to the left, received and added. -/
theorem part10 (c : Dev nD) (v13 v24 : BitVec 32) (Kt : PUnit → sProp (MM F)) :
    iprop((ctx m ρ K ∗ hopMid c true 1 ∗ owing c (rest 6) ∗ has c (locM true) (gemm m ρ c true ((src true)^[(1 : Fin 3).val + 1] c)))
        ∗ ((hopEnd c true 1 ∗ owing c (rest 6) ∗ has c (accM true) (rs m ρ c true ((1 : Fin 3).val + 1)) ∗ hasAny c (locM true)
            ∗ hasAny c (comM true (slot 1)) ∗ extra (src true c) true 1) -∗ Kt ⟨⟩))
      ⊢ wp frame (wpE (defs₀ (F := F)) 𝒱₀ (c : Thread nD τ) none) Set.univ
          (k0_part10 (Memref.whole cc0_stg0_0) (Memref.isWhole_whole _) (Memref.whole cc0_stg1_0) (Memref.isWhole_whole _) (Memref.whole main_v1) (Memref.isWhole_whole _)
            accR (Memref.isWhole_whole _) locR (Memref.isWhole_whole _) comR (Memref.isWhole_whole _) cc0_scratch3 cc0_scratch4 cc0_scratch5 cc0_scoped0 v13 v24) Kt := by
  simp only [k0_part10_eq_skeleton]; unfold k0_part10_skel
  simp only [semSignalWord, semWaitWord, Prog.lift, Prog.bind_op, Prog.bind_ret, Prog.pure_eq_ret, wp_deviceId]
  iintro ⟨H, Hk⟩
  iapply (hop_end m ρ K c true 1 (rest 6) rfl rfl rfl rfl rfl rfl rfl rfl pay13_eq (by decide)) $$ H
  iintro H
  rw [wp_ret]; imodintro; iapply Hk
  iexact H

/-- Hop 2's transfers both ways. -/
theorem part11 (c : Dev nD) (v2 v13 : BitVec 32) (Kt : PUnit → sProp (MM F)) :
    iprop((ctx m ρ K ∗ has c (accM false) (rs m ρ c false 2) ∗ has c (accM true) (rs m ρ c true 2)
        ∗ (hasAny (nxt c) (comM false (slot 2)) ∗ extra c false 2) ∗ (hasAny (prv c) (comM true (slot 2)) ∗ extra c true 2)
        ∗ owing c (rest 6) ∗ hopTok c false 2 ∗ hopTok c true 2)
        ∗ ((owing c (rest 8) ∗ hopMid c false 2 ∗ hopMid c true 2) -∗ Kt ⟨⟩))
      ⊢ wp frame (wpE (defs₀ (F := F)) 𝒱₀ (c : Thread nD τ) none) Set.univ
          (k0_part11 (Memref.whole cc0_stg0_0) (Memref.isWhole_whole _) (Memref.whole cc0_stg1_0) (Memref.isWhole_whole _) (Memref.whole main_v1) (Memref.isWhole_whole _)
            accR (Memref.isWhole_whole _) locR (Memref.isWhole_whole _) comR (Memref.isWhole_whole _) cc0_scratch3 cc0_scratch4 cc0_scratch5 cc0_scoped0 c v2 v13) Kt := by
  simp only [k0_part11_eq_skeleton]; unfold k0_part11_skel
  simp only [semSignalWord, semWaitWord, Prog.lift, Prog.bind_op, Prog.bind_ret, Prog.pure_eq_ret, wp_deviceId]
  iintro ⟨⟨#HC, Ha, Hb, Hf, Ht, HO, Hhf, Hht⟩, Hk⟩
  iapply (hop_send m ρ K c false 2 (rest 7) (dev7_eq c) rfl rfl rfl rfl) $$ [Ha Hf HO Hhf]
  · isplitr; · iexact HC
    isplitl [Ha]; · iexact Ha
    isplitl [Hf]; · iexact Hf
    isplitl [HO]; · iexact HO
    iexact Hhf
  iintro ⟨Hmf, HO⟩
  iapply (hop_send m ρ K c true 2 (rest 8) (dev8_eq c) rfl rfl rfl rfl) $$ [Hb Ht HO Hht]
  · isplitr; · iexact HC
    isplitl [Hb]; · iexact Hb
    isplitl [Ht]; · iexact Ht
    isplitl [HO]; · iexact HO
    iexact Hht
  iintro ⟨Hmt, HO⟩
  rw [wp_ret]; imodintro; iapply Hk
  isplitl [HO]; · iexact HO
  isplitl [Hmf]; · iexact Hmf
  iexact Hmt

/-- Both partial products for hop 2. -/
theorem part12 (c : Dev nD) (v2 : BitVec 32) (Kt : PUnit → sProp (MM F)) :
    iprop((xw m ρ c ∗ hasAny c (locM false) ∗ hasAny c (locM true))
        ∗ ((xw m ρ c ∗ has c (locM false) (gemm m ρ c false (src false (src false (src false c)))) ∗ has c (locM true) (gemm m ρ c true (src true (src true (src true c))))) -∗ Kt ⟨⟩))
      ⊢ wp frame (wpE (defs₀ (F := F)) 𝒱₀ (c : Thread nD τ) none) Set.univ
          (k0_part12 (Memref.whole cc0_stg0_0) (Memref.isWhole_whole _) (Memref.whole cc0_stg1_0) (Memref.isWhole_whole _) (Memref.whole main_v1) (Memref.isWhole_whole _)
            accR (Memref.isWhole_whole _) locR (Memref.isWhole_whole _) comR (Memref.isWhole_whole _) cc0_scratch3 cc0_scratch4 cc0_scratch5 cc0_scoped0 c v2) Kt := by
  simp only [k0_part12_eq_skeleton]; unfold k0_part12_skel
  simp only [semSignalWord, semWaitWord, Prog.lift, Prog.bind_op, Prog.bind_ret, Prog.pure_eq_ret, wp_deviceId]
  iintro ⟨⟨Hxw, Ha, Hb⟩, Hk⟩
  iapply (fill_loc m ρ c false (src false (src false (src false c))) (off2_2 c) rfl rfl rfl pay14_eq) $$ [Hxw Ha]
  · isplitl [Hxw]; · iexact Hxw
    iexact Ha
  iintro ⟨Hxw, Ha⟩
  iapply (fill_loc m ρ c true (src true (src true (src true c))) (off3_2 c) rfl rfl rfl pay15_eq) $$ [Hxw Hb]
  · isplitl [Hxw]; · iexact Hxw
    iexact Hb
  iintro ⟨Hxw, Hb⟩
  rw [wp_ret]; imodintro; iapply Hk
  isplitl [Hxw]; · iexact Hxw
  isplitl [Ha]; · iexact Ha
  iexact Hb

/-- Hop 2 to the right, received and added. -/
theorem part13 (c : Dev nD) (v24 : BitVec 32) (Kt : PUnit → sProp (MM F)) :
    iprop((ctx m ρ K ∗ hopMid c false 2 ∗ owing c (rest 8) ∗ has c (locM false) (gemm m ρ c false ((src false)^[(2 : Fin 3).val + 1] c)))
        ∗ ((hopEnd c false 2 ∗ owing c (rest 8) ∗ has c (accM false) (rs m ρ c false ((2 : Fin 3).val + 1)) ∗ hasAny c (locM false)
            ∗ hasAny c (comM false (slot 2)) ∗ extra (src false c) false 2) -∗ Kt ⟨⟩))
      ⊢ wp frame (wpE (defs₀ (F := F)) 𝒱₀ (c : Thread nD τ) none) Set.univ
          (k0_part13 (Memref.whole cc0_stg0_0) (Memref.isWhole_whole _) (Memref.whole cc0_stg1_0) (Memref.isWhole_whole _) (Memref.whole main_v1) (Memref.isWhole_whole _)
            accR (Memref.isWhole_whole _) locR (Memref.isWhole_whole _) comR (Memref.isWhole_whole _) cc0_scratch3 cc0_scratch4 cc0_scratch5 cc0_scoped0 v24) Kt := by
  simp only [k0_part13_eq_skeleton]; unfold k0_part13_skel
  simp only [semSignalWord, semWaitWord, Prog.lift, Prog.bind_op, Prog.bind_ret, Prog.pure_eq_ret, wp_deviceId]
  iintro ⟨H, Hk⟩
  iapply (hop_end m ρ K c false 2 (rest 8) rfl rfl rfl rfl rfl rfl rfl rfl pay16_eq (by decide)) $$ H
  iintro H
  rw [wp_ret]; imodintro; iapply Hk
  iexact H

/-- Hop 2 to the left, received and added; the finished left piece read. -/
theorem part14 (c : Dev nD) (v13 : BitVec 32) (Kt : (Σ' (v375 : FVec F S1024x1024 .f32), F .f32) → sProp (MM F)) :
    iprop(((ctx m ρ K ∗ hopMid c true 2 ∗ owing c (rest 8) ∗ has c (locM true) (gemm m ρ c true ((src true)^[(2 : Fin 3).val + 1] c))) ∗ has c (accM false) (rs m ρ c false 3))
        ∗ (((hopEnd c true 2 ∗ owing c (rest 8) ∗ has c (accM true) (rs m ρ c true ((2 : Fin 3).val + 1)) ∗ hasAny c (locM true)
            ∗ hasAny c (comM true (slot 2)) ∗ extra (src true c) true 2) ∗ has c (accM false) (rs m ρ c false 3))
            -∗ Kt ⟨rs m ρ c false 3, Scalar.ofBits .f32 0x00000000#32⟩))
      ⊢ wp frame (wpE (defs₀ (F := F)) 𝒱₀ (c : Thread nD τ) none) Set.univ
          (k0_part14 (Memref.whole cc0_stg0_0) (Memref.isWhole_whole _) (Memref.whole cc0_stg1_0) (Memref.isWhole_whole _) (Memref.whole main_v1) (Memref.isWhole_whole _)
            accR (Memref.isWhole_whole _) locR (Memref.isWhole_whole _) comR (Memref.isWhole_whole _) cc0_scratch3 cc0_scratch4 cc0_scratch5 cc0_scoped0 v13) Kt := by
  simp only [k0_part14_eq_skeleton]; unfold k0_part14_skel
  simp only [semSignalWord, semWaitWord, Prog.lift, Prog.bind_op, Prog.bind_ret, Prog.pure_eq_ret, wp_deviceId]
  iintro ⟨⟨H, Ha⟩, Hk⟩
  iapply (hop_end m ρ K c true 2 (rest 8) rfl rfl rfl rfl rfl rfl rfl rfl pay17_eq (by decide)) $$ H
  iintro H
  iapply (load_row c accR false rfl (rs m ρ c false 3)) $$ Ha; iintro Ha
  rw [pay18_eq]
  rw [wp_ret]; imodintro; iapply Hk
  isplitl [H]; · iexact H
  iexact Ha

/-- What a device needs to copy a finished piece into the result. -/
def copyTok (c : Dev nD) (d : Bool) : sProp (MM F) := iprop(tok c (.copy d) false ∗ at0 c (.copy d))

/-- Storing the activation of a finished piece and starting its copy into the result. -/
theorem finish (c : Dev nD) (d : Bool) {α : Type} {Q : α → sProp (MM F)} {o₁ o₂ : Fin 3 → ℕ} {i₁ i₂ hl hx hm} {w : S1x1024x1024.Idx → Elt F .f32}
    {sem : DmaSem sig} {srcM : Memref sig .tc .vmem S1024x1024 .f32} {dstM : Memref sig .tc .hbm S1024x1024 .f32} {hsrc hdst hsem}
    {k : PUnit → Prog (TpuEff nD τ sig (Elt F) Λ₀ .tc) α}
    (ho₁ : o₁ = offA d) (ho₂ : o₂ = offA d) (hw : w = up (act (rs m ρ c d 3)))
    (hs : SemLoc.dma sem = semOf (.copy d)) (hsM : srcM = accM d) (hdM : dstM = outM d c) :
    iprop(ctx m ρ K ∗ has c (accM d) (rs m ρ c d 3) ∗ hasAny c (outM d c) ∗ copyTok c d)
      ⊢ iprop(((due c (.copy d) ∗ at0 c (.copy d)) -∗ wp frame (wpE (defs₀ (F := F)) 𝒱₀ (c : Thread nD τ) none) Set.univ (k ⟨⟩) Q)
        -∗ wp frame (wpE (defs₀ (F := F)) 𝒱₀ (c : Thread nD τ) none) Set.univ
            (.op (.load accR (Rect.unit (s := S2x1024x1024) o₁ S1x1024x1024.size i₁).toLoadRect hl) fun _ =>
             .op (.store accR (Rect.unit (s := S2x1024x1024) o₂ S1x1024x1024.size i₂) w Finset.univ hx hm) fun _ =>
             .op (.enqueueDma srcM (.here dstM) (.dma sem) hsrc hdst hsem) k) Q) := by
  unfold copyTok
  iintro ⟨#HC, Ha, Ho, Ht, Hat⟩ Hk
  iapply (load_row c accR d ho₁ (rs m ρ c d 3)) $$ Ha; iintro Ha
  ihave Ha := (hasAny_intro c (accM d) _) $$ Ha
  iapply (store_row c accR d ho₂ (act (rs m ρ c d 3)) hw) $$ Ha; iintro Ha
  iapply (copy_out m ρ K c d hs hsM hdM) $$ [Ha Ho Ht]
  · isplitr; · iexact HC
    isplitl [Ha]; · iexact Ha
    isplitl [Ho]; · iexact Ho
    iexact Ht
  iintro Hd
  iapply Hk
  isplitl [Hd]; · iexact Hd
  iexact Hat

theorem out_eq {off off' : Fin 2 → ℕ} {inb inb'} (h : off = off') :
    outR.slice (Rect.unit (s := S4096x2048) off S1024x1024.size inb) (fun _ => rfl) = outR.slice (Rect.unit (s := S4096x2048) off' S1024x1024.size inb') (fun _ => rfl) := by
  subst h; rfl

/-- The left piece's activation, on its way into the result; the finished right piece read. -/
theorem part15 (c : Dev nD) (v2 : BitVec 32) (Kt : (Σ' (v405 : FVec F S1024x1024 .f32), FVec F S1024x1024 .f32) → sProp (MM F)) :
    iprop((ctx m ρ K ∗ has c (accM false) (rs m ρ c false 3) ∗ hasAny c (outM false c) ∗ copyTok c false ∗ has c (accM true) (rs m ρ c true 3))
        ∗ ((due c (.copy false) ∗ at0 c (.copy false) ∗ has c (accM true) (rs m ρ c true 3))
            -∗ Kt ⟨k0_pay20 (up (rs m ρ c true 3)), k0_pay21 (up (rs m ρ c true 3))⟩))
      ⊢ wp frame (wpE (defs₀ (F := F)) 𝒱₀ (c : Thread nD τ) none) Set.univ
          (k0_part15 (Memref.whole cc0_stg0_0) (Memref.isWhole_whole _) (Memref.whole cc0_stg1_0) (Memref.isWhole_whole _) (Memref.whole main_v1) (Memref.isWhole_whole _)
            accR (Memref.isWhole_whole _) locR (Memref.isWhole_whole _) comR (Memref.isWhole_whole _) cc0_scratch3 cc0_scratch4 cc0_scratch5 cc0_scoped0 c v2 (rs m ρ c false 3) (Scalar.ofBits .f32 0x00000000#32)) Kt := by
  simp only [k0_part15_eq_skeleton]; unfold k0_part15_skel
  simp only [semSignalWord, semWaitWord, Prog.lift, Prog.bind_op, Prog.bind_ret, Prog.pure_eq_ret, wp_deviceId]
  iintro ⟨⟨#HC, Ha, Ho, Ht, Hb⟩, Hk⟩
  iapply (finish m ρ K c false rfl rfl (pay19_eq _) rfl rfl (out_eq (off4_eq c))) $$ [Ha Ho Ht]
  · isplitr; · iexact HC
    isplitl [Ha]; · iexact Ha
    isplitl [Ho]; · iexact Ho
    iexact Ht
  iintro ⟨Hd, Hat⟩
  iapply (load_row c accR true rfl (rs m ρ c true 3)) $$ Hb; iintro Hb
  rw [wp_ret]; imodintro; iapply Hk
  isplitl [Hd]; · iexact Hd
  isplitl [Hat]; · iexact Hat
  iexact Hb

/-- The right piece's activation, on its way into the result; the left piece's copy waited for. -/
theorem part16 (c : Dev nD) (v2 : BitVec 32) (Kt : PUnit → sProp (MM F)) :
    iprop((ctx m ρ K ∗ has c (accM true) (rs m ρ c true 3) ∗ hasAny c (outM true c) ∗ copyTok c true ∗ due c (.copy false) ∗ at0 c (.copy false) ∗ owing c (rest 8))
        ∗ ((due c (.copy true) ∗ at0 c (.copy true) ∗ owing c (rest 8) ∗ done c (.copy false) ∗ gets m ρ c (.copy false)) -∗ Kt ⟨⟩))
      ⊢ wp frame (wpE (defs₀ (F := F)) 𝒱₀ (c : Thread nD τ) none) Set.univ
          (k0_part16 (Memref.whole cc0_stg0_0) (Memref.isWhole_whole _) (Memref.whole cc0_stg1_0) (Memref.isWhole_whole _) (Memref.whole main_v1) (Memref.isWhole_whole _)
            accR (Memref.isWhole_whole _) locR (Memref.isWhole_whole _) comR (Memref.isWhole_whole _) cc0_scratch3 cc0_scratch4 cc0_scratch5 cc0_scoped0 c v2 (k0_pay20 (up (rs m ρ c true 3))) (k0_pay21 (up (rs m ρ c true 3)))) Kt := by
  simp only [k0_part16_eq_skeleton]; unfold k0_part16_skel
  simp only [semSignalWord, semWaitWord, Prog.lift, Prog.bind_op, Prog.bind_ret, Prog.pure_eq_ret, wp_deviceId]
  iintro ⟨⟨#HC, Ha, Ho, Ht, Hd, Hat, HO⟩, Hk⟩
  iapply (finish m ρ K c true rfl rfl (pay22_eq _) rfl rfl (out_eq (off5_eq c))) $$ [Ha Ho Ht]
  · isplitr; · iexact HC
    isplitl [Ha]; · iexact Ha
    isplitl [Ho]; · iexact Ho
    iexact Ht
  iintro ⟨Hd', Hat'⟩
  iapply (wait_dma m ρ K c (.copy false) (rest 8) rfl ((congrArg (fun p : Memref sig .tc .hbm S1024x1024 .f32 => p.view.dmaCredit) (out_eq (off4_eq c))).trans (credit_out false c)) (by decide)) $$ [Hd HO Hat]
  · isplitr; · iexact HC
    isplitl [Hd]; · iexact Hd
    isplitl [HO]; · iexact HO
    iexact Hat
  iintro ⟨HO, Hz, Hp⟩
  rw [wp_ret]; imodintro; iapply Hk
  isplitl [Hd']; · iexact Hd'
  isplitl [Hat']; · iexact Hat'
  isplitl [HO]; · iexact HO
  isplitl [Hz]; · iexact Hz
  iexact Hp

end Cert.RingProof

end
-- ==== Proof.Whole.lean ====
/-
# A device's kernel

The sixteen stretches in order, then the exit barrier: what a device's kernel makes of its share of the protocol.
-/
module

public import proofs.«01_k».proof.Proof.Body

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)
variable (K : Dev nD × Kind → ℕ)

/-! ## What a device starts from and ends with -/

/-- What a device holds of the protocol before it starts. -/
def ghost0 (c : Dev nD) : sProp (MM F) :=
  iprop(barTok c .bar ∗ barTok c .bar2 ∗ (copyTok c false ∗ copyTok c true)
    ∗ (hopTok c false 0 ∗ hopTok c true 0) ∗ (hopTok c false 1 ∗ hopTok c true 1) ∗ (hopTok c false 2 ∗ hopTok c true 2))

/-- Its scratch buffers, in pieces. -/
def scratch (c : Dev nD) : sProp (MM F) :=
  iprop((hasAny c (accM false) ∗ hasAny c (accM true)) ∗ (hasAny c (locM false) ∗ hasAny c (locM true))
    ∗ (hasAny c (comM false false) ∗ hasAny c (comM false true) ∗ hasAny c (comM true false) ∗ hasAny c (comM true true)))

/-- The pieces of the result it finishes. -/
def finished (c : Dev nD) : sProp (MM F) :=
  iprop(has c (outM false c) (act (rs m ρ c false 3)) ∗ has c (outM true c) (act (rs m ρ c true 3)))

/-- All of its semaphores at zero. -/
def zeros (c : Dev nD) : sProp (MM F) :=
  iprop(done c .bar ∗ done c .bar2 ∗ (done c (.copy false) ∗ done c (.copy true))
    ∗ (hopEnd c false 0 ∗ hopEnd c true 0) ∗ (hopEnd c false 1 ∗ hopEnd c true 1) ∗ (hopEnd c false 2 ∗ hopEnd c true 2))

/-- What comes with hop 1's transfer: the sender's slot 0 of the other direction. -/
theorem extra_left (c : Dev nD) : (extra (src false c) false 1 : sProp (MM F)) = hasAny (prv c) (comM true (slot 2)) := extra_one _ _
theorem extra_right (c : Dev nD) : (extra (src true c) true 1 : sProp (MM F)) = hasAny (nxt c) (comM false (slot 2)) := extra_one _ _
theorem extra_send_left (c : Dev nD) : (extra c false 1 : sProp (MM F)) = hasAny c (comM true (slot 0)) := extra_one _ _
theorem extra_send_right (c : Dev nD) : (extra c true 1 : sProp (MM F)) = hasAny c (comM false (slot 0)) := extra_one _ _
theorem extra_last (c : Dev nD) (d : Bool) : (extra c d 2 : sProp (MM F)) = iprop(emp) := extra_ne _ _ (by decide)

/-- What a finished copy gives. -/
theorem gets_copy (c : Dev nD) (d : Bool) :
    gets m ρ c (.copy d) = iprop(has c (outM d c) (act (rs m ρ c d 3)) ∗ has c (accM d) (act (rs m ρ c d 3))) := rfl

/-! ## The kernel of one device -/

set_option maxHeartbeats 1000000 in
/-- From its share of the protocol, its scratch and the two pieces of the result, a device's kernel ends with the two pieces
    holding the activations of its finished sums, every semaphore at zero and nothing owed. -/
theorem sound_body (c : Dev nD) (Kt : PUnit → sProp (MM F)) :
    iprop((ctx m ρ K ∗ ghost0 c ∗ scratch c ∗ (hasAny c (outM false c) ∗ hasAny c (outM true c)) ∗ owing c debts ∗ xw m ρ c)
        ∗ ((xw m ρ c ∗ owing c [] ∗ scratch c ∗ finished m ρ c ∗ zeros c) -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole main_v1) (Memref.isWhole_whole _)
            accR (Memref.isWhole_whole _) locR (Memref.isWhole_whole _) comR (Memref.isWhole_whole _) cc0_scratch3 cc0_scratch4 cc0_scratch5 cc0_scoped0) Kt := by
  rw [cc0_body_eq_skeleton]; unfold cc0_body_skel ghost0 scratch
  iintro ⟨⟨#HC, ⟨Tb, Tb2, ⟨Tc0, Tc1⟩, ⟨T00, T10⟩, ⟨T01, T11⟩, ⟨T02, T12⟩⟩, ⟨⟨A0, A1⟩, ⟨L0, L1⟩, ⟨C00, C01, C10, C11⟩⟩, ⟨O0, O1⟩, HO, Hxw⟩, Hk⟩
  simp only [wp_bind]
  iapply (part1 m ρ c)
  isplitl [Hxw A0]
  · isplitl [Hxw]; · iexact Hxw
    iexact A0
  iintro %v2 %v13 %v24 ⟨Hxw, A0⟩
  dsimp only
  iapply (part2 m ρ K c _ _ _)
  isplitl [Hxw A0 A1 C00 C01 C10 C11 HO Tb T00]
  · isplitr; · iexact HC
    isplitl [Hxw]; · iexact Hxw
    isplitl [A0]; · iexact A0
    isplitl [A1]; · iexact A1
    isplitl [C00 C01]
    · isplitl [C00]; · iexact C00
      iexact C01
    isplitl [C10 C11]
    · isplitl [C10]; · iexact C10
      iexact C11
    isplitl [HO]; · iexact HO
    isplitl [Tb]; · iexact Tb
    iexact T00
  iintro ⟨Hxw, A1, HO, Zb, T00, N01, P10, P11⟩
  iapply (part3 m ρ K c _ _)
  isplitl [Hxw A1 P10 HO T10 L0]
  · isplitr; · iexact HC
    isplitl [Hxw]; · iexact Hxw
    isplitl [A1]; · iexact A1
    isplitl [P10]; · iexact P10
    isplitl [HO]; · iexact HO
    isplitl [T10]; · iexact T10
    iexact L0
  iintro %v89 ⟨Hxw, HO, T10, L0⟩
  dsimp only
  iapply (part4 m ρ c _ _)
  isplitl [Hxw L0 L1]
  · isplitl [Hxw]; · iexact Hxw
    isplitl [L0]; · iexact L0
    iexact L1
  iintro ⟨Hxw, L0, L1⟩
  iapply (part5 m ρ K c _)
  isplitl [T00 HO L0]
  · isplitr; · iexact HC
    isplitl [T00]; · iexact T00
    isplitl [HO]; · iexact HO
    iexact L0
  iintro ⟨T00, HO, A0, L0, C00, -⟩
  iapply (part6 m ρ K c _ _)
  isplitl [T10 HO L1]
  · isplitr; · iexact HC
    isplitl [T10]; · iexact T10
    isplitl [HO]; · iexact HO
    iexact L1
  iintro ⟨T10, HO, A1, L1, C10, -⟩
  ihave C10 := (Entails.of_eq (extra_send_left c).symm) $$ C10
  ihave C00 := (Entails.of_eq (extra_send_right c).symm) $$ C00
  iapply (part7 m ρ K c _ _)
  isplitl [Hxw A0 A1 N01 C10 P11 C00 HO T01 T11]
  · isplitr; · iexact HC
    isplitl [Hxw]; · iexact Hxw
    isplitl [A0]; · iexact A0
    isplitl [A1]; · iexact A1
    isplitl [N01 C10]
    · isplitl [N01]; · iexact N01
      iexact C10
    isplitl [P11 C00]
    · isplitl [P11]; · iexact P11
      iexact C00
    isplitl [HO]; · iexact HO
    isplitl [T01]; · iexact T01
    iexact T11
  iintro ⟨Hxw, HO, T01, T11⟩
  dsimp only
  iapply (part8 m ρ c _)
  isplitl [Hxw L0 L1]
  · isplitl [Hxw]; · iexact Hxw
    isplitl [L0]; · iexact L0
    iexact L1
  iintro ⟨Hxw, L0, L1⟩
  iapply (part9 m ρ K c _)
  isplitl [T01 HO L0]
  · isplitr; · iexact HC
    isplitl [T01]; · iexact T01
    isplitl [HO]; · iexact HO
    iexact L0
  iintro ⟨T01, HO, A0, L0, C01, P10⟩
  iapply (part10 m ρ K c _ _)
  isplitl [T11 HO L1]
  · isplitr; · iexact HC
    isplitl [T11]; · iexact T11
    isplitl [HO]; · iexact HO
    iexact L1
  iintro ⟨T11, HO, A1, L1, C11, N00⟩
  ihave P10 := (Entails.of_eq (extra_left c)) $$ P10
  ihave N00 := (Entails.of_eq (extra_right c)) $$ N00
  ihave E0 : extra c false 2 $$ []
  · rw [extra_last]; iempintro
  ihave E1 : extra c true 2 $$ []
  · rw [extra_last]; iempintro
  iapply (part11 m ρ K c _ _)
  isplitl [A0 A1 N00 E0 P10 E1 HO T02 T12]
  · isplitr; · iexact HC
    isplitl [A0]; · iexact A0
    isplitl [A1]; · iexact A1
    isplitl [N00 E0]
    · isplitl [N00]; · iexact N00
      iexact E0
    isplitl [P10 E1]
    · isplitl [P10]; · iexact P10
      iexact E1
    isplitl [HO]; · iexact HO
    isplitl [T02]; · iexact T02
    iexact T12
  iintro ⟨HO, T02, T12⟩
  iapply (part12 m ρ c _)
  isplitl [Hxw L0 L1]
  · isplitl [Hxw]; · iexact Hxw
    isplitl [L0]; · iexact L0
    iexact L1
  iintro ⟨Hxw, L0, L1⟩
  iapply (part13 m ρ K c _)
  isplitl [T02 HO L0]
  · isplitr; · iexact HC
    isplitl [T02]; · iexact T02
    isplitl [HO]; · iexact HO
    iexact L0
  iintro ⟨T02, HO, A0, L0, C00, -⟩
  iapply (part14 m ρ K c _)
  isplitl [T12 HO L1 A0]
  · isplitl [T12 HO L1]
    · isplitr; · iexact HC
      isplitl [T12]; · iexact T12
      isplitl [HO]; · iexact HO
      iexact L1
    iexact A0
  iintro ⟨⟨T12, HO, A1, L1, C10, -⟩, A0⟩
  dsimp only
  iapply (part15 m ρ K c _)
  isplitl [A0 O0 Tc0 A1]
  · isplitr; · iexact HC
    isplitl [A0]; · iexact A0
    isplitl [O0]; · iexact O0
    isplitl [Tc0]; · iexact Tc0
    iexact A1
  iintro ⟨D0, Q0, A1⟩
  dsimp only
  iapply (part16 m ρ K c _)
  isplitl [A1 O1 Tc1 D0 Q0 HO]
  · isplitr; · iexact HC
    isplitl [A1]; · iexact A1
    isplitl [O1]; · iexact O1
    isplitl [Tc1]; · iexact Tc1
    isplitl [D0]; · iexact D0
    isplitl [Q0]; · iexact Q0
    iexact HO
  iintro ⟨D1, Q1, HO, Zc0, G0⟩
  simp only [semSignalWord, semWaitWord, Prog.lift, Prog.bind_op, Prog.bind_ret, Prog.pure_eq_ret]
  iapply (wait_dma m ρ K c (.copy true) (rest 8) rfl (by rw [out_eq (off5_eq c)]; exact credit_out true c) (by decide)) $$ [D1 HO Q1]
  · isplitr; · iexact HC
    isplitl [D1]; · iexact D1
    isplitl [HO]; · iexact HO
    iexact Q1
  iintro ⟨HO, Zc1, G1⟩
  rw [wp_ret]; imodintro
  unfold barTok
  icases Tb2 with ⟨B1, B0, Qb, Db⟩
  iapply (signal_to m ρ K c .bar2 true (rest 9) (dev9_eq c) rfl rfl (by decide)) $$ [HO B1]
  · isplitr; · iexact HC
    isplitl [HO]; · iexact HO
    isplitl [B1]; · iexact B1
    unfold pay; iempintro
  iintro HO
  rw [wp_ret]; imodintro
  iapply (signal_to m ρ K c .bar2 false [] (dev10_eq c) rfl rfl (by decide)) $$ [HO B0]
  · isplitr; · iexact HC
    isplitl [HO]; · iexact HO
    isplitl [B0]; · iexact B0
    unfold pay; iempintro
  iintro HO
  rw [wp_ret]; imodintro
  iapply (wait_reg m ρ K c .bar2 [] rfl rfl (by decide)) $$ [Db HO Qb]
  · isplitr; · iexact HC
    isplitl [Db]; · iexact Db
    isplitl [HO]; · iexact HO
    iexact Qb
  iintro ⟨HO, Zb2, -⟩
  rw [wp_ret]; imodintro
  rw [wp_ret]
  imodintro
  ihave G0 := (Entails.of_eq (gets_copy m ρ c false)) $$ G0
  icases G0 with ⟨O0, A0⟩
  ihave G1 := (Entails.of_eq (gets_copy m ρ c true)) $$ G1
  icases G1 with ⟨O1, A1⟩
  iapply Hk
  unfold finished zeros
  isplitl [Hxw]; · iexact Hxw
  isplitl [HO]; · iexact HO
  isplitl [A0 A1 L0 L1 C00 C01 C10 C11]
  · isplitl [A0 A1]
    · isplitl [A0]; · iapply (hasAny_intro c (accM false) _); iexact A0
      iapply (hasAny_intro c (accM true) _); iexact A1
    isplitl [L0 L1]
    · isplitl [L0] <;> iassumption
    isplitl [C00]; · iexact C00
    isplitl [C01]; · iexact C01
    isplitl [C10]; · iexact C10
    iexact C11
  isplitl [O0 O1]
  · isplitl [O0] <;> iassumption
  isplitl [Zb]; · iexact Zb
  isplitl [Zb2]; · iexact Zb2
  isplitl [Zc0 Zc1]
  · isplitl [Zc0] <;> iassumption
  isplitl [T00 T10]
  · isplitl [T00] <;> iassumption
  isplitl [T01 T11]
  · isplitl [T01] <;> iassumption
  isplitl [T02] <;> iassumption

end Cert.RingProof

end
-- ==== Proof.Deal.lean ====
/-
# Dealing out the protocol

The launch mints the semaphores' ghost state in one piece; here it is dealt to the devices, each getting the tokens of the
contributions it makes itself and the credit for what it waits for.
-/
module

public import proofs.«01_k».proof.Proof.Whole

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## Whose contribution is whose -/

/-- The device in direction `d`, as a permutation. -/
def dstE (d : Bool) : Dev nD ≃ Dev nD := ⟨dst d, src d, fun c => src_dst d c, fun c => dst_src d c⟩

/-- The device to whose semaphore of kind `p.1` a device makes the contribution `p.2`. -/
def owner : Kind × Bool → Dev nD ≃ Dev nD
  | (.bar, d) => dstE (!d)
  | (.bar2, d) => dstE (!d)
  | (.recv d _, _) => dstE d
  | _ => Equiv.refl _

/-- The tokens of all contributions to device `c`'s semaphores; -/
def toks (c : Dev nD) : sProp (MM F) := bigSep Finset.univ fun p : Kind × Bool => tok c p.1 p.2
/-- those of the contributions it makes; -/
def payToks (c : Dev nD) : sProp (MM F) := bigSep Finset.univ fun p : Kind × Bool => tok (owner p c) p.1 p.2
/-- and the start of its semaphores' rounds. -/
def starts (c : Dev nD) : sProp (MM F) := bigSep Finset.univ fun k : Kind => at0 c k

theorem toks_around : (bigSep Finset.univ fun c : Dev nD => (toks c : sProp (MM F))) = bigSep Finset.univ fun c : Dev nD => payToks c := by
  unfold toks payToks
  rw [BI.bigSep_univ_comm]
  refine Eq.trans (bigSep_congr fun p _ => bigSep_univ_equiv (owner p) fun c : Dev nD => (tok c p.1 p.2 : sProp (MM F))) ?_
  rw [BI.bigSep_univ_comm]

/-! ## The credit -/

/-- What all devices together owe one semaphore. -/
theorem owed_sum (c : Dev nD) (k : Kind) : ∀ l : List (Bool × Kind),
    ∑ d : Dev nD, owe d l (cell c k) () = (l.map fun p => if p.2 = k then unit k else 0).sum
  | [] => Finset.sum_eq_zero fun d _ => rfl
  | p :: l => by
    rw [List.map_cons, List.sum_cons, ← owed_sum c k l, Nat.add_comm, ← Finset.sum_add_distrib.trans (congrArg _ ?_)]
    · exact Finset.sum_congr rfl fun d _ => rfl
    · show ∑ d : Dev nD, tallyAt (cell (dst p.1 d) p.2) () (unit p.2) (cell c k) () = _
      by_cases h : p.2 = k
      · rw [if_pos h, ← h, Fintype.sum_eq_single (src p.1 c)]
        · rw [tallyAt_apply, if_pos ⟨by rw [dst_src], rfl⟩]
        · intro d hd
          rw [tallyAt_apply, if_neg]
          rintro ⟨h1, _⟩
          exact hd (by rw [(cell_injective h1).1, src_dst])
      · rw [if_neg h]
        refine Finset.sum_eq_zero fun d _ => ?_
        rw [tallyAt_apply, if_neg]
        rintro ⟨h1, _⟩
        exact h (cell_injective h1).2.symm

/-- What a device is given for what the others owe it on its semaphore of kind `k`. -/
def inc (c : Dev nD) (k : Kind) : sProp (MM F) :=
  cred (tallyOn (cell c k) (launchCredit (Pipeline.owing fun d => owe d debts) 0 (cell c k)))

theorem inc_eq (c : Dev nD) (k : Kind) (h : (debts.map fun p => if p.2 = k then unit k else 0).sum = total k) :
    (inc c k : sProp (MM F)) = due c k := by
  unfold inc
  have e : tallyOn (cell c k) (launchCredit (Pipeline.owing fun d => owe d debts) 0 (cell c k)) = (tallyAt (cell c k) () (total k) : CellTallies nD τ sig Unit) := by
    unfold tallyAt; refine congrArg _ (Finsupp.ext fun u => ?_); cases u
    rw [Pipeline.launchCredit_owing, Finsupp.single_eq_same, owed_sum, h]
  rw [e]

theorem incs (c : Dev nD) : (Pipeline.launchCred (fun d => owe d debts) c : sProp (MM F)) ⊢ bigSep Finset.univ fun k : Kind => inc c k := by
  unfold Pipeline.launchCred
  exact (BI.bigSep_subset (Finset.subset_univ (Finset.univ.map ⟨semOf, semOf_injective⟩))).trans (Entails.of_eq (BI.bigSep_map _))

/-! ## A device's share -/

theorem bigSep_kinds (Φ : Kind → sProp (MM F)) : bigSep Finset.univ Φ = iprop(Φ .bar ∗ Φ .bar2 ∗ Φ (.copy false) ∗ Φ (.copy true) ∗ Φ (.send false 0) ∗ Φ (.send false 1) ∗ Φ (.send false 2) ∗
      Φ (.send true 0) ∗ Φ (.send true 1) ∗ Φ (.send true 2) ∗ Φ (.recv false 0) ∗ Φ (.recv false 1) ∗ Φ (.recv false 2) ∗
      Φ (.recv true 0) ∗ Φ (.recv true 1) ∗ Φ (.recv true 2)) :=
  bigSep_univ_eq_bigSepL allKinds (by decide +kernel) (by decide +kernel) Φ

theorem bigSep_pairs (Φ : Kind × Bool → sProp (MM F)) :
    bigSep Finset.univ Φ = bigSep Finset.univ fun k : Kind => iprop(Φ (k, false) ∗ Φ (k, true)) := by
  rw [bigSep_univ_prod]
  exact bigSep_congr fun k _ => bigSep_bool _

theorem sum_bar : (debts.map fun p => if p.2 = Kind.bar then unit .bar else 0).sum = total .bar := rfl
theorem sum_bar2 : (debts.map fun p => if p.2 = Kind.bar2 then unit .bar2 else 0).sum = total .bar2 := rfl
theorem sum_recv (d : Bool) (s : Fin 3) : (debts.map fun p => if p.2 = Kind.recv d s then unit (.recv d s) else 0).sum = total (.recv d s) := by
  revert d s
  simp [debts, unit, total, Fin.forall_fin_succ]

/-- The starts, the tokens and the credit are what the kernel's proof starts from. -/
theorem ghost_intro (c : Dev nD) : iprop(starts c ∗ payToks c ∗ bigSep Finset.univ (fun k : Kind => inc c k)) ⊢ (ghost0 c : sProp (MM F)) := by
  unfold starts payToks
  rw [bigSep_pairs, bigSep_kinds, bigSep_kinds, bigSep_kinds]
  unfold ghost0 barTok copyTok hopTok
  rw [← inc_eq c .bar sum_bar, ← inc_eq c .bar2 sum_bar2, ← inc_eq c (.recv false 0) (sum_recv _ _), ← inc_eq c (.recv false 1) (sum_recv _ _),
    ← inc_eq c (.recv false 2) (sum_recv _ _), ← inc_eq c (.recv true 0) (sum_recv _ _), ← inc_eq c (.recv true 1) (sum_recv _ _), ← inc_eq c (.recv true 2) (sum_recv _ _)]
  iintro ⟨⟨Ab, Ab2, Ac0, Ac1, As00, As01, As02, As10, As11, As12, Ar00, Ar01, Ar02, Ar10, Ar11, Ar12⟩,
    ⟨⟨Tb0, Tb1⟩, ⟨Te0, Te1⟩, ⟨Tc0, -⟩, ⟨Tc1, -⟩, ⟨Ts00, -⟩, ⟨Ts01, -⟩, ⟨Ts02, -⟩, ⟨Ts10, -⟩, ⟨Ts11, -⟩, ⟨Ts12, -⟩,
      ⟨Tr00, -⟩, ⟨Tr01, -⟩, ⟨Tr02, -⟩, ⟨Tr10, -⟩, ⟨Tr11, -⟩, ⟨Tr12, -⟩⟩,
    ⟨Db, Db2, -, -, -, -, -, -, -, -, Dr00, Dr01, Dr02, Dr10, Dr11, Dr12⟩⟩
  isplitl [Tb0 Tb1 Ab Db]
  · isplitl [Tb0]; · iexact Tb0
    isplitl [Tb1]; · iexact Tb1
    isplitl [Ab]; · iexact Ab
    iexact Db
  isplitl [Te0 Te1 Ab2 Db2]
  · isplitl [Te0]; · iexact Te0
    isplitl [Te1]; · iexact Te1
    isplitl [Ab2]; · iexact Ab2
    iexact Db2
  isplitl [Tc0 Ac0 Tc1 Ac1]
  · isplitl [Tc0 Ac0]
    · isplitl [Tc0]; · iexact Tc0
      iexact Ac0
    isplitl [Tc1]; · iexact Tc1
    iexact Ac1
  isplitl [Ts00 Tr00 As00 Ar00 Dr00 Ts10 Tr10 As10 Ar10 Dr10]
  · isplitl [Ts00 Tr00 As00 Ar00 Dr00]
    · isplitl [Ts00 Tr00]
      · isplitl [Ts00]; · iexact Ts00
        iexact Tr00
      isplitl [As00]; · iexact As00
      isplitl [Ar00]; · iexact Ar00
      iexact Dr00
    isplitl [Ts10 Tr10]
    · isplitl [Ts10]; · iexact Ts10
      iexact Tr10
    isplitl [As10]; · iexact As10
    isplitl [Ar10]; · iexact Ar10
    iexact Dr10
  isplitl [Ts01 Tr01 As01 Ar01 Dr01 Ts11 Tr11 As11 Ar11 Dr11]
  · isplitl [Ts01 Tr01 As01 Ar01 Dr01]
    · isplitl [Ts01 Tr01]
      · isplitl [Ts01]; · iexact Ts01
        iexact Tr01
      isplitl [As01]; · iexact As01
      isplitl [Ar01]; · iexact Ar01
      iexact Dr01
    isplitl [Ts11 Tr11]
    · isplitl [Ts11]; · iexact Ts11
      iexact Tr11
    isplitl [As11]; · iexact As11
    isplitl [Ar11]; · iexact Ar11
    iexact Dr11
  isplitl [Ts02 Tr02 As02 Ar02 Dr02]
  · isplitl [Ts02 Tr02]
    · isplitl [Ts02]; · iexact Ts02
      iexact Tr02
    isplitl [As02]; · iexact As02
    isplitl [Ar02]; · iexact Ar02
    iexact Dr02
  isplitl [Ts12 Tr12]
  · isplitl [Ts12]; · iexact Ts12
    iexact Tr12
  isplitl [As12]; · iexact As12
  isplitl [Ar12]; · iexact Ar12
  iexact Dr12

/-! ## The semaphores -/

/-- The kinds of semaphore that are the kernel's own: all but the runtime's barrier. -/
abbrev OwnKind : Type := {k : Kind // k ≠ .bar}
abbrev osem (k : OwnKind) : SemLoc sig := semOf k.1

theorem ownSemFacts : Pipeline.OwnSemFacts cfg0.spec osem := by decide +kernel

/-- The kernel's own semaphores, listed. -/
def ownKinds : List OwnKind :=
  [⟨.bar2, by decide⟩, ⟨.copy false, by decide⟩, ⟨.copy true, by decide⟩, ⟨.send false 0, by decide⟩, ⟨.send false 1, by decide⟩,
    ⟨.send false 2, by decide⟩, ⟨.send true 0, by decide⟩, ⟨.send true 1, by decide⟩, ⟨.send true 2, by decide⟩, ⟨.recv false 0, by decide⟩,
    ⟨.recv false 1, by decide⟩, ⟨.recv false 2, by decide⟩, ⟨.recv true 0, by decide⟩, ⟨.recv true 1, by decide⟩, ⟨.recv true 2, by decide⟩]

abbrev ownZeros (c : Dev nD) : sProp (MM F) := Pipeline.ownSems0 (Ix := Unit) (Name := ℕ) (U := UU) (Lvl := ℕ) (Val := Elt F) (τ := τ) osem c

theorem ownSems0_eq (c : Dev nD) : (ownZeros c : sProp (MM F)) = iprop(done c .bar2 ∗ done c (.copy false) ∗ done c (.copy true) ∗ done c (.send false 0) ∗ done c (.send false 1) ∗
      done c (.send false 2) ∗ done c (.send true 0) ∗ done c (.send true 1) ∗ done c (.send true 2) ∗ done c (.recv false 0) ∗
      done c (.recv false 1) ∗ done c (.recv false 2) ∗ done c (.recv true 0) ∗ done c (.recv true 1) ∗ done c (.recv true 2)) :=
  Pipeline.ownSems0_eq_of_list c osem ownKinds (by decide +kernel) (by decide +kernel)
/-- The barrier semaphore is the one unscoped semaphore. -/
theorem unscopedSems0_eq (c : Dev nD) : (unscopedSems0 c : sProp (MM F)) = done c .bar := by
  unfold unscopedSems0; rw [bigSep_eq_bigSepL_of_eq [semOf .bar] (by decide +kernel) (by decide)]; rfl

theorem sems0_eq (c : Dev nD) :
    iprop(ownZeros c ∗ unscopedSems0 c) ⊢ (bigSep Finset.univ fun k : Kind => done c k : sProp (MM F)) := by
  rw [ownSems0_eq, unscopedSems0_eq, bigSep_kinds]
  iintro ⟨H, HB⟩
  isplitl [HB]; · iexact HB
  iexact H

/-- The kernel's end state has them all at zero. -/
theorem zeros_exit (c : Dev nD) : (zeros c : sProp (MM F)) ⊢ iprop(unscopedSems0 c ∗ ownZeros c) := by
  rw [ownSems0_eq, unscopedSems0_eq]
  unfold zeros hopEnd
  iintro ⟨Hb, Hb2, ⟨Hc0, Hc1⟩, ⟨⟨S00, R00⟩, ⟨S10, R10⟩⟩, ⟨⟨S01, R01⟩, ⟨S11, R11⟩⟩, ⟨⟨S02, R02⟩, ⟨S12, R12⟩⟩⟩
  isplitl [Hb]; · iexact Hb
  isplitl [Hb2]; · iexact Hb2
  isplitl [Hc0]; · iexact Hc0
  isplitl [Hc1]; · iexact Hc1
  isplitl [S00]; · iexact S00
  isplitl [S01]; · iexact S01
  isplitl [S02]; · iexact S02
  isplitl [S10]; · iexact S10
  isplitl [S11]; · iexact S11
  isplitl [S12]; · iexact S12
  isplitl [R00]; · iexact R00
  isplitl [R01]; · iexact R01
  isplitl [R02]; · iexact R02
  isplitl [R10]; · iexact R10
  isplitl [R11]; · iexact R11
  iexact R12

/-! ## The ghost state -/

theorem cells_injective : Function.Injective (fun p : Dev nD × Kind => cell p.1 p.2) := fun p p' h =>
  Prod.ext (cell_injective h).1 (cell_injective h).2
def ringCells : Finset (GSem nD τ sig) := Finset.univ.map ⟨fun p : Dev nD × Kind => cell p.1 p.2, cells_injective⟩

abbrev tokOf (p : Dev nD × Kind × Bool) : GSem nD τ sig × ℕ × Bool := (cell p.1 p.2.1, 0, p.2.2)
theorem tokOf_injective : Function.Injective tokOf := fun p p' h => by
  have h1 := cell_injective (congrArg Prod.fst h)
  exact Prod.ext h1.1 (Prod.ext h1.2 (congrArg (fun x : GSem nD τ sig × ℕ × Bool => x.2.2) h))
def ringToks : Finset (GSem nD τ sig × ℕ × Bool) := Finset.univ.map ⟨tokOf, tokOf_injective⟩

/-- The ghost element the launch mints. -/
def u₀ : UU :=
  (initOf (Pipeline.cells cfgs cellOf_inj) (Pipeline.launchToks cfgs cellOf_inj), initOf ringCells ringToks)

/-- What it deals device `c`; -/
def G (c : Dev nD) : sProp (MM F) :=
  iprop((bigSep Finset.univ fun k : Kind => roundState ER (ringRd m ρ) (cell c k) 0)
    ∗ starts c ∗ (bigSep Finset.univ fun k : Kind => reached ER (cell c k) 0) ∗ toks c)

/-- and what each device has once the invariants are in place. -/
def G' (c : Dev nD) : sProp (MM F) := iprop(∃ K, recs m ρ K ∗ starts c ∗ payToks c)

theorem fund_ring : BI.own (ER (initOf ringCells ringToks)) ⊢ (|==> bigSep Finset.univ (G m ρ) : sProp (MM F)) := by
  have hX (Φ : GSem nD τ sig → sProp (MM F)) : bigSep ringCells Φ = bigSep Finset.univ fun c : Dev nD => bigSep Finset.univ fun k : Kind => Φ (cell c k) := by
    unfold ringCells; rw [BI.bigSep_map, bigSep_univ_prod]; rfl
  have hT : bigSep ringToks (fun x => (dutyTok ER x.1 x.2.1 x.2.2 : sProp (MM F))) = bigSep Finset.univ fun c : Dev nD => toks c := by
    unfold ringToks; rw [BI.bigSep_map, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem core_alloc (c : Dev nD) :
    iprop(ownZeros c ∗ unscopedSems0 c ∗ G m ρ c)
      ⊢ |={Set.univ}=> iprop((bigSep Finset.univ fun k : Kind => iprop(∃ κ : ℕ, cellInv ER (ringRd m ρ) κ (cell c k)))
          ∗ (bigSep Finset.univ fun k : Kind => reached ER (cell c k) 0) ∗ starts c ∗ toks c) := by
  unfold G
  iintro ⟨Hos, Hus, Hst, Hat, Hr, Htok⟩
  ihave Hv := (sems0_eq (F := F) c) $$ [Hos Hus]
  · isplitl [Hos] <;> iassumption
  imod (show iprop((bigSep Finset.univ fun k : Kind => done c k) ∗ bigSep Finset.univ fun k : Kind => roundState ER (ringRd m ρ) (cell c k) 0)
      ⊢ (|={Set.univ}=> bigSep Finset.univ fun k : Kind => iprop(∃ κ : ℕ, cellInv ER (ringRd m ρ) κ (cell c k)) : sProp (MM F)) from by
        rw [← bigSep_sep']
        exact (bigSep_mono fun k _ => (Rounds.body_intro ER (ringRd m ρ) (cell c k)).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

theorem bigSep_with_persistent {I : Type} [DecidableEq I] {S : Finset I} {R : sProp (MM F)} [BI.Persistent R] {Φ Ψ : I → sProp (MM F)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem recs_eq (K : Dev nD × Kind → ℕ) : recs m ρ K
    = iprop((bigSep Finset.univ fun p : Dev nD × Kind => cellInv ER (ringRd m ρ) (K p) (cell p.1 p.2)) ∗ bigSep Finset.univ fun p : Dev nD × Kind => reached ER (cell p.1 p.2) 0) := by
  unfold recs rec1; rw [bigSep_sep']

theorem regroup :
    (bigSep Finset.univ fun c : Dev nD => iprop((bigSep Finset.univ fun k : Kind => iprop(∃ κ : ℕ, cellInv ER (ringRd m ρ) κ (cell c k)))
          ∗ (bigSep Finset.univ fun k : Kind => reached ER (cell c k) 0) ∗ starts c ∗ toks c) : sProp (MM F))
      ⊢ bigSep Finset.univ (G' m ρ) := by
  rw [bigSep_sep', bigSep_sep', bigSep_sep', ← bigSep_univ_prod (fun p : Dev nD × Kind => iprop(∃ κ : ℕ, cellInv ER (ringRd m ρ) κ (cell p.1 p.2))),
    ← bigSep_univ_prod (fun p : Dev nD × Kind => (reached ER (cell p.1 p.2) 0 : sProp (MM F))), toks_around]
  iintro ⟨HI, #HR, Hat, Htok⟩
  ihave HK := (BI.bigSep_exists_pi Finset.univ (fun (p : Dev nD × Kind) (κ : ℕ) => (cellInv ER (ringRd m ρ) κ (cell p.1 p.2) : sProp (MM F)))) $$ HI
  icases HK with ⟨%K, #HI⟩
  iapply (bigSep_with_persistent (R := recs m ρ K) (Φ := fun c => iprop(starts c ∗ payToks c)) fun c _ => show _ ⊢ G' m ρ c by
    unfold G'; iintro ⟨#H, H1, H2⟩; iexists K; isplitr; · iexact H
    isplitl [H1] <;> iassumption)
  isplitr
  · rw [recs_eq]; isplitl; · iexact HI
    iexact HR
  · rw [bigSep_sep']
    isplitl [Hat] <;> iassumption

/-- All devices' semaphores at once into the protocol. -/
theorem glob : (bigSep Finset.univ fun c => iprop(ownZeros c ∗ unscopedSems0 c ∗ G m ρ c) : sProp (MM F))
    ⊢ |={Set.univ}=> bigSep Finset.univ (G' m ρ) :=
  ((bigSep_mono fun c _ => core_alloc m ρ c).trans (bigSep_fupd _ _)).trans (BI.fupd_mono (regroup m ρ))

end Cert.RingProof

end
-- ==== Proof.Launch.lean ====
/-
# The run

The four devices' kernels under one launch: every weakly fair execution ends, with each device's two finished pieces in
its result, its arguments unchanged and every semaphore at zero.
-/
module

public import Idealize.ShloMosaic.Lib.Pipeline.CollectiveSegs
public import proofs.«01_k».proof.Proof.Deal

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The data of the launch -/

/-- What a device holds before the launch gives it its scratch. -/
def start (c : Dev nD) : sProp (MM F) :=
  iprop((∃ K, ctx m ρ K) ∗ ghost0 c ∗ (hasAny c (outM false c) ∗ hasAny c (outM true c)))

def Φ₀ (c : Dev nD) : sProp (MM F) := iprop(start m ρ c ∗ scratch c)
def Φ₁ (c : Dev nD) : sProp (MM F) := iprop(scratch c ∗ finished m ρ c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => wAt m ρ c
  Φ t := match t with
    | ⟨0, _⟩ => Φ₀ m ρ c
    | ⟨_ + 1, _⟩ => Φ₁ m ρ c
  q _ := fullShare
  owed t := match t with
    | ⟨0, _⟩ => owe c debts
    | ⟨_ + 1, _⟩ => 0

theorem share_eq (c : Dev nD) (w : Fin cfg0.W) : (dats m ρ 0 c).share w = fullShare := by unfold Dat.share; split <;> rfl

theorem before_x (c : Dev nD) (d) : (dats m ρ 0 c).before (0 : Fin 2) t0_0 d = xAt m ρ c := by
  unfold Dat.before; rw [if_pos (fetch0_0 t0_0)]; rfl
theorem before_w (c : Dev nD) (d) : (dats m ρ 0 c).before (1 : Fin 2) t0_0 d = wAt m ρ c := by
  unfold Dat.before; rw [if_pos (fetch0_1 t0_0)]; rfl

/-! ## One device -/

def bodyPre (c : Dev nD) : sProp (MM F) :=
  iprop(Φ₀ m ρ c ∗ (dats m ρ 0 c).owesAt () t0_0.castSucc
    ∗ (∃ d, has c (Memref.whole cc0_stg0_0) ((dats m ρ 0 c).before (0 : Fin 2) t0_0 d))
    ∗ (∃ d, has c (Memref.whole cc0_stg1_0) ((dats m ρ 0 c).before (1 : Fin 2) t0_0 d)))
def bodyPost (c : Dev nD) : sProp (MM F) :=
  iprop(Φ₁ m ρ c ∗ (dats m ρ 0 c).owesAt () t0_0.succ
    ∗ has c (Memref.whole cc0_stg0_0) (xAt m ρ c) ∗ has c (Memref.whole cc0_stg1_0) (wAt m ρ c))

theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole main_v1) (Memref.isWhole_whole _)
      accR (Memref.isWhole_whole _) locR (Memref.isWhole_whole _) comR (Memref.isWhole_whole _) cc0_scratch3 cc0_scratch4 cc0_scratch5 cc0_scoped0) (fun _ => bodyPost m ρ c)
  unfold bodyPre Φ₀ start Dat.owesAt Pipeline.owesWithin
  iintro ⟨⟨⟨⟨%K, Hctx⟩, Hg, Hout⟩, Hscr⟩, ⟨%W, %hW, HO⟩, ⟨%d, Hx⟩, ⟨%d', Hw⟩⟩
  rw [before_x, before_w]
  iapply (sound_body m ρ K c fun _ => bodyPost m ρ c)
  isplitl [Hctx Hg Hout Hscr HO Hx Hw]
  · isplitl [Hctx]; · iexact Hctx
    isplitl [Hg]; · iexact Hg
    isplitl [Hscr]; · iexact Hscr
    isplitl [Hout]; · iexact Hout
    isplitl [HO]; · unfold owing; iexists W; iexact HO
    unfold xw
    isplitl [Hx] <;> iassumption
  · unfold xw bodyPost Φ₁ owing Dat.owesAt Pipeline.owesWithin
    iintro ⟨⟨Hx, Hw⟩, ⟨%W', HO⟩, Hscr, Hfin, Hz⟩
    isplitl [Hscr Hfin Hz]
    · isplitl [Hscr]; · iexact Hscr
      isplitl [Hfin] <;> iassumption
    isplitl [HO]
    · iexists W'
      isplitr; · ipureintro; exact fun _ _ => Or.inl trivial
      iexact HO
    isplitl [Hx] <;> iassumption

/-! ## The launch's side conditions -/

theorem start_intro (c : Dev nD) :
    iprop(Pipeline.unscopedRestP Pipeline.Prefetch.none cfg0.spec c (fun b => m ((c : Thread nD τ).loc b)) ∗ levAts L lv
        ∗ Pipeline.launchCred (fun d => owe d debts) c ∗ prngReg c (ρ c) ∗ G' m ρ c)
      ⊢ |={Set.univ}=> iprop(start m ρ c ∗ emp) := by
  have e : (Pipeline.unscopedRestP Pipeline.Prefetch.none cfg0.spec c (fun b => m ((c : Thread nD τ).loc b)) : sProp (MM F))
      = (((c : Thread nD τ).loc main_v1) ↦{fullShare} m ((c : Thread nD τ).loc main_v1)) := by
    rw [Pipeline.unscopedRestP_none]; exact unscopedRest0_eq c _
  rw [e]
  unfold G' start ctx
  iintro ⟨Hout, Hlev, Hcr, -, ⟨%K, Hrecs, Hst, Htok⟩⟩
  ihave Hinc := (incs (F := F) c) $$ Hcr
  ihave Hg := (ghost_intro (F := F) c) $$ [Hst Htok Hinc]
  · isplitl [Hst]; · iexact Hst
    isplitl [Htok] <;> iassumption
  ihave Ho := (out_split c _) $$ Hout
  imodintro
  isplitl
  · isplitl [Hrecs Hlev]
    · iexists K
      isplitl [Hrecs] <;> iassumption
    isplitl [Hg] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (Pipeline.scopedRest cfg0.spec c : sProp (MM F)) = _ from scopedRest0_eq c]
  unfold Φ₀ scratch
  iintro ⟨Hs, -, Ha, Hl, Hc⟩
  isplitl [Hs]; · iexact Hs
  isplitl [Ha]; · iapply (acc_split c); iexact Ha
  isplitl [Hl]; · iapply (loc_split c); iexact Hl
  iapply (com_split c); iexact Hc

/-- What a device's run leaves: its finished pieces and the barrier semaphore. -/
def left (c : Dev nD) : sProp (MM F) := iprop(finished m ρ c ∗ unscopedSems0 c)

theorem phi1_exit (c : Dev nD) :
    (dats m ρ 0 c).Φ (Fin.last cfg0.N) ⊢ iprop(left m ρ c ∗ ownZeros c ∗ Pipeline.scopedRest cfg0.spec c) := by
  rw [show (dats m ρ 0 c).Φ (Fin.last cfg0.N) = Φ₁ m ρ c from rfl, show (Pipeline.scopedRest cfg0.spec c : sProp (MM F)) = _ from scopedRest0_eq c]
  unfold Φ₁ scratch left
  iintro ⟨⟨Ha, Hl, Hc⟩, Hf, Hz⟩
  ihave Hz := (zeros_exit (F := F) c) $$ Hz
  icases Hz with ⟨Hu, Ho⟩
  isplitl [Hf Hu]
  · isplitl [Hf] <;> iassumption
  isplitl [Ho]; · iexact Ho
  isplitl [Ha]; · iapply (acc_join c); iexact Ha
  isplitl [Hl]; · iapply (loc_join c); iexact Hl
  iapply (com_join c); iexact Hc

/-- The staging semaphores are at level 0, below everything owed. -/
theorem waits (c : Dev nD) : (levAts L lv : sProp (MM F)) ⊢ Pipeline.cellsWaits cfgs (dats m ρ) () 0 c :=
  Pipeline.cellsWaits_intro cfgs (dats m ρ) () 0 c fun w s t => by
    have hn : lv ((c : Thread nD τ), .dma ((cfg0.win w).sem s)) () ≤ 0 := by
      show (match kindOf (.dma ((cfg0.win w).sem s)) with | .some k => lvl k | none => 0) ≤ 0
      clear t; revert w s; decide +kernel
    rcases t with ⟨_ | _, ht⟩
    · exact mayWait_below c _ 0 hn debts (by decide)
    · exact mayWait_below c _ 0 hn [] (by decide)

/-! ## Reading the end state -/

/-- A piece a device holds is what memory holds there. -/
theorem has_read (c : Dev nD) {sp : Space} {s : Shape} {e : EltTy} (p : Memref sig .tc sp s e) (X : s.Idx → Elt F e) (s' : Phys nD τ sig (Elt F)) :
    iprop(has c p X ∗ SI s') ⊢ (⌜p.view.read (Elt F) (s'.mem.mem (p.view.loc (c : Thread nD τ))) = X⌝ : sProp (MM F)) := by
  unfold has owns
  iintro ⟨⟨%f, %hf, H⟩, HSI⟩
  ihave %h := (SI_pointsTo_agree) $$ [H HSI]
  · isplitl [HSI] <;> iassumption
  ipureintro
  rw [← hf]
  exact View.read_congr h

/-- What is known of device `c` at the end: its pieces of the result and its unscoped semaphore. -/
def endAt (c : Dev nD) (s : MemSt nD τ sig (Elt F)) : Prop :=
  (∀ d, (outM d c).view.read (Elt F) (s.mem ((c : Thread nD τ).loc main_v1)) = act (rs m ρ c d 3))
    ∧ ∀ sm : SemLoc sig, sm.isScoped .tc = false → s.sem ((c.tc : Thread nD τ), sm) = 0

theorem left_read (c : Dev nD) (s' : Phys nD τ sig (Elt F)) :
    iprop(left m ρ c ∗ emp ∗ SI s') ⊢ |={Set.univ}=> (iprop(⌜endAt m ρ c s'.mem⌝ ∗ SI s') : sProp (MM F)) := by
  unfold left finished
  iintro ⟨⟨⟨H0, H1⟩, Hu⟩, -, HSI⟩
  ihave %h0 := (has_read c (outM false c) _ s') $$ [H0 HSI]
  · isplitl [H0] <;> iassumption
  ihave %h1 := (has_read c (outM true c) _ s') $$ [H1 HSI]
  · isplitl [H1] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨fun d => by cases d; exacts [h0, h1], hs⟩
  iexact HSI

/-! ## The run -/

/-- Every device's arguments as they were, and its finished pieces in the result. -/
def ends (r : PUnit × MemSt nD τ sig (Elt F)) : Prop := ∀ c : Dev nD,
  r.2.mem ((c : Thread nD τ).loc main_arg0) = m ((c : Thread nD τ).loc main_arg0)
    ∧ r.2.mem ((c : Thread nD τ).loc main_arg1) = m ((c : Thread nD τ).loc main_arg1)
    ∧ ∀ d, (outM d c).view.read (Elt F) (r.2.mem ((c : Thread nD τ).loc main_v1)) = act (rs m ρ c d 3)

set_option maxRecDepth 8000 in
/-- From any memory with every semaphore at zero, every weakly fair execution of the four devices ends as `ends` says, with
    every semaphore at zero. -/
theorem run_main : θ_run defs (onTc (τ := τ) (main (F := F))) (s₀ m ρ) (fun r => ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owe d debts) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := left m ρ) (Z := fun _ => iprop(emp))
    (hX := start_intro m ρ) (hin := phi0_intro m ρ) (hout := phi1_exit m ρ)
    (QY := endAt m ρ) (hY := left_read m ρ)
    (hQ := fun _ h hs => ⟨fun c => ⟨((h c).1 (0 : Fin 2)).trans ((dats m ρ 0 c).arrAt_in (0 : Fin 2) rfl _),
      ((h c).1 (1 : Fin 2)).trans ((dats m ρ 0 c).arrAt_in (1 : Fin 2) rfl _), (h c).2.2.1⟩, sem_eq_zero hs fun c => (h c).2.2.2⟩)

end Cert.RingProof

end
-- ==== Proof.Frames.lean ====
/-
# The frames

Each program runs to its end without a fault, leaves its arguments as they were and every semaphore at zero. For the
kernel this is the run of Launch.lean with the result dropped, over the words and over the extended reals alike, the two
programs being one text; for the reference it is the generated run, and there are no semaphores.
-/
module

public import proofs.«01_k».proof.Defs
public import proofs.«01_k».proof.Proof.Launch
public import proofs.«01_k».proof.Proof.Gen.Kernel
public import proofs.«01_k».proof.Proof.Gen.ReferenceIdeal.Run
public import proofs.«01_k».proof.Proof.Gen.Pre_bounded_KernelIdeal
public import proofs.«01_k».proof.Proof.Gen.Pre_bounded_ReferenceIdeal

@[expose] public section

noncomputable section

namespace Cert.RingProof

open Idealize.ShloMosaic Idealize.SL.Sem

set_option maxRecDepth 65536 in
/-- The two programs' kernel functions are the same; -/
theorem bodies_eq : Cert.Kernel.defs₀ (F := Bits) = Cert.KernelIdeal.defs₀ (F := Bits) := by
  unfold Cert.Kernel.defs₀ Cert.KernelIdeal.defs₀
  congr 1
  funext r x
  match r, x with
  | 0, (t, s) => rfl

/-- hence so are their tables of bodies. -/
theorem tables_eq : Cert.Kernel.defs (F := Bits) = Cert.KernelIdeal.defs (F := Bits) :=
  congrArg (Pipeline.defs (Cert.KernelIdeal.pcfgs (F := Bits))) bodies_eq

/-- The idealized kernel's frame, -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- the same under the precondition, which it does not need, -/
theorem frame_ideal_bounded : Cert.quiescent_KernelIdeal_pre_bounded_KernelIdeal := fun m ρ _ => frame_ideal m ρ trivial

/-- the kernel's own, -/
theorem frame_kernel : Cert.quiescent_Kernel := fun m ρ _ => by
  rw [tables_eq]
  exact (θ_run Cert.KernelIdeal.defs _ _).mono (fun _ h => ⟨fun c => ⟨(h.1 c).1, (h.1 c).2.1⟩, h.2⟩) (run_main (F := Bits) m ρ)

/-- and the reference's, -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- again also under the precondition. -/
theorem frame_reference_bounded : Cert.quiescent_ReferenceIdeal_pre_bounded_ReferenceIdeal := fun m ρ _ =>
  frame_reference m ρ trivial

end Cert.RingProof

end
-- ==== Proof.Scalars.lean ====
/-
# One element, over the extended reals

The kernel's `y * (1 / (1 + exp (0 - y)))` and the reference's `y / (1 + exp (-clip (y, -60, 60)))` are one number where
the sum `y` of four partial products lies in [-60, 60]; the four lie in [-15, 15] each by the precondition. And the four
sums over 1024 columns each are the one over 4096.
-/
module

public import Idealize.ShloMosaic.Lib.Pointwise
public import Idealize.ShloMosaic.Lib.IdealHost
public import Mathlib.Tactic.Linarith

@[expose] public section

noncomputable section

namespace Cert.RingProof

open Idealize.ShloMosaic

/-- The float words of the reference's clip and of the precondition's bound. -/
theorem word_sixty : Ideal.ofBits .f32 0x42700000#32 = ((60 : ℝ) : EReal) := by
  simp [Ideal.ofBits, Ideal.ieee, -EReal.coe_mul]; norm_num
theorem word_minus_sixty : Ideal.ofBits .f32 0xC2700000#32 = ((-60 : ℝ) : EReal) := by
  simp [Ideal.ofBits, Ideal.ieee, -EReal.coe_mul, -EReal.coe_neg]; norm_num
theorem word_fifteen : Ideal.ofBits .f32 0x41700000#32 = ((15 : ℝ) : EReal) := by
  simp [Ideal.ofBits, Ideal.ieee, -EReal.coe_mul]; norm_num

/-- What the precondition says of one partial product: it is a real number of absolute value at most 15. -/
theorem real_of_bounded {p : EReal} (h : BitVec.ofBool (decide (max p (-p) ≤ ((15 : ℝ) : EReal))) = 1#1) :
    ∃ q : ℝ, p = (q : EReal) ∧ |q| ≤ 15 := by
  have h' : max p (-p) ≤ ((15 : ℝ) : EReal) := by
    by_contra hn
    rw [decide_eq_false hn] at h
    exact absurd h (by decide)
  induction p using EReal.rec with
  | bot => simp at h'
  | top => simp at h'
  | coe q =>
    refine ⟨q, rfl, ?_⟩
    rw [← EReal.coe_neg, max_le_iff, EReal.coe_le_coe_iff, EReal.coe_le_coe_iff] at h'
    exact abs_le.2 ⟨by linarith [h'.2], h'.1⟩

/-- The kernel's element is the reference's, where the clip does nothing. -/
theorem silu_eq (y : ℝ) (hy : |y| ≤ 60) :
    (y : EReal) * Ideal.div 1 (1 + Ideal.exp (0 - (y : EReal)))
      = Ideal.div (y : EReal) (1 + Ideal.exp (-min ((60 : ℝ) : EReal) (max ((-60 : ℝ) : EReal) (y : EReal)))) := by
  obtain ⟨h1, h2⟩ := abs_le.1 hy
  rw [max_eq_right (EReal.coe_le_coe_iff.2 h1), min_eq_right (EReal.coe_le_coe_iff.2 h2), zero_sub, ← EReal.coe_neg]
  have he : (1 : EReal) + Ideal.exp ((-y : ℝ) : EReal) = ((1 + Real.exp (-y) : ℝ) : EReal) := by
    rw [EReal.coe_add]; rfl
  have hp : (1 + Real.exp (-y)) ≠ 0 := by positivity
  rw [he, Ideal.div_coe hp, Ideal.div_coe hp, one_mul]

/-- A sum over 4096 columns, in four runs of 1024. -/
theorem sum_four (g : Fin 4096 → EReal) :
    ∑ k : Fin 4096, g k = ∑ e : Fin 4, ∑ k : Fin 1024, g ⟨e.val * 1024 + k.val, by omega⟩ := by
  rw [← Fintype.sum_prod_type' (f := fun (e : Fin 4) (k : Fin 1024) => g ⟨e.val * 1024 + k.val, by omega⟩)]
  refine (Equiv.sum_comp (finProdFinEquiv (m := 4) (n := 1024)) (fun k : Fin (4 * 1024) => g k)).symm.trans ?_
  refine Finset.sum_congr rfl fun p _ => congrArg g (Fin.ext ?_)
  show p.2.val + 1024 * p.1.val = p.1.val * 1024 + p.2.val
  ring

end Cert.RingProof

end
-- ==== Proof.Mask.lean ====
/-
# What the mask says

The mask of the statement at the reference's row `r` and column `l`: the chunk of 1024 rows that `r` lies in, counted within
device `r / 4096`'s array, is the next device's on the left 1024 columns and the previous device's on the right ones.
-/
module

public import proofs.«01_k».proof.On_finished
public import proofs.«01_k».proof.Proof.Gen.On_finished
public import Idealize.ShloMosaic.Lib.Pointwise
public import Idealize.ShloMosaic.Lib.Routing.Words
public import Idealize.ShloMosaic.Lib.WordCmp

@[expose] public section

noncomputable section

namespace Cert.RingProof

open Idealize.ShloMosaic Cert.On_finished

/-- Where the mask is set, the row's chunk is the next device's (left columns) or the previous one's (right columns). -/
theorem mask_at {F : FTy → Type} [FloatOps F] (x : FVec F S4096x4096 .f32) (w : FVec F S4096x2048 .f32) (r : Fin 16384) (l : Fin 2048)
    (h : Cert.On_finished.fn (F := F) x w (ix2 r l) = 1#1) :
    r.val / 1024 % 4 = (r.val / 4096 + if l.val < 1024 then 1 else 3) % 4 := by
  have hr := r.isLt
  have hl := l.isLt
  pointwise [Cert.On_finished.fn, Cert.On_finished.fn_part1, Cert.On_finished.fn_where] at h
  have hd : ∀ k : ℕ, 0 < k → k < 2 ^ 31 → IntOp.divsi ArithUnit.host (BitVec.ofNat 32 r.val) (BitVec.ofNat 32 k) = BitVec.ofNat 32 (r.val / k) :=
    fun k h0 hk => Routing.divsi_word _ (by omega) h0 hk
  have hm : ∀ a : ℕ, a < 2 ^ 31 → IntOp.remsi ArithUnit.host (BitVec.ofNat 32 a) 4#32 = BitVec.ofNat 32 (a % 4) :=
    fun a ha => Routing.remsi_word _ ha (by decide) (by decide)
  have ha : ∀ a b : ℕ, IntOp.addi (BitVec.ofNat 32 a) (BitVec.ofNat 32 b) = BitVec.ofNat 32 (a + b) := fun a b => (BitVec.ofNat_add a b).symm
  rw [hd 1024 (by decide) (by decide), hd 4096 (by decide) (by decide), hm _ (by omega), ha, ha, WordCmp.cmpi_slt_ofNat (by omega) (by decide), WordCmp.select_ofBool] at h
  by_cases hlt : l.val < 1024
  · rw [if_pos hlt]
    rw [if_pos (decide_eq_true hlt), hm _ (by omega), WordCmp.cmpi_eq_ofNat_eq_one_iff (by omega) (by omega)] at h
    exact h
  · rw [if_neg hlt]
    rw [if_neg (by rw [decide_eq_true_eq]; exact hlt), hm _ (by omega), WordCmp.cmpi_eq_ofNat_eq_one_iff (by omega) (by omega)] at h
    exact h

end Cert.RingProof

end
-- ==== Proof.Value.lean ====
/-
# What a device has finished is its piece of the reference

Over the extended reals: a partial product at an element is the sum over the device's 1024 columns of `x`; the partial sum
after three hops is the sum over all four devices; hence the whole contraction of the reference at the element of the
finished chunk; and the kernel's activation of it is the reference's by the precondition.
-/
module

public import proofs.«01_k».proof.Defs
public import proofs.«01_k».proof.Proof.Launch
public import proofs.«01_k».proof.Proof.Scalars
public import proofs.«01_k».proof.Proof.Mask
public import proofs.«01_k».proof.Proof.Gen.ReferenceIdeal
public import proofs.«01_k».proof.Proof.Gen.ReferenceIdeal.Run
public import proofs.«01_k».proof.Proof.Gen.Pre_bounded_KernelIdeal
public import Idealize.ShloMosaic.Lib.Layout

@[expose] public section

noncomputable section

namespace Cert.RingProof

open Cert.KernelIdeal Cert.KernelIdeal.Gen

open Idealize.ShloMosaic Idealize.SL.Sem
open Idealize.ShloMosaic.TcCoe

variable (m : (ℓ : Loc nD τ sig) → Buf (Elt Ideal) ℓ) (ρ : Dev nD → PrngReg)

/-- The first column that direction `d` works on. -/
abbrev colOf (d : Bool) : ℕ := match d with | false => 0 | true => 1024
theorem colOf_lt (d : Bool) (b : Fin 1024) : colOf d + b.val < 2048 := by
  have := b.isLt; cases d <;> simp only [colOf] <;> omega
theorem rowOf_lt (i : Dev nD) (a : Fin 1024) : 1024 * i.val + a.val < 4096 := by
  have h := i.isLt; have := a.isLt; change i.val < 4 at h; omega

/-- The window of `x` is the whole of the device's block; -/
theorem xAt_eq (c : Dev nD) (i : S4096x1024.Idx) : xAt m ρ c i = m ((c : Thread nD τ).loc main_arg0) i := by
  show m ((c : Thread nD τ).loc main_arg0) ((win0_0.blk (0 : Fin 1)).view.emb i) = _
  congr 1
  funext a
  apply Fin.ext
  show 0 * S4096x1024.size a + 1 * (i a).val = (i a).val
  omega
/-- so is that of `w`. -/
theorem wAt_eq (c : Dev nD) (i : S1024x2048.Idx) : wAt m ρ c i = m ((c : Thread nD τ).loc main_arg1) i := by
  show m ((c : Thread nD τ).loc main_arg1) ((win0_1.blk (0 : Fin 1)).view.emb i) = _
  congr 1
  funext a
  apply Fin.ext
  show 0 * S1024x2048.size a + 1 * (i a).val = (i a).val
  omega

/-- Where the pieces of `x` and `w` lie. -/
theorem rectX_ix (q : Dev nD) (a k : Fin 1024) : (rectX q).emb (ix2 a k) = ix2 ⟨1024 * q.val + a.val, rowOf_lt q a⟩ k := by
  funext x
  apply Fin.ext
  rw [Rect.emb_apply]
  fin_cases x
  · show 1024 * q.val + 1 * a.val = 1024 * q.val + a.val
    omega
  · show 0 + 1 * k.val = k.val
    omega
theorem rectW_ix (d : Bool) (k b : Fin 1024) : (rectW d).emb (ix2 k b) = ix2 k ⟨colOf d + b.val, colOf_lt d b⟩ := by
  funext x
  apply Fin.ext
  rw [Rect.emb_apply]
  cases d <;> fin_cases x
  · show 0 + 1 * k.val = k.val
    omega
  · show 0 + 1 * b.val = 0 + b.val
    omega
  · show 0 + 1 * k.val = k.val
    omega
  · show 1024 + 1 * b.val = 1024 + b.val
    omega

/-- What device `c`'s memory holds of `x` and of `w`, as arrays of extended reals. -/
abbrev xOf (c : Dev nD) : S4096x1024.Idx → EReal := m ((c : Thread nD τ).loc main_arg0)
abbrev wOf (c : Dev nD) : S1024x2048.Idx → EReal := m ((c : Thread nD τ).loc main_arg1)

/-- A partial product at an element. -/
theorem gemm_at (c : Dev nD) (d : Bool) (q : Dev nD) (a b : Fin 1024) :
    gemm m ρ c d q (ix2 a b) = ∑ k : Fin 1024, xOf m c (ix2 ⟨1024 * q.val + a.val, rowOf_lt q a⟩ k)
      * wOf m c (ix2 k ⟨colOf d + b.val, colOf_lt d b⟩) := by
  unfold gemm mm
  pointwise [xChunk, wCols]
  simp only [rectX_ix, rectW_ix, xAt_eq, wAt_eq]

/-- Three steps around the ring meet every device: a sum over the four in that order. -/
theorem sum_ring (d : Bool) (c : Dev nD) (f : Dev nD → EReal) :
    ∑ e : Dev nD, f e = f (src d (src d (src d c))) + f (src d (src d c)) + f (src d c) + f c := by
  rw [show (Finset.univ : Finset (Dev nD)) = {src d (src d (src d c)), src d (src d c), src d c, c} by clear f; revert d c; decide,
    Finset.sum_insert (by clear f; revert d c; decide), Finset.sum_insert (by clear f; revert d c; decide),
    Finset.sum_insert (by clear f; revert d c; decide), Finset.sum_singleton, add_assoc, add_assoc]

theorem src3 (d : Bool) (c : Dev nD) : src d (src d (src d c)) = dst d c := by revert d c; decide

/-- Three hops gather the partial products of all four devices. -/
theorem rs_at (c : Dev nD) (d : Bool) (j : S1024x1024.Idx) :
    rs m ρ c d 3 j = ∑ e : Dev nD, gemm m ρ e d (dst d c) j := by
  rw [sum_ring d c, ← src3]
  rfl

variable (X : (⟨2, ![4096, 4096]⟩ : Shape).Idx → EReal) (W : (⟨2, ![4096, 2048]⟩ : Shape).Idx → EReal)

/-- Each device holds its block of the columns of `X` and its block of the rows of `W`. -/
def Dealt : Prop := ∀ c : Dev nD,
  m ((c : Thread nD τ).loc main_arg0) = Layout.block ⟨2, ![4096, 1024]⟩ ⟨2, ![4096, 4096]⟩ 1 4 c X
    ∧ m ((c : Thread nD τ).loc main_arg1) = Layout.block ⟨2, ![1024, 2048]⟩ ⟨2, ![4096, 2048]⟩ 0 4 c W

theorem col_lt (c : Dev nD) (k : Fin 1024) : c.val * 1024 + k.val < 4096 := by
  have h := c.isLt; have := k.isLt; change c.val < 4 at h; omega

variable {m X W}

/-- Element by element. -/
theorem x_at (h : Dealt m X W) (c : Dev nD) (r : Fin 4096) (k : Fin 1024) :
    xOf m c (ix2 r k) = X (ix2 r ⟨c.val * 1024 + k.val, col_lt c k⟩) := by
  unfold xOf
  rw [(h c).1, Layout.block_apply]
  refine congrArg X (funext fun a => Fin.ext ?_)
  rw [Layout.Tiles.idx_val]
  fin_cases a <;> rfl
theorem w_at (h : Dealt m X W) (c : Dev nD) (k : Fin 1024) (l : Fin 2048) :
    wOf m c (ix2 k l) = W (ix2 ⟨c.val * 1024 + k.val, col_lt c k⟩ l) := by
  unfold wOf
  rw [(h c).2, Layout.block_apply]
  refine congrArg W (funext fun a => Fin.ext ?_)
  rw [Layout.Tiles.idx_val]
  fin_cases a <;> rfl

/-- The whole product at an element. -/
def prod (X : (⟨2, ![4096, 4096]⟩ : Shape).Idx → EReal) (W : (⟨2, ![4096, 2048]⟩ : Shape).Idx → EReal) (r : Fin 4096) (l : Fin 2048) : EReal :=
  ∑ k : Fin 4096, X (ix2 r k) * W (ix2 k l)

/-- One device's share of it. -/
def share (X : (⟨2, ![4096, 4096]⟩ : Shape).Idx → EReal) (W : (⟨2, ![4096, 2048]⟩ : Shape).Idx → EReal) (c : Dev nD) (r : Fin 4096) (l : Fin 2048) : EReal :=
  ∑ k : Fin 1024, X (ix2 r ⟨c.val * 1024 + k.val, col_lt c k⟩) * W (ix2 ⟨c.val * 1024 + k.val, col_lt c k⟩ l)

theorem prod_eq (r : Fin 4096) (l : Fin 2048) : prod X W r l = ∑ e : Dev nD, share X W e r l := sum_four fun k => X (ix2 r k) * W (ix2 k l)

/-- After three hops device `c` holds the whole product on its chunk. -/
theorem rs_eq (h : Dealt m X W) (c : Dev nD) (d : Bool) (a b : Fin 1024) :
    rs m ρ c d 3 (ix2 a b) = prod X W ⟨1024 * (dst d c).val + a.val, rowOf_lt _ a⟩ ⟨colOf d + b.val, colOf_lt d b⟩ := by
  rw [rs_at, prod_eq]
  refine Finset.sum_congr rfl fun e _ => ?_
  rw [gemm_at]
  exact Finset.sum_congr rfl fun k _ => by rw [x_at h, w_at h]

/-- The precondition bounds each device's share, -/
theorem share_bounded (h : Dealt m X W) (c : Dev nD)
    (hb : Cert.Pre_bounded_KernelIdeal.fn (F := Ideal) (m ((c : Thread nD τ).loc main_arg0)) (m ((c : Thread nD τ).loc main_arg1)) = fun _ => 1#1)
    (r : Fin 4096) (l : Fin 2048) : ∃ q : ℝ, share X W c r l = (q : EReal) ∧ |q| ≤ 15 := by
  have hb := congrFun hb (ix2 r l)
  pointwise [Cert.Pre_bounded_KernelIdeal.fn] at hb
  have hs : share X W c r l = ∑ k : Fin 1024, xOf m c (ix2 r k) * wOf m c (ix2 k l) :=
    Finset.sum_congr rfl fun k _ => by rw [x_at h, w_at h]
  rw [hs]
  rw [word_fifteen] at hb
  exact real_of_bounded hb

/-- and so the whole product. -/
theorem prod_bounded (h : Dealt m X W)
    (hb : ∀ c : Dev nD, Cert.Pre_bounded_KernelIdeal.fn (F := Ideal) (m ((c : Thread nD τ).loc main_arg0)) (m ((c : Thread nD τ).loc main_arg1)) = fun _ => 1#1)
    (r : Fin 4096) (l : Fin 2048) : ∃ y : ℝ, prod X W r l = (y : EReal) ∧ |y| ≤ 60 := by
  obtain ⟨q0, e0, h0⟩ := share_bounded h 0 (hb 0) r l
  obtain ⟨q1, e1, h1⟩ := share_bounded h 1 (hb 1) r l
  obtain ⟨q2, e2, h2⟩ := share_bounded h 2 (hb 2) r l
  obtain ⟨q3, e3, h3⟩ := share_bounded h 3 (hb 3) r l
  refine ⟨q0 + q1 + q2 + q3, ?_, ?_⟩
  · rw [prod_eq]
    show ∑ e : Fin 4, share X W e r l = _
    rw [Fin.sum_univ_four, EReal.coe_add, EReal.coe_add, EReal.coe_add]
    exact congrArg₂ (· + ·) (congrArg₂ (· + ·) (congrArg₂ (· + ·) e0 e1) e2) e3
  · rw [abs_le] at h0 h1 h2 h3 ⊢
    constructor <;> linarith [h0.1, h0.2, h1.1, h1.2, h2.1, h2.2, h3.1, h3.2]

/-- The kernel's activation at an element. -/
theorem act_at (x : Mat Ideal) (j : S1024x1024.Idx) : act x j = x j * Idealize.ShloMosaic.Ideal.div 1 (1 + Idealize.ShloMosaic.Ideal.exp (0 - x j)) := by
  pointwise [act]

/-- The reference's activated product, -/
def actRef (X : (⟨2, ![4096, 4096]⟩ : Shape).Idx → EReal) (W : (⟨2, ![4096, 2048]⟩ : Shape).Idx → EReal) :
    (⟨2, ![4096, 2048]⟩ : Shape).Idx → EReal :=
  Host.divf (F := Ideal) (φ := .f32) (Host.dotGeneral (F := Ideal) (φ₁ := .f32) (φ₂ := .f32) Cert.ReferenceIdeal.dot_S4096x4096_S4096x2048_S4096x2048_1_0_0_1_n_n none X W)
    (addf (broadcastInDim Cert.ReferenceIdeal.S4096x2048 ![] Cert.ReferenceIdeal.Facts₀.bcast_S_S4096x2048 (constant Cert.ReferenceIdeal.S_ .f32 0x3F800000#32))
      (Host.exp (Host.negf (minimumf
        (broadcastInDim Cert.ReferenceIdeal.S4096x2048 ![] Cert.ReferenceIdeal.Facts₀.bcast_S_S4096x2048 (constant Cert.ReferenceIdeal.S_ .f32 0x42700000#32))
        (maximumf (broadcastInDim Cert.ReferenceIdeal.S4096x2048 ![] Cert.ReferenceIdeal.Facts₀.bcast_S_S4096x2048 (constant Cert.ReferenceIdeal.S_ .f32 0xC2700000#32))
          (Host.dotGeneral (F := Ideal) (φ₁ := .f32) (φ₂ := .f32) Cert.ReferenceIdeal.dot_S4096x4096_S4096x2048_S4096x2048_1_0_0_1_n_n none X W))))))

/-- and its result, four copies of it one below the other. -/
def refOut (X : (⟨2, ![4096, 4096]⟩ : Shape).Idx → EReal) (W : (⟨2, ![4096, 2048]⟩ : Shape).Idx → EReal) :
    (⟨2, ![16384, 2048]⟩ : Shape).Idx → EReal :=
  concatenate (α := EReal) Cert.ReferenceIdeal.S16384x2048 0 [⟨Cert.ReferenceIdeal.S4096x2048, actRef X W⟩, ⟨Cert.ReferenceIdeal.S4096x2048, actRef X W⟩,
    ⟨Cert.ReferenceIdeal.S4096x2048, actRef X W⟩, ⟨Cert.ReferenceIdeal.S4096x2048, actRef X W⟩]
    Cert.ReferenceIdeal.Facts₀.concatenates_S4096x2048_S4096x2048_S4096x2048_S4096x2048_S16384x2048_d0

theorem rowAll_lt (c : Dev nD) (r : Fin 4096) : c.val * 4096 + r.val < 16384 := by
  have h := c.isLt; have := r.isLt; change c.val < 4 at h; omega

/-- The copies are alike. -/
theorem refOut_at (c : Dev nD) (r : Fin 4096) (l : Fin 2048) :
    refOut X W (ix2 ⟨c.val * 4096 + r.val, rowAll_lt c r⟩ l) = actRef X W (ix2 r l) := by
  have hc := c.isLt
  have hr := r.isLt
  change c.val < 4 at hc
  unfold refOut
  pointwise
  split_ifs <;> exact congrArg (fun q => actRef X W (ix2 q l)) (Fin.ext (by show _ = r.val; simp only []; omega))

/-- An element of the reference's activated product. -/
theorem actRef_at (r : Fin 4096) (l : Fin 2048) :
    actRef X W (ix2 r l) = Idealize.ShloMosaic.Ideal.div (prod X W r l) (1 + Idealize.ShloMosaic.Ideal.exp
      (-min ((60 : ℝ) : EReal) (max ((-60 : ℝ) : EReal) (prod X W r l)))) := by
  rw [← word_sixty, ← word_minus_sixty]
  pointwise [actRef, prod]

/-- On its finished chunk device `c` has the reference's elements. -/
theorem finished_eq (h : Dealt m X W)
    (hb : ∀ c : Dev nD, Cert.Pre_bounded_KernelIdeal.fn (F := Ideal) (m ((c : Thread nD τ).loc main_arg0)) (m ((c : Thread nD τ).loc main_arg1)) = fun _ => 1#1)
    (c : Dev nD) (d : Bool) (a b : Fin 1024) :
    act (rs m ρ c d 3) (ix2 a b) = actRef X W (ix2 ⟨1024 * (dst d c).val + a.val, rowOf_lt _ a⟩ ⟨colOf d + b.val, colOf_lt d b⟩) := by
  obtain ⟨y, ey, hy⟩ := prod_bounded h hb ⟨1024 * (dst d c).val + a.val, rowOf_lt _ a⟩ ⟨colOf d + b.val, colOf_lt d b⟩
  rw [act_at, actRef_at, rs_eq ρ h, ey]
  exact silu_eq y hy

/-- Where an element of direction `d`'s piece of the result lies. -/
theorem outM_ix (d : Bool) (c : Dev nD) (a b : Fin 1024) :
    (outM d c).view.emb (ix2 a b) = ix2 ⟨1024 * (dst d c).val + a.val, rowOf_lt _ a⟩ ⟨colOf d + b.val, colOf_lt d b⟩ := by
  funext x
  apply Fin.ext
  cases d <;> fin_cases x
  · show 1024 * (dst false c).val + 1 * a.val = 1024 * (dst false c).val + a.val
    omega
  · show 0 + 1 * b.val = 0 + b.val
    omega
  · show 1024 * (dst true c).val + 1 * a.val = 1024 * (dst true c).val + a.val
    omega
  · show 1024 + 1 * b.val = 1024 + b.val
    omega

/-- A row whose chunk is the one named by the mask, and a column, as an element of the finished piece. -/
theorem place (c : Dev nD) (r : Fin 4096) (l : Fin 2048)
    (h : (c.val * 4096 + r.val) / 1024 % 4 = ((c.val * 4096 + r.val) / 4096 + if l.val < 1024 then 1 else 3) % 4) :
    ∃ (d : Bool) (a b : Fin 1024), r = ⟨1024 * (dst d c).val + a.val, rowOf_lt _ a⟩ ∧ l = ⟨colOf d + b.val, colOf_lt d b⟩ := by
  have hc := c.isLt
  have hr := r.isLt
  have hl := l.isLt
  change c.val < 4 at hc
  by_cases hlt : l.val < 1024
  · rw [if_pos hlt] at h
    refine ⟨false, ⟨r.val % 1024, Nat.mod_lt _ (by decide)⟩, ⟨l.val, hlt⟩, Fin.ext ?_, Fin.ext ?_⟩
    · show r.val = 1024 * ((c.val + 1) % 4) + r.val % 1024
      omega
    · show l.val = 0 + l.val
      omega
  · rw [if_neg hlt] at h
    refine ⟨true, ⟨r.val % 1024, Nat.mod_lt _ (by decide)⟩, ⟨l.val - 1024, by omega⟩, Fin.ext ?_, Fin.ext ?_⟩
    · show r.val = 1024 * ((c.val + 3) % 4) + r.val % 1024
      omega
    · show l.val = 1024 + (l.val - 1024)
      omega

/-- Device `c`'s block of an array of all the rows, at an element. -/
theorem block_rows {α : Type} (c : Fin 4) (v : (⟨2, ![16384, 2048]⟩ : Shape).Idx → α) (h : Layout.Tiles ⟨2, ![4096, 2048]⟩ ⟨2, ![16384, 2048]⟩ 0 4)
    (r : Fin 4096) (l : Fin 2048) :
    Layout.block ⟨2, ![4096, 2048]⟩ ⟨2, ![16384, 2048]⟩ 0 4 c v h (ix2 r l) = v (ix2 ⟨c.val * 4096 + r.val, rowAll_lt c r⟩ l) := by
  rw [Layout.block_apply]
  refine congrArg v (funext fun x => Fin.ext ?_)
  rw [Layout.Tiles.idx_val]
  fin_cases x <;> rfl

/-- The value claim: where the mask is set, each device's result is its block of the reference's. -/
theorem value : Cert.algebraic_KernelIdeal_ReferenceIdeal_on_finished_pre_bounded_KernelIdeal := by
  intro m ρ m' ρ' hb h
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r hr c => ⟨fun i hi => ?_, (hr.1 c).1, (hr.1 c).2.1⟩) (run_main (F := Ideal) m ρ)
    obtain ⟨a, b, rfl⟩ : ∃ (a : Fin 4096) (b : Fin 2048), i = ix2 a b := ⟨i 0, i 1, eq_ix2 i⟩
    rw [block_rows] at hi ⊢
    obtain ⟨d, a', b', ea, eb⟩ := place c a b (mask_at _ _ _ _ hi)
    rw [refOut_at, ea, eb, ← finished_eq ρ h hb c d a' b', ← (hr.1 c).2.2 d, ← outM_ix d c a' b']
    rfl
  · exact (θ_run Cert.ReferenceIdeal.defs _ _).mono (fun r hr => ⟨fun i _ => congrFun (hr 0).1 i, (hr 0).2⟩)
      (Cert.ReferenceIdeal.Value.run (F := Ideal) m' ρ')

end Cert.RingProof

end
-- ==== Proof.GatherPieces.lean ====
/-
# The gather: the pieces of the buffers

The second slice also works on 1024 x 1024 pieces. In each direction a device has three of them in VMEM: its own finished
piece in the accumulator, and one slot of the landing buffer for each of the two hops. The result falls into eight, one
for each direction and device. Here are those pieces, the devices around the ring, the closed forms of the kernel's
offsets and addressees, and how a load or a store acts on a piece held by itself.
-/
module

public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import Idealize.ShloMosaic.Lib.Pipeline.Launch
public import Idealize.ShloMosaic.Lib.Pipeline.Kit
public import Idealize.ShloMosaic.Lib.Tactic
public import Idealize.ShloMosaic.Lib.MemrefSat

@[expose] public section

noncomputable section

namespace Cert.GatherProof

open Cert.GatherIdeal Cert.GatherIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the ring's (duties `Bool`) -/

abbrev UB : Type := URounds (GSem nD τ sig) Bool
abbrev UU : Type := UR sig nD τ × UB
abbrev MM (F : FTy → Type) : Type := MT nD τ sig Unit (Elt F) ℕ UU ℕ

abbrev EP : Emb (UR sig nD τ) (MM F) := embL
abbrev ER : Emb UB (MM F) := embR

abbrev 𝒱₀ : Variants := Variants.none

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

/-- Whom device `c` sends to in direction `d`: the next device (`false`) or the one before (`true`); -/
def dst (d : Bool) (c : Dev nD) : Dev nD := match d with | false => nxt c | true => prv c
/-- and whom it receives from. -/
def src (d : Bool) (c : Dev nD) : Dev nD := match d with | false => prv c | true => nxt c

theorem dst_src (d : Bool) (c : Dev nD) : dst d (src d c) = c := by revert d c; decide
theorem src_dst (d : Bool) (c : Dev nD) : src d (dst d c) = c := by revert d c; decide

/-- Direction `d` as a permutation of the devices. -/
def ring (d : Bool) : Dev nD ≃ Dev nD := ⟨dst d, src d, src_dst d, dst_src d⟩

/-! ## The kernel's addressees and offsets in closed form -/

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = prv c := by revert c; decide +kernel
theorem dev7_eq (c : Dev nD) : (⟨k0_dev7 c, k0_dev7_lt c⟩ : Dev nD) = prv c := by revert c; decide +kernel
theorem dev8_eq (c : Dev nD) : (⟨k0_dev8 c, k0_dev8_lt c⟩ : Dev nD) = nxt c := by revert c; decide +kernel

/-- Where in the result the piece lies that device `e` has finished in direction `d`. -/
abbrev offO (d : Bool) (e : Dev nD) : Fin 2 → ℕ := match d with
  | false => ![1024 * (dst false e).val, 0] | true => ![1024 * (dst true e).val, 1024]

theorem off1_eq (c : Dev nD) : k0_off1 c = offO false c := by revert c; decide +kernel
theorem off2_eq (c : Dev nD) : k0_off2 c = offO true c := by revert c; decide +kernel
theorem off3_0 (c : Dev nD) : k0_off3 c 0#32 = offO false (src false c) := by revert c; decide +kernel
theorem off3_1 (c : Dev nD) : k0_off3 c 1#32 = offO false (src false (src false c)) := by revert c; decide +kernel
theorem off4_0 (c : Dev nD) : k0_off4 c 0#32 = offO true (src true c) := by revert c; decide +kernel
theorem off4_1 (c : Dev nD) : k0_off4 c 1#32 = offO true (src true (src true c)) := by revert c; decide +kernel

/-! ## The pieces -/

abbrev accR : Memref sig .tc .vmem S2x1024x1024 .f32 := Memref.whole cc0_scratch0
abbrev comR : Memref sig .tc .vmem S2x2x1024x1024 .f32 := Memref.whole cc0_scratch1
abbrev outR : Memref sig .tc .hbm S4096x2048 .f32 := Memref.whole main_v1

abbrev offA : Bool → Fin 3 → ℕ | false => ![0, 0, 0] | true => ![1, 0, 0]
abbrev offC : Bool → Bool → Fin 4 → ℕ
  | false, false => ![0, 0, 0, 0] | false, true => ![0, 1, 0, 0] | true, false => ![1, 0, 0, 0] | true, true => ![1, 1, 0, 0]
theorem inbA (d : Bool) : ∀ a, offA d a + S1x1024x1024.size a ≤ S2x1024x1024.size a := by revert d; decide
theorem inbC (d k : Bool) : ∀ a, offC d k a + S1x1x1024x1024.size a ≤ S2x2x1024x1024.size a := by revert d k; decide
theorem inbO (d : Bool) (e : Dev nD) : ∀ a, offO d e a + S1024x1024.size a ≤ S4096x2048.size a := by revert d e; decide

abbrev rectA (d : Bool) : Rect S2x1024x1024 := Rect.unit (s := S2x1024x1024) (offA d) S1x1024x1024.size (inbA d)
abbrev rectC (d k : Bool) : Rect S2x2x1024x1024 := Rect.unit (s := S2x2x1024x1024) (offC d k) S1x1x1024x1024.size (inbC d k)
abbrev rectO (d : Bool) (e : Dev nD) : Rect S4096x2048 := Rect.unit (s := S4096x2048) (offO d e) S1024x1024.size (inbO d e)

/-- Direction `d`'s piece of the accumulator, -/
abbrev accM (d : Bool) : Memref sig .tc .vmem S1024x1024 .f32 :=
  (accR.slice (rectA d) (fun _ => rfl)).squeeze S1024x1024 squeezes_S1x1024x1024_S1024x1024
/-- of the landing buffer, slot `k`, -/
abbrev comM (d k : Bool) : Memref sig .tc .vmem S1024x1024 .f32 :=
  (comR.slice (rectC d k) (fun _ => rfl)).squeeze S1024x1024 squeezes_S1x1x1024x1024_S1024x1024
/-- and, finished by device `e`, of the result. -/
abbrev outM (d : Bool) (e : Dev nD) : Memref sig .tc .hbm S1024x1024 .f32 := outR.slice (rectO d e) (fun _ => rfl)

/-- Where a device has the piece that has come `r` hops: its own in the accumulator, then the two slots. -/
abbrev stage (d : Bool) : ℕ → Memref sig .tc .vmem S1024x1024 .f32
  | 0 => accM d
  | 1 => comM d false
  | _ + 2 => comM d true

/-- A 1024 x 1024 piece's contents. -/
abbrev Mat (F : FTy → Type) : Type := S1024x1024.Idx → Elt F .f32

/-- What one transfer of a piece credits its semaphores. -/
def N : ℕ := (comM false false).view.dmaCredit
theorem N_pos : 0 < N := View.dmaCredit_pos _ (by decide)
theorem credit_com (d k : Bool) : (comM d k).view.dmaCredit = N := by revert d k; decide +kernel
theorem credit_acc (d : Bool) : (accM d).view.dmaCredit = N := by revert d; decide +kernel
theorem credit_stage (d : Bool) : ∀ r, (stage d r).view.dmaCredit = N
  | 0 => credit_acc d
  | 1 => credit_com d false
  | _ + 2 => credit_com d true
theorem credit_out (d : Bool) (e : Dev nD) : (outM d e).view.dmaCredit = N := by revert d e; decide +kernel

attribute [irreducible] N

/-- A piece held whole by device `c` at contents `X`. -/
abbrev has (c : Dev nD) {sp : Space} {s : Shape} {e : EltTy} (p : Memref sig .tc sp s e) (X : s.Idx → Elt F e) : sProp (MM F) :=
  owns (Ix := Unit) (Name := ℕ) (U := UU) (Lvl := ℕ) (c : Thread nD τ) p fullShare X

/-- A piece held by device `c` at contents `X` as to one half or the other: to be read, not written. -/
abbrev hasL (c : Dev nD) {sp : Space} {s : Shape} {e : EltTy} (p : Memref sig .tc sp s e) (X : s.Idx → Elt F e) : sProp (MM F) :=
  owns (Ix := Unit) (Name := ℕ) (U := UU) (Lvl := ℕ) (c : Thread nD τ) p fullShare.left X
abbrev hasR (c : Dev nD) {sp : Space} {s : Shape} {e : EltTy} (p : Memref sig .tc sp s e) (X : s.Idx → Elt F e) : sProp (MM F) :=
  owns (Ix := Unit) (Name := ℕ) (U := UU) (Lvl := ℕ) (c : Thread nD τ) p fullShare.right X

theorem halve (c : Dev nD) {sp : Space} {s : Shape} {e : EltTy} (p : Memref sig .tc sp s e) (X : s.Idx → Elt F e) :
    has c p X ⊢ iprop(hasL c p X ∗ hasR c p X) := (owns_halves (c : Thread nD τ) p fullShare X).1
theorem unhalve (c : Dev nD) {sp : Space} {s : Shape} {e : EltTy} (p : Memref sig .tc sp s e) (X : s.Idx → Elt F e) :
    iprop(hasL c p X ∗ hasR c p X) ⊢ has c p X := (owns_halves (c : Thread nD τ) p fullShare X).2

/-! ## Loads and stores at a piece's rectangle -/

section Access

variable (c : Dev nD) {α : Type} {Q : α → sProp (MM F)}

/-- A load through the whole memref at a piece's rectangle reads the piece, at the rectangle's shape. -/
theorem wp_load_piece {cs : CoreSpace} {s s' : Shape} {e : EltTy} (m : Memref sig .tc cs s e) {off size : Fin s.rank → ℕ}
    (inb : ∀ a, off a + size a ≤ s.size a) (hq : (Rect.unit off size inb).shape.Squeezes s')
    (hc : s'.ShapeCasts (Rect.unit off size inb).shape) {hl : m.view.LoadsAt (Rect.unit off size inb).toLoadRect}
    {k : ((Rect.unit off size inb).shape.Idx → Elt F e) → Prog (TpuEff nD τ sig (Elt F) Λ₀ .tc) α} (X : s'.Idx → Elt F e) :
    has c ((m.slice (Rect.unit off size inb) (fun _ => rfl)).squeeze s' hq) X
      ⊢ iprop((has c ((m.slice (Rect.unit off size inb) (fun _ => rfl)).squeeze s' hq) X
            -∗ wp frame (wpE (defs₀ (F := F)) 𝒱₀ (c : Thread nD τ) none) Set.univ (k (shapeCast _ X hc)) Q)
          -∗ wp frame (wpE (defs₀ (F := F)) 𝒱₀ (c : Thread nD τ) none) Set.univ (.op (.load m (Rect.unit off size inb).toLoadRect hl) k) Q) := by
  unfold has owns
  iintro ⟨%f, %hf, H⟩ Hk
  iapply (wp_load_rect 𝒱₀ (c : Thread nD τ) none Set.univ (m := m) (r := Rect.unit off size inb)
    (S := ((m.slice (Rect.unit off size inb) (fun _ => rfl)).squeeze s' hq).view.set) (f := f)
    (View.set_reshape (m.view.slice (Rect.unit off size inb)) hq.numel_eq).symm.subset) $$ H
  iintro H
  subst hf
  rw [show shapeCast (Rect.unit off size inb).shape (((m.slice (Rect.unit off size inb) (fun _ => rfl)).squeeze s' hq).view.read (Elt F) f) hc
      = (m.access (Rect.unit off size inb)).read (Elt F) f from by
    funext j
    show (m.view.slice (Rect.unit off size inb)).read (Elt F) f (Shape.reshapeEquiv _ (Shape.reshapeEquiv _ j)) = _
    rw [Shape.reshapeEquiv_reshapeEquiv, Shape.reshapeEquiv_self]]
  iapply Hk
  iexists f
  isplitr
  · ipureintro; rfl
  · iexact H

/-- A store of a whole piece through the whole memref at the piece's rectangle leaves the piece at what is stored. -/
theorem wp_store_piece {cs : CoreSpace} {s s' : Shape} {e : EltTy} (m : Memref sig .tc cs s e) {off size : Fin s.rank → ℕ}
    (inb : ∀ a, off a + size a ≤ s.size a) (hq : (Rect.unit off size inb).shape.Squeezes s')
    (hc : (Rect.unit off size inb).shape.ShapeCasts s') {w : (Rect.unit off size inb).shape.Idx → Elt F e}
    {hx : (m.access (Rect.unit off size inb)).Stores Finset.univ} {hm : (Finset.univ : Finset (Rect.unit off size inb).shape.Idx) = Finset.univ ∨ ∀ a, (Rect.unit off size inb).stride a = 1}
    {k : PUnit → Prog (TpuEff nD τ sig (Elt F) Λ₀ .tc) α} (X : s'.Idx → Elt F e) :
    has c ((m.slice (Rect.unit off size inb) (fun _ => rfl)).squeeze s' hq) X
      ⊢ iprop((has c ((m.slice (Rect.unit off size inb) (fun _ => rfl)).squeeze s' hq) (shapeCast s' w hc)
            -∗ wp frame (wpE (defs₀ (F := F)) 𝒱₀ (c : Thread nD τ) none) Set.univ (k ⟨⟩) Q)
          -∗ wp frame (wpE (defs₀ (F := F)) 𝒱₀ (c : Thread nD τ) none) Set.univ (.op (.store m (Rect.unit off size inb) w Finset.univ hx hm) k) Q) := by
  unfold has owns
  iintro ⟨%f, %hf, H⟩ Hk
  iapply (wp_store 𝒱₀ (c : Thread nD τ) none Set.univ (m := m) (r := Rect.unit off size inb) (Mk := Finset.univ)
    (S := ((m.slice (Rect.unit off size inb) (fun _ => rfl)).squeeze s' hq).view.set) (f := f)
    (View.set_reshape (m.view.slice (Rect.unit off size inb)) hq.numel_eq).symm.subset) $$ H
  iintro H
  iapply Hk
  iexists _
  isplitr
  rotate_left
  · iexact H
  · ipureintro
    funext j
    show (m.view.slice (Rect.unit off size inb)).read (Elt F) ((m.view.slice (Rect.unit off size inb)).write (Elt F) f w Finset.univ) (Shape.reshapeEquiv _ j) = _
    rw [View.read_write_univ]
    rfl

/-- A load at a rectangle of a buffer held whole. -/
theorem wp_load_rect_whole {cs : CoreSpace} {s : Shape} {e : EltTy} (m : Memref sig .tc cs s e) {off size : Fin s.rank → ℕ}
    (inb : ∀ a, off a + size a ≤ s.size a) {hl : m.view.LoadsAt (Rect.unit off size inb).toLoadRect}
    {k : ((Rect.unit off size inb).shape.Idx → Elt F e) → Prog (TpuEff nD τ sig (Elt F) Λ₀ .tc) α}
    (off' : Fin s.rank → ℕ) (inb' : ∀ a, off' a + size a ≤ s.size a) (ho : off = off') (X : s.Idx → Elt F e) :
    has c m X
      ⊢ iprop((has c m X -∗ wp frame (wpE (defs₀ (F := F)) 𝒱₀ (c : Thread nD τ) none) Set.univ
            (k (fun j => X ((Rect.unit off' size inb').emb j))) Q)
          -∗ wp frame (wpE (defs₀ (F := F)) 𝒱₀ (c : Thread nD τ) none) Set.univ (.op (.load m (Rect.unit off size inb).toLoadRect hl) k) Q) := by
  subst ho
  unfold has owns
  iintro ⟨%f, %hf, H⟩ Hk
  iapply (wp_load 𝒱₀ (c : Thread nD τ) none Set.univ (m := m) (f := f) (View.setOn_subset_set _ _)) $$ H
  iintro H
  subst hf
  iapply Hk
  iexists f
  isplitr
  · ipureintro; rfl
  · iexact H

end Access

/-! ## A whole buffer as its pieces -/

section Split

variable {b : Ref sig .tc} {T : Type} [Fintype T] [DecidableEq T] [Inhabited T]
  {sz : Fin b.ty.shape.rank → ℕ} (off : T → Fin b.ty.shape.rank → ℕ) (inb : ∀ t a, off t a + sz a ≤ b.ty.shape.size a)
  {s' : Shape} (hq : ∀ t, (Rect.unit (off t) sz (inb t)).shape.Squeezes s')
  (hd : ∀ t t', t ≠ t' → Disjoint (Rect.unit (off t) sz (inb t)).set (Rect.unit (off t') sz (inb t')).set)
  (hcov : ∀ i : b.ty.shape.Idx, ∃ t, i ∈ (Rect.unit (off t) sz (inb t)).set)

/-- The piece of a whole buffer at one rectangle, its unit axes dropped. -/
abbrev pieceOf (t : T) : Memref sig .tc b.space s' b.ty.elt :=
  ((Memref.whole b).slice (Rect.unit (off t) sz (inb t)) (fun _ => rfl)).squeeze s' (hq t)

theorem pieceOf_set (t : T) : (pieceOf off inb hq t).view.set = (Rect.unit (off t) sz (inb t)).set :=
  (View.set_reshape ((View.whole b).slice (Rect.unit (off t) sz (inb t))) (hq t).numel_eq).trans (View.set_slice_whole b _)

theorem piece_intro (c : Dev nD) (t : T) (f : Buf (Elt F) ((c : Thread nD τ).loc b)) :
    (((c : Thread nD τ).loc b) ↦[(pieceOf off inb hq t).view.set]{fullShare} f : sProp (MM F)) ⊢ iprop(∃ X, has c (pieceOf off inb hq t) X) := by
  iintro H
  iexists _
  iapply (owns_intro (c : Thread nD τ) (pieceOf off inb hq t) fullShare f)
  iexact H

theorem piece_elim (c : Dev nD) (t : T) :
    (iprop(∃ X, has c (pieceOf off inb hq t) X) : sProp (MM F))
      ⊢ iprop(∃ f : Buf (Elt F) ((c : Thread nD τ).loc b), ((c : Thread nD τ).loc b) ↦[(pieceOf off inb hq t).view.set]{fullShare} f) := by
  unfold has owns
  iintro ⟨%X, %f, -, H⟩
  iexists f
  iexact H

include hd hcov in
/-- A buffer held whole at some contents is its pieces, each held at some contents. -/
theorem split_pieces (c : Dev nD) :
    (iprop(∃ f : Buf (Elt F) ((c : Thread nD τ).loc b), ((c : Thread nD τ).loc b) ↦{fullShare} f) : sProp (MM F))
      ⊢ bigSep Finset.univ fun t => iprop(∃ X, has c (pieceOf off inb hq t) X) := by
  have hu : (Finset.univ : Finset (Idx ((c : Thread nD τ).loc b))) = (Finset.univ : Finset T).biUnion fun t => (pieceOf off inb hq t).view.set := by
    ext i
    simp only [Finset.mem_univ, Finset.mem_biUnion, true_and, true_iff]
    obtain ⟨t, ht⟩ := hcov i
    exact ⟨t, (pieceOf_set off inb hq t).symm ▸ ht⟩
  have hb (f : Buf (Elt F) ((c : Thread nD τ).loc b)) : (((c : Thread nD τ).loc b) ↦{fullShare} f : sProp (MM F))
      = bigSep Finset.univ fun t => ((c : Thread nD τ).loc b) ↦[(pieceOf off inb hq t).view.set]{fullShare} f := by
    rw [← pointsTo_biUnion _ _ (fun t _ t' _ h => by rw [pieceOf_set, pieceOf_set]; exact hd t t' h), ← hu]
  have hm (f : Buf (Elt F) ((c : Thread nD τ).loc b)) : (((c : Thread nD τ).loc b) ↦{fullShare} f : sProp (MM F))
      ⊢ bigSep Finset.univ fun t => iprop(∃ X, has c (pieceOf off inb hq t) X) :=
    (Entails.of_eq (hb f)).trans (bigSep_mono fun t _ => piece_intro off inb hq c t f)
  iintro ⟨%f, H⟩
  iapply (hm f)
  iexact H

include hd hcov in
/-- And back. -/
theorem join_pieces (c : Dev nD) :
    (bigSep Finset.univ fun t => iprop(∃ X, has c (pieceOf off inb hq t) X))
      ⊢ (iprop(∃ f : Buf (Elt F) ((c : Thread nD τ).loc b), ((c : Thread nD τ).loc b) ↦{fullShare} f) : sProp (MM F)) := by
  have hu : (Finset.univ : Finset (Idx ((c : Thread nD τ).loc b))) = (Finset.univ : Finset T).biUnion fun t => (pieceOf off inb hq t).view.set := by
    ext i
    simp only [Finset.mem_univ, Finset.mem_biUnion, true_and, true_iff]
    obtain ⟨t, ht⟩ := hcov i
    exact ⟨t, (pieceOf_set off inb hq t).symm ▸ ht⟩
  have hm : (bigSep Finset.univ fun t => (iprop(∃ X, has c (pieceOf off inb hq t) X) : sProp (MM F)))
      ⊢ bigSep Finset.univ fun t => iprop(∃ f : Buf (Elt F) ((c : Thread nD τ).loc b), ((c : Thread nD τ).loc b) ↦[(pieceOf off inb hq t).view.set]{fullShare} f) :=
    bigSep_mono fun t _ => piece_elim off inb hq c t
  iintro H
  ihave H := hm $$ H
  ihave H := (BI.bigSep_exists_pi Finset.univ (fun (t : T) (f : Buf (Elt F) ((c : Thread nD τ).loc b)) =>
    (((c : Thread nD τ).loc b) ↦[(pieceOf off inb hq t).view.set]{fullShare} f : sProp (MM F)))) $$ H
  icases H with ⟨%fs, H⟩
  ihave H := (pointsTo_biUnion_join Finset.univ (fun t => (pieceOf off inb hq t).view.set) fs (fs default)
    (fun t _ t' _ h => by rw [pieceOf_set, pieceOf_set]; exact hd t t' h)) $$ H
  icases H with ⟨%g, -, H⟩
  iexists g
  rw [hu]
  iexact H

end Split

/-! ### The two scratch buffers -/

theorem disjA (d d' : Bool) (h : d ≠ d') : Disjoint (rectA d).set (rectA d').set := by
  rw [Finset.disjoint_left]
  intro i hi hi'
  have h0 := Rect.mem_set_unit.mp hi 0
  have h1 := Rect.mem_set_unit.mp hi' 0
  cases d <;> cases d' <;> simp at h h0 h1 <;> omega

theorem covA (i : S2x1024x1024.Idx) : ∃ d, i ∈ (rectA d).set := by
  have h0 : (i 0).val < 2 := (i 0).isLt
  have h1 : (i 1).val < 1024 := (i 1).isLt
  have h2 : (i 2).val < 1024 := (i 2).isLt
  refine ⟨decide ((i 0).val = 1), Rect.mem_set_unit.mpr fun a => ?_⟩
  by_cases h : (i 0).val = 1 <;> fin_cases a <;> simp [h] <;> omega

theorem disjC (t t' : Bool × Bool) (h : t ≠ t') : Disjoint (rectC t.1 t.2).set (rectC t'.1 t'.2).set := by
  rw [Finset.disjoint_left]
  intro i hi hi'
  have h0 := Rect.mem_set_unit.mp hi 0
  have h1 := Rect.mem_set_unit.mp hi' 0
  have g0 := Rect.mem_set_unit.mp hi 1
  have g1 := Rect.mem_set_unit.mp hi' 1
  obtain ⟨d, k⟩ := t
  obtain ⟨d', k'⟩ := t'
  cases d <;> cases d' <;> cases k <;> cases k' <;> simp at h h0 h1 g0 g1 <;> omega

theorem covC (i : S2x2x1024x1024.Idx) : ∃ t : Bool × Bool, i ∈ (rectC t.1 t.2).set := by
  have h0 : (i 0).val < 2 := (i 0).isLt
  have h1 : (i 1).val < 2 := (i 1).isLt
  have h2 : (i 2).val < 1024 := (i 2).isLt
  have h3 : (i 3).val < 1024 := (i 3).isLt
  refine ⟨(decide ((i 0).val = 1), decide ((i 1).val = 1)), Rect.mem_set_unit.mpr fun a => ?_⟩
  by_cases h : (i 0).val = 1 <;> by_cases h' : (i 1).val = 1 <;> fin_cases a <;> simp [h, h'] <;> omega

/-- A piece held at some contents. -/
def hasAny (c : Dev nD) {sp : Space} {s : Shape} {e : EltTy} (p : Memref sig .tc sp s e) : sProp (MM F) := iprop(∃ X, has c p X)

omit [FloatOps F] in
theorem bigSep_bool {M : Type} [URA M] (Φ : Bool → sProp M) : bigSep Finset.univ Φ = iprop(Φ false ∗ Φ true) :=
  bigSep_univ_eq_bigSepL [false, true] (by decide) (by decide) Φ
omit [FloatOps F] in
theorem bigSep_bool2 {M : Type} [URA M] (Φ : Bool × Bool → sProp M) :
    bigSep Finset.univ Φ = iprop(Φ (false, false) ∗ Φ (false, true) ∗ Φ (true, false) ∗ Φ (true, true)) :=
  bigSep_univ_eq_bigSepL [(false, false), (false, true), (true, false), (true, true)] (by decide) (by decide) Φ

theorem acc_split (c : Dev nD) : (iprop(∃ f : Buf (Elt F) ((c : Thread nD τ).loc cc0_scratch0), ((c : Thread nD τ).loc cc0_scratch0) ↦{fullShare} f) : sProp (MM F))
    ⊢ iprop(hasAny c (accM false) ∗ hasAny c (accM true)) :=
  (split_pieces (b := cc0_scratch0) offA inbA (fun _ => squeezes_S1x1024x1024_S1024x1024) disjA covA c).trans (Entails.of_eq (bigSep_bool _))
theorem acc_join (c : Dev nD) : iprop(hasAny c (accM false) ∗ hasAny c (accM true))
    ⊢ (iprop(∃ f : Buf (Elt F) ((c : Thread nD τ).loc cc0_scratch0), ((c : Thread nD τ).loc cc0_scratch0) ↦{fullShare} f) : sProp (MM F)) :=
  (Entails.of_eq (bigSep_bool fun d => hasAny c (accM d)).symm).trans
    (join_pieces (b := cc0_scratch0) offA inbA (fun _ => squeezes_S1x1024x1024_S1024x1024) disjA covA c)
theorem com_split (c : Dev nD) : (iprop(∃ f : Buf (Elt F) ((c : Thread nD τ).loc cc0_scratch1), ((c : Thread nD τ).loc cc0_scratch1) ↦{fullShare} f) : sProp (MM F))
    ⊢ iprop(hasAny c (comM false false) ∗ hasAny c (comM false true) ∗ hasAny c (comM true false) ∗ hasAny c (comM true true)) :=
  (split_pieces (b := cc0_scratch1) (fun t : Bool × Bool => offC t.1 t.2) (fun t => inbC t.1 t.2) (fun _ => squeezes_S1x1x1024x1024_S1024x1024)
    disjC covC c).trans (Entails.of_eq (bigSep_bool2 _))
theorem com_join (c : Dev nD) : iprop(hasAny c (comM false false) ∗ hasAny c (comM false true) ∗ hasAny c (comM true false) ∗ hasAny c (comM true true))
    ⊢ (iprop(∃ f : Buf (Elt F) ((c : Thread nD τ).loc cc0_scratch1), ((c : Thread nD τ).loc cc0_scratch1) ↦{fullShare} f) : sProp (MM F)) :=
  (Entails.of_eq (bigSep_bool2 fun t => hasAny c (comM t.1 t.2)).symm).trans
    (join_pieces (b := cc0_scratch1) (fun t : Bool × Bool => offC t.1 t.2) (fun t => inbC t.1 t.2) (fun _ => squeezes_S1x1x1024x1024_S1024x1024)
      disjC covC c)

/-! ### The result -/

theorem disjO (t t' : Bool × Dev nD) (h : t ≠ t') : Disjoint (rectO t.1 t.2).set (rectO t'.1 t'.2).set := by
  rw [Finset.disjoint_left]
  intro i hi hi'
  have h0 := Rect.mem_set_unit.mp hi 0
  have h1 := Rect.mem_set_unit.mp hi' 0
  have g0 := Rect.mem_set_unit.mp hi 1
  have g1 := Rect.mem_set_unit.mp hi' 1
  obtain ⟨d, e⟩ := t
  obtain ⟨d', e'⟩ := t'
  have ne : d = d' → e ≠ e' := fun hd he => h (by rw [hd, he])
  have he := e.isLt
  have he' := e'.isLt
  change e.val < 4 at he
  change e'.val < 4 at he'
  have ne' : d = d' → e.val ≠ e'.val := fun hd he => ne hd (Fin.ext he)
  cases d <;> cases d' <;> simp [dst, nxt, prv] at ne' h0 h1 g0 g1 <;> omega

/-- Which pieces of the result come to device `c`: in each direction its own and those of the two devices behind it. -/
def comes (c : Dev nD) : Bool × Fin 3 ↪ Bool × Dev nD := ⟨fun t => (t.1, (src t.1)^[t.2.val] c), by revert c; decide⟩

theorem bigSep_six (Φ : Bool × Fin 3 → sProp (MM F)) : bigSep Finset.univ Φ
    = iprop(Φ (false, 0) ∗ Φ (false, 1) ∗ Φ (false, 2) ∗ Φ (true, 0) ∗ Φ (true, 1) ∗ Φ (true, 2)) :=
  bigSep_univ_eq_bigSepL [(false, 0), (false, 1), (false, 2), (true, 0), (true, 1), (true, 2)] (by decide) (by decide) Φ

/-- The pieces of the result that come to device `c`, each at some contents. -/
def outs (c : Dev nD) : sProp (MM F) :=
  iprop(hasAny c (outM false c) ∗ hasAny c (outM false (src false c)) ∗ hasAny c (outM false (src false (src false c)))
    ∗ hasAny c (outM true c) ∗ hasAny c (outM true (src true c)) ∗ hasAny c (outM true (src true (src true c))))

/-- The result's buffer gives them up; the rest of it plays no part. -/
theorem out_split (c : Dev nD) (f : Buf (Elt F) ((c : Thread nD τ).loc main_v1)) :
    (((c : Thread nD τ).loc main_v1) ↦{fullShare} f : sProp (MM F)) ⊢ outs c := by
  have hs (t : Bool × Dev nD) : (outM t.1 t.2).view.set = (rectO t.1 t.2).set := View.set_slice_whole main_v1 _
  have hb : (((c : Thread nD τ).loc main_v1) ↦[(Finset.univ : Finset (Bool × Dev nD)).biUnion fun t => (outM t.1 t.2).view.set]{fullShare} f : sProp (MM F))
      = bigSep Finset.univ fun t : Bool × Dev nD => ((c : Thread nD τ).loc main_v1) ↦[(outM t.1 t.2).view.set]{fullShare} f :=
    pointsTo_biUnion _ _ fun t _ t' _ h => by rw [hs, hs]; exact disjO t t' h
  have hsub : (bigSep Finset.univ fun t : Bool × Dev nD => (((c : Thread nD τ).loc main_v1) ↦[(outM t.1 t.2).view.set]{fullShare} f : sProp (MM F)))
      ⊢ bigSep Finset.univ fun t : Bool × Fin 3 => hasAny c (outM (comes c t).1 (comes c t).2) := by
    refine (BI.bigSep_subset (Finset.subset_univ (Finset.univ.map (comes c)))).trans ?_
    rw [BI.bigSep_map (comes c)]
    refine bigSep_mono fun t _ => ?_
    show (((c : Thread nD τ).loc main_v1) ↦[(outM (comes c t).1 (comes c t).2).view.set]{fullShare} f : sProp (MM F))
      ⊢ iprop(∃ X, has c (outM (comes c t).1 (comes c t).2) X)
    iintro H
    iexists _; iapply (owns_intro (c : Thread nD τ) (outM (comes c t).1 (comes c t).2) fullShare f); iexact H
  iintro H
  ihave H := (pointsTo_split_subset (I := (Finset.univ : Finset (Bool × Dev nD)).biUnion fun t => (outM t.1 t.2).view.set) (Finset.subset_univ _)).1 $$ H
  icases H with ⟨H, -⟩
  ihave H := (Entails.of_eq hb) $$ H
  ihave H := hsub $$ H
  ihave H := (Entails.of_eq (bigSep_six fun t => hasAny c (outM (comes c t).1 (comes c t).2))) $$ H
  unfold outs
  iexact H

end Cert.GatherProof

end
-- ==== Proof.GatherSchedule.lean ====
/-
# The gather: who signals whom, how much, and with what in hand

Per device there are twelve semaphores the second slice uses: the barrier's, the exit barrier's, two for the copies into
the result, and per direction and hop one for a transfer's departure and one for its arrival. A copy's semaphore is used
for three rounds, one for each piece that comes, and every other for one. A piece that goes on to the neighbour is read by
two transfers at once, its copy into the result and its hop: each takes half of what is held of it, and gives it back when
it is over.
-/
module

public import proofs.«01_k».proof.Proof.GatherPieces

@[expose] public section

noncomputable section

namespace Cert.GatherProof

open Cert.GatherIdeal Cert.GatherIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores -/

/-- The kinds of semaphore: the barrier, the exit barrier, the copy into the result of one direction, the departure and
    the arrival of one direction's transfer at one hop. -/
inductive Kind where
  | bar
  | bar2
  | copy (d : Bool)
  | send (d : Bool) (s : Fin 2)
  | recv (d : Bool) (s : Fin 2)
  deriving DecidableEq

/-- Direction `d`'s row number. -/
abbrev row : Bool → ℕ | false => 0 | true => 1

theorem copy_lt (d : Bool) : 2 + row d < 28 := by revert d; decide
theorem send_lt (d : Bool) (s : Fin 2) : 7 + 6 * row d + s.val < 28 := by revert d s; decide
theorem recv_lt (d : Bool) (s : Fin 2) : 19 + 6 * row d + s.val < 28 := by revert d s; decide

/-- Which semaphore a kind is. -/
def semOf : Kind → SemLoc sig
  | .bar => .reg (SemArray.scalar (sig.barrier 0 rfl) : Sems sig S_).sem
  | .bar2 => .reg cc0_scoped0.sem
  | .copy d => .dma ⟨2 + row d, copy_lt d⟩
  | .send d s => .dma ⟨7 + 6 * row d + s.val, send_lt d s⟩
  | .recv d s => .dma ⟨19 + 6 * row d + s.val, recv_lt d s⟩

/-- All the kinds, in a list. -/
def allKinds : List Kind :=
  [.bar, .bar2, .copy false, .copy true, .send false 0, .send false 1, .send true 0, .send true 1,
    .recv false 0, .recv false 1, .recv true 0, .recv true 1]

instance : Fintype Kind := ⟨⟨allKinds, by decide⟩, fun k => by
  cases k with
  | bar => decide
  | bar2 => decide
  | copy d => revert d; decide
  | send d s => revert d s; decide
  | recv d s => revert d s; decide⟩

/-- Which kind a semaphore is. -/
def kindOf (sm : SemLoc sig) : Option Kind := allKinds.find? fun k => decide (semOf k = sm)

theorem kindOf_semOf (k : Kind) : kindOf (semOf k) = Option.some k := by revert k; decide +kernel

theorem semOf_injective : Function.Injective semOf := fun k k' h => by
  have := kindOf_semOf k
  rw [h, kindOf_semOf] at this
  exact (Option.some.inj this).symm

/-- Device `c`'s semaphore of kind `k`. -/
abbrev cell (c : Dev nD) (k : Kind) : GSem nD τ sig := ((c : Thread nD τ), semOf k)

theorem cell_injective {c c' : Dev nD} {k k' : Kind} (h : cell c k = cell c' k') : c = c' ∧ k = k' :=
  ⟨congrArg (fun g : GSem nD τ sig => g.1.1) h, semOf_injective (congrArg Prod.snd h)⟩

/-- How much one contribution to a semaphore is; -/
def unit : Kind → ℕ | .bar => 1 | .bar2 => 1 | _ => N
/-- for how many rounds it is used; -/
def rounds : Kind → ℕ | .copy _ => 3 | _ => 1
/-- whose contributions there are in a round; -/
def dut : Kind → Finset Bool | .bar => Finset.univ | .bar2 => Finset.univ | _ => {false}
/-- and how much they are together. -/
def total : Kind → ℕ | .bar => 2 | .bar2 => 2 | _ => N

theorem unit_pos (k : Kind) : 0 < unit k := by
  cases k with
  | bar => exact Nat.one_pos
  | bar2 => exact Nat.one_pos
  | copy d => exact N_pos
  | send d s => exact N_pos
  | recv d s => exact N_pos

theorem rounds_pos (k : Kind) : 0 < rounds k := by cases k <;> exact Nat.succ_pos _

/-! ## Contents -/

/-- Device `c`'s finished piece in either direction, as its kernel finds it. -/
def Y (c : Dev nD) : Bool → Mat F
  | false => (win0_0.blk (0 : Fin 1)).view.read (Elt F) ((s₀ m ρ).mem ((c : Thread nD τ).loc main_arg0))
  | true => (win0_1.blk (0 : Fin 1)).view.read (Elt F) ((s₀ m ρ).mem ((c : Thread nD τ).loc main_arg1))

/-- The piece that has come to device `c` after `r` hops: that of the device `r` places back. -/
def got (c : Dev nD) (d : Bool) (r : ℕ) : Mat F := Y m ρ ((src d)^[r] c) d

theorem got_src (c : Dev nD) (d : Bool) (r : ℕ) : got m ρ (src d c) d r = got m ρ c d (r + 1) := rfl

/-! ## The payloads -/

/-- What duty `d` of round `r` of device `c`'s semaphore of each kind hands over. -/
def pay (c : Dev nD) : Kind → ℕ → Bool → sProp (MM F)
  | .bar, _, d => iprop(hasAny (dst d c) (comM d false) ∗ hasAny (dst d c) (comM d true))
  | .bar2, _, _ => iprop(emp)
  | .copy d, r, _ => iprop(has c (outM d ((src d)^[r] c)) (got m ρ c d r) ∗ hasL c (stage d r) (got m ρ c d r))
  | .send d s, _, _ => hasR c (stage d s.val) (got m ρ c d s.val)
  | .recv d s, _, _ => has c (stage d (s.val + 1)) (got m ρ c d (s.val + 1))

instance hasAny_storable (c : Dev nD) {sp : Space} {s : Shape} {e : EltTy} (p : Memref sig .tc sp s e) :
    BI.Storable (upEmb : UEmb _ (MM F)) (hasAny c p) := by unfold hasAny; infer_instance
instance pay_storable (c : Dev nD) (k : Kind) (r : ℕ) (d : Bool) : BI.Storable (upEmb : UEmb _ (MM F)) (pay m ρ c k r d) := by
  cases k <;> unfold pay <;> infer_instance

/-- The schedule: three rounds for a copy's semaphore, one for any other. -/
def gatherRd : Rounds.Schedule (GSem nD τ sig) Bool (MM F) where
  duties g r := if g.1.2 = .tc then (match kindOf g.2 with | .some k => if r < rounds k then dut k else ∅ | none => ∅) else ∅
  unitless _ := False
  amount g _ _ := match kindOf g.2 with | .some k => unit k | none => 1
  payload g r d := match kindOf g.2 with | .some k => pay m ρ g.1.1 k r d | none => iprop(emp)
  amount_pos g _ _ _ := by
    cases kindOf g.2 with
    | none => exact Nat.one_pos
    | some k => exact unit_pos k

instance gatherRd_payload_storable (g : GSem nD τ sig) (r : ℕ) (d : Bool) :
    BI.Storable (upEmb : UEmb _ (MM F)) ((gatherRd (F := F) m ρ).payload g r d) := by
  show BI.Storable upEmb (match kindOf g.2 with | .some k => pay m ρ g.1.1 k r d | none => iprop(emp))
  cases kindOf g.2 <;> infer_instance

theorem duties_cell (c : Dev nD) (k : Kind) {r : ℕ} (hr : r < rounds k) : (gatherRd (F := F) m ρ).duties (cell c k) r = dut k := by
  dsimp only [gatherRd]; rw [if_pos rfl, kindOf_semOf]; exact if_pos hr
theorem duties_later (c : Dev nD) (k : Kind) : ∀ r, rounds k ≤ r → (gatherRd (F := F) m ρ).duties (cell c k) r = ∅ :=
  fun r hr => by dsimp only [gatherRd]; rw [if_pos rfl, kindOf_semOf]; exact if_neg (Nat.not_lt.mpr hr)
theorem amount_cell (c : Dev nD) (k : Kind) (r : ℕ) (d : Bool) : (gatherRd (F := F) m ρ).amount (cell c k) r d = unit k := by
  dsimp only [gatherRd]; rw [kindOf_semOf]
theorem payload_cell (c : Dev nD) (k : Kind) (r : ℕ) (d : Bool) : (gatherRd (F := F) m ρ).payload (cell c k) r d = pay m ρ c k r d := by
  dsimp only [gatherRd]; rw [kindOf_semOf]

theorem expect_cell (c : Dev nD) (k : Kind) {r : ℕ} (hr : r < rounds k) : (gatherRd (F := F) m ρ).expect (cell c k) r = total k := by
  unfold Schedule.expect Schedule.amountOf
  rw [duties_cell m ρ c k hr, Finset.sum_congr rfl fun d _ => amount_cell m ρ c k r d]
  cases k with
  | bar => exact Finset.sum_const_nat (m := 1) fun _ _ => rfl
  | bar2 => exact Finset.sum_const_nat (m := 1) fun _ _ => rfl
  | copy d => exact Finset.sum_singleton _ _
  | send d s => exact Finset.sum_singleton _ _
  | recv d s => exact Finset.sum_singleton _ _

/-- What device `c` gets by waiting for the whole of round `r` of its semaphore of each kind. -/
def gets (c : Dev nD) (k : Kind) (r : ℕ) : sProp (MM F) := match k with
  | .bar => iprop(pay m ρ c .bar r false ∗ pay m ρ c .bar r true)
  | .bar2 => iprop(emp ∗ emp)
  | k => pay m ρ c k r false

theorem rest_cell (c : Dev nD) (k : Kind) {r : ℕ} (hr : r < rounds k) :
    bigSep ((gatherRd (F := F) m ρ).duties (cell c k) r \ ∅) (fun d => (gatherRd (F := F) m ρ).payload (cell c k) r d) = gets m ρ c k r := by
  rw [Finset.sdiff_empty, duties_cell m ρ c k hr, bigSep_congr fun d _ => payload_cell m ρ c k r d]
  cases k with
  | bar => exact bigSep_bool _
  | bar2 => exact bigSep_bool _
  | copy d => exact bigSep_singleton
  | send d s => exact bigSep_singleton
  | recv d s => exact bigSep_singleton

/-! ## What each device owes, and the levels -/

/-- What is owed for a list of contributions, each of a direction and a kind: to the device that way, on its semaphore
    of that kind. The head of the list is paid first. -/
def owe (c : Dev nD) : List (Bool × Kind) → CellTallies nD τ sig Unit
  | [] => 0
  | p :: l => owe c l + tallyAt (cell (dst p.1 c) p.2) () (unit p.2)

/-- Each device's contributions to the others, in the order it makes them. -/
def debts : List (Bool × Kind) :=
  [(true, .bar), (false, .bar), (false, .recv false 0), (true, .recv true 0), (false, .recv false 1), (true, .recv true 1),
    (true, .bar2), (false, .bar2)]

def L (g : GSem nD τ sig) : Finset Unit := if g.1.2 = .tc then {()} else ∅

def lvl : Kind → ℕ | .bar => 1 | .bar2 => 6 | .copy _ => 0 | .send _ _ => 0 | .recv _ s => 2 + s.val
/-- The level of a semaphore: departures, copies and the staging at 0, the barrier at 1, hop `s`'s arrival at `2 + s`, the
    exit barrier at 6. -/
def lv (g : GSem nD τ sig) (_ : Unit) : ℕ := match kindOf g.2 with | .some k => lvl k | none => 0

theorem lv_cell (c : Dev nD) (k : Kind) : lv (cell c k) () = lvl k := by
  dsimp only [lv]; rw [kindOf_semOf]

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {g : GSem nD τ sig} {u : Unit} : ∀ {l : List (Bool × Kind)}, 0 < owe c l g u →
    ∃ p ∈ l, g = cell (dst p.1 c) p.2
  | [], h => absurd h (by show ¬ 0 < (0 : CellTallies nD τ sig Unit) g u; rw [Pi.zero_apply, Finsupp.zero_apply]; exact Nat.lt_irrefl 0)
  | p :: l, h => by
    unfold owe at h
    rw [Pi.add_apply, Finsupp.add_apply, tallyAt_apply] at h
    by_cases hg : g = cell (dst p.1 c) p.2
    · exact ⟨p, List.mem_cons_self, hg⟩
    · rw [if_neg (fun h' => hg h'.1), Nat.add_zero] at h
      obtain ⟨q, hq, hg⟩ := owe_pos h
      exact ⟨q, List.mem_cons_of_mem _ hq, hg⟩

/-- A device may wait at a level below those of all it still owes. -/
theorem mayWait_below (c : Dev nD) (sm : SemLoc sig) (n : ℕ) (hn : lv ((c : Thread nD τ), sm) () ≤ n) (l : List (Bool × Kind))
    (hl : ∀ p ∈ l, n < lvl p.2) : (levAts L lv : sProp (MM F)) ⊢ MayWait (c : Thread nD τ) sm () (owe c l) :=
  MayOwe.of_cut (L := L) (lev := lv) n (fun p hp => by rw [Finset.mem_singleton.mp hp, L_tc]; exact Finset.mem_singleton_self _)
    (fun g u hg => by obtain ⟨p, _, rfl⟩ := owe_pos hg; exact Finset.mem_singleton_self _)
    (fun p hp => by rw [Finset.mem_singleton.mp hp]; exact hn)
    (fun g u hg => by obtain ⟨p, hp, rfl⟩ := owe_pos hg; rw [lv_cell]; exact hl p hp)

end Cert.GatherProof

end
-- ==== Proof.GatherRules.lean ====
/-
# The gather: the protocol's steps

One rule per kind of step: a signal, a transfer to a neighbour, a copy into the result, a wait, and a semaphore's last
wait. Each says what the step takes and what it gives back, with the semaphores' invariants and the level facts in one
persistent assertion.
-/
module

public import proofs.«01_k».proof.Proof.GatherSchedule

@[expose] public section

noncomputable section

namespace Cert.GatherProof

open Cert.GatherIdeal Cert.GatherIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg) (K : Dev nD × Kind → ℕ)

/-! ## The persistent part -/

/-- One semaphore's invariant, and that its first round has been reached. -/
def rec1 (p : Dev nD × Kind) : sProp (MM F) :=
  iprop(cellInv ER (gatherRd m ρ) (K p) (cell p.1 p.2) ∗ reached ER (cell p.1 p.2) 0)

instance rec1_persistent (p : Dev nD × Kind) : BI.Persistent (rec1 m ρ K p) := by unfold rec1; infer_instance

/-- Those of every semaphore of every device. -/
def recs : sProp (MM F) := bigSep Finset.univ (rec1 m ρ K)

instance recs_persistent : BI.Persistent (recs m ρ K) := by unfold recs; infer_instance

/-- Those, with the level facts. -/
def ctx : sProp (MM F) := iprop(recs m ρ K ∗ levAts L lv)

instance ctx_persistent : BI.Persistent (ctx m ρ K) := by unfold ctx; infer_instance

theorem recs_at (c : Dev nD) (k : Kind) : recs m ρ K ⊢ rec1 m ρ K (c, k) := by
  unfold recs; exact bigSep_elim (Finset.mem_univ (c, k))

/-- The invariant of any one semaphore, that its first round is reached, and the level facts. -/
theorem ctx_at (c : Dev nD) (k : Kind) :
    ctx m ρ K ⊢ iprop(cellInv ER (gatherRd m ρ) (K (c, k)) (cell c k) ∗ reached ER (cell c k) 0 ∗ levAts L lv) := by
  unfold ctx
  iintro ⟨H, HL⟩
  ihave H := (recs_at m ρ K c k) $$ H
  unfold rec1
  icases H with ⟨H1, H2⟩
  isplitl [H1]; · iexact H1
  isplitl [H2]; · iexact H2
  iexact HL

/-- What a device still owes, its record of past waits left open. -/
def owing (c : Dev nD) (l : List (Bool × Kind)) : sProp (MM F) :=
  iprop(∃ W, owes (c : Thread nD τ) (owe c l) W)

/-- A device is at the start of round `r` of its semaphore. -/
abbrev atR (c : Dev nD) (k : Kind) (r : ℕ) : sProp (MM F) := atPos ER (cell c k) r ∅ 0
/-- Round `r` of a device's semaphore has been reached. -/
abbrev upto (c : Dev nD) (k : Kind) (r : ℕ) : sProp (MM F) := reached ER (cell c k) r
/-- A device may make the contribution `d` to round `r` of the semaphore of kind `k` of device `o`. -/
abbrev tok (o : Dev nD) (k : Kind) (r : ℕ) (d : Bool) : sProp (MM F) := dutyTok ER (cell o k) r d
/-- A device may expect a whole round of its semaphore. -/
abbrev due (c : Dev nD) (k : Kind) : sProp (MM F) := cred (tallyAt (cell c k) () (total k))
/-- A semaphore done with, at zero. -/
abbrev done (c : Dev nD) (k : Kind) : sProp (MM F) := semVal (cell c k) 0

section Steps

variable (c : Dev nD) {α : Type} {Q : α → sProp (MM F)} {k : PUnit → Prog (TpuEff nD τ sig (Elt F) Λ₀ .tc) α}

/-! ## Waits -/

/-- Waiting for the whole of a round of a semaphore: everything handed over in it, and the next round reached. -/
theorem wait_step {w : TpuEff nD τ sig (Elt F) Λ₀ .tc PUnit} (kd : Kind) (r : ℕ) (hr : r < rounds kd) (l : List (Bool × Kind))
    (hw : ∀ Q : PUnit → sProp (MM F), wpE (defs₀ (F := F)) 𝒱₀ (c : Thread nD τ) none Set.univ w Q
      = waitSpec (c : Thread nD τ) Set.univ (semOf kd) (total kd) Q)
    (hl : ∀ p ∈ l, lvl kd < lvl p.2) :
    iprop(ctx m ρ K ∗ due c kd ∗ owing c l ∗ atR c kd r)
      ⊢ iprop(((owing c l ∗ atR c kd (r + 1) ∗ upto c kd (r + 1) ∗ gets m ρ c kd r)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold owing
  iintro ⟨#HC, Hc, ⟨%W, HO⟩, Hat⟩ Hk
  ihave #HI := (ctx_at m ρ K c kd) $$ HC
  icases HI with ⟨#HI, -, #HL⟩
  iapply (Rounds.wp_wait_rest_token 𝒱₀ ER (gatherRd m ρ) (c : Thread nD τ) none (κ := K (c, kd)) hw (Set.mem_univ _) ()
      (O := owe c l) (W := W) (R := r) (m := 0) (T := ∅) (by rw [Nat.zero_add, expect_cell m ρ c kd hr])) $$ [Hc HO Hat]
  · isplitr; · iexact HI
    isplitl [Hc]; · iexact Hc
    isplitl [HO]; · iexact HO
    isplitr; · iapply (mayWait_below c (semOf kd) (lvl kd) (le_of_eq (lv_cell c kd)) l hl); iexact HL
    iexact Hat
  iintro ⟨HO, Hat, Hr, Hpay⟩
  ihave Hp := (Entails.of_eq (rest_cell m ρ c kd hr)) $$ Hpay
  iapply Hk
  isplitl [HO]; · iexists _; iexact HO
  isplitl [Hat]; · iexact Hat
  isplitl [Hr]; · iexact Hr
  iexact Hp

/-- Waiting for the whole of a semaphore's last round: everything handed over in it, and the semaphore at zero for good. -/
theorem wait_last {w : TpuEff nD τ sig (Elt F) Λ₀ .tc PUnit} (kd : Kind) (r : ℕ) (hr : r + 1 = rounds kd) (l : List (Bool × Kind))
    (hw : ∀ Q : PUnit → sProp (MM F), wpE (defs₀ (F := F)) 𝒱₀ (c : Thread nD τ) none Set.univ w Q
      = waitSpec (c : Thread nD τ) Set.univ (semOf kd) (total kd) Q)
    (hl : ∀ p ∈ l, lvl kd < lvl p.2) :
    iprop(ctx m ρ K ∗ due c kd ∗ owing c l ∗ atR c kd r)
      ⊢ iprop(((owing c l ∗ done c kd ∗ gets m ρ c kd r)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HC, H⟩ Hk
  ihave #HI := (ctx_at m ρ K c kd) $$ HC
  icases HI with ⟨#HI, -, -⟩
  iapply (wait_step m ρ K c kd r (by omega) l hw hl) $$ [H]
  · isplitr; · iexact HC
    iexact H
  iintro ⟨HO, Hat, -, Hp⟩
  imod (Rounds.cell_close ER (gatherRd m ρ) (Set.mem_univ (K (c, kd))) (fun h => h) (R := r + 1)
    (fun r' hr' => duties_later m ρ c kd r' (hr ▸ hr'))) $$ [Hat] with Hz
  · isplitr; · iexact HI
    iexact Hat
  iapply Hk
  isplitl [HO]; · iexact HO
  isplitl [Hz]; · iexact Hz
  iexact Hp

/-- A transfer's wait names the semaphore of this kind. -/
theorem wait_dma (kd : Kind) {sem : DmaSem sig} {sp sp' : Space} {s s' : Shape} {e e' : EltTy}
    {srcM : Memref sig .tc sp s e} {dstM : Memref sig .tc sp' s' e'} {h₁ h₂}
    (hs : SemLoc.dma sem = semOf kd) (hd : dstM.view.dmaCredit = total kd) (Q : PUnit → sProp (MM F)) :
    wpE (defs₀ (F := F)) 𝒱₀ (c : Thread nD τ) none Set.univ (.waitDma2 sem srcM dstM h₁ h₂) Q
      = waitSpec (c : Thread nD τ) Set.univ (semOf kd) (total kd) Q := by rw [wpE_waitDma2_eq, hs, hd]

/-- So does a barrier's. -/
theorem wait_reg (kd : Kind) {sem : Sem sig} {n : ℕ} (hs : SemLoc.reg sem = semOf kd) (hd : n = total kd) (Q : PUnit → sProp (MM F)) :
    wpE (defs₀ (F := F)) 𝒱₀ (c : Thread nD τ) none Set.univ (.semWait sem n) Q
      = waitSpec (c : Thread nD τ) Set.univ (semOf kd) (total kd) Q := by rw [wpE_semWait_eq, hs, hd]

/-! ## Signals -/

/-- A signal to the neighbour in direction `x`, its contribution handed over. -/
theorem signal_to (kd : Kind) (x : Bool) (l : List (Bool × Kind)) {n : Dev nD} {sem : Sem sig} {a : ℕ}
    (hn : n = dst x c) (hs : SemLoc.reg sem = semOf kd) (ha : a = unit kd) (hd : (!x) ∈ dut kd) :
    iprop(ctx m ρ K ∗ owing c ((x, kd) :: l) ∗ tok (dst x c) kd 0 (!x) ∗ pay m ρ (dst x c) kd 0 (!x))
      ⊢ iprop((owing c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) sem a) k) Q) := by
  subst hn ha
  unfold owing
  iintro ⟨#HC, ⟨%W, HO⟩, Ht, Hp⟩ Hk
  ihave #HI := (ctx_at m ρ K (dst x c) kd) $$ HC
  icases HI with ⟨#HI, #HR, -⟩
  iapply (Rounds.wp_signal 𝒱₀ ER (gatherRd m ρ) (c : Thread nD τ) none (dst := (dst x c : Thread nD τ)) (κ := K (dst x c, kd)) (r := 0)
      (d := !x) (by rw [hs, duties_cell m ρ (dst x c) kd (rounds_pos kd)]; exact hd) (by rw [hs]; exact amount_cell m ρ (dst x c) kd 0 (!x)) () (owe c l)
      (O₀ := owe c ((x, kd) :: l)) (by rw [hs]; rfl)) $$ [HO Ht Hp]
  · rw [hs]
    isplitr; · iexact HI
    isplitl [HO]; · iexact HO
    isplitl [Ht]; · iexact Ht
    isplitl [Hp]; · rw [payload_cell]; iexact Hp
    iexact HR
  iintro HO
  iapply Hk
  iexists _
  iexact HO

/-! ## Transfers and copies -/

/-- What the arrival of direction `d`'s transfer at hop `s` from device `c` hands to the receiver. -/
theorem pay_recv (d : Bool) (s : Fin 2) :
    pay m ρ (dst d c) (.recv d s) 0 false = has (dst d c) (stage d (s.val + 1)) (got m ρ c d s.val) := by
  show has (dst d c) (stage d (s.val + 1)) (got m ρ (dst d c) d (s.val + 1)) = _
  rw [← got_src, src_dst]

/-- Direction `d`'s transfer at hop `s`: half of what is held of the piece that has come goes with it. -/
theorem send_to (d : Bool) (s : Fin 2) (l : List (Bool × Kind)) {n : Dev nD} {sS sR : DmaSem sig}
    {srcM dstM : Memref sig .tc .vmem S1024x1024 .f32} {hsc hsrc hdst hsem}
    (hn : n = dst d c) (hsS : SemLoc.dma sS = semOf (.send d s)) (hsR : SemLoc.dma sR = semOf (.recv d s))
    (hsM : srcM = stage d s.val) (hdM : dstM = stage d (s.val + 1)) :
    iprop(ctx m ρ K ∗ hasR c (stage d s.val) (got m ρ c d s.val) ∗ hasAny (dst d c) (stage d (s.val + 1))
        ∗ owing c ((d, .recv d s) :: l) ∗ tok c (.send d s) 0 false ∗ tok (dst d c) (.recv d s) 0 false)
      ⊢ iprop(((due c (.send d s) ∗ owing c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc n : Thread nD τ) dstM (.dma sS) hsc) (.dma sR) hsrc hdst hsem) k) Q) := by
  subst hn hsM hdM
  unfold owing hasAny has hasR owns
  iintro ⟨#HC, ⟨%fs, %hfs, Hs⟩, ⟨%X, %fd, -, Hd⟩, ⟨%W, HO⟩, Ht₁, Ht₂⟩ Hk
  ihave #H1 := (ctx_at m ρ K c (.send d s)) $$ HC
  icases H1 with ⟨#HI₁, #HR₁, -⟩
  ihave #H2 := (ctx_at m ρ K (dst d c) (.recv d s)) $$ HC
  icases H2 with ⟨#HI₂, #HR₂, -⟩
  iapply (Rounds.wp_send_pointsTo_with 𝒱₀ ER (gatherRd m ρ) (c : Thread nD τ) none (c' := (dst d c : Thread nD τ))
      (κ₁ := K (c, .send d s)) (κ₂ := K (dst d c, .recv d s)) (r₁ := 0) (r₂ := 0) (d₁ := false) (d₂ := false) (fs := fs) (fd := fd)
      (F := iprop(emp)) (O₀ := owe c ((d, .recv d s) :: l))
      (by rw [hsS, duties_cell m ρ c (.send d s) Nat.one_pos]; exact Finset.mem_singleton_self _)
      (by rw [hsR, duties_cell m ρ (dst d c) (.recv d s) Nat.one_pos]; exact Finset.mem_singleton_self _)
      () () N (show (stage d (s.val + 1)).view.amount (SemLoc.dma sR) = N from credit_stage d (s.val + 1))
      (by rw [hsS]; exact amount_cell m ρ c (.send d s) 0 false)
      (by rw [hsR]; exact amount_cell m ρ (dst d c) (.recv d s) 0 false) (owe c l) (by rw [hsR]; rfl) (W := W)
      (by
        rw [hsS, payload_cell]
        unfold pay hasR owns
        iintro H
        iexists fs
        isplitr; · ipureintro; exact hfs
        iexact H)
      (by
        rw [hsR, payload_cell, pay_recv]
        unfold has owns
        iintro ⟨H, -⟩
        iexists _
        isplitr
        rotate_left
        · iexact H
        · ipureintro; rw [View.read_write_univ]; exact hfs)) $$ [Hs Hd HO Ht₁ Ht₂]
  · rw [hsS, hsR]
    isplitr; · iexact HI₁
    isplitr; · iexact HI₂
    isplitl [Hs]; · iexact Hs
    isplitl [Hd]
    · isplitl [Hd]; · iexact Hd
      iempintro
    isplitl [HO]; · iexact HO
    isplitl [Ht₁]; · iexact Ht₁
    isplitr; · iexact HR₁
    isplitl [Ht₂]; · iexact Ht₂
    iexact HR₂
  rw [hsS]
  iintro ⟨Hc, HO⟩
  iapply Hk
  isplitl [Hc]; · iexact Hc
  iexists _
  iexact HO

/-- Direction `d`'s copy into the result of the piece that has come after `r` hops, from the other half. -/
theorem copy_out (d : Bool) (r : ℕ) (hr : r < 3) {sem : DmaSem sig} {srcM : Memref sig .tc .vmem S1024x1024 .f32}
    {dstM : Memref sig .tc .hbm S1024x1024 .f32} {hsrc hdst hsem} (hs : SemLoc.dma sem = semOf (.copy d)) (hsM : srcM = stage d r)
    (hdM : dstM = outM d ((src d)^[r] c)) :
    iprop(ctx m ρ K ∗ upto c (.copy d) r ∗ hasL c (stage d r) (got m ρ c d r) ∗ hasAny c (outM d ((src d)^[r] c)) ∗ tok c (.copy d) r false)
      ⊢ iprop((due c (.copy d) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.here dstM) (.dma sem) hsrc hdst hsem) k) Q) := by
  subst hsM hdM
  unfold hasAny has hasL owns
  iintro ⟨#HC, #HR, ⟨%fs, %hfs, Hs⟩, ⟨%X, %fd, -, Hd⟩, Ht⟩ Hk
  ihave #H1 := (ctx_at m ρ K c (.copy d)) $$ HC
  icases H1 with ⟨#HI, -, -⟩
  iapply (Rounds.wp_copy_pointsTo 𝒱₀ ER (gatherRd m ρ) (c : Thread nD τ) none (κ := K (c, .copy d)) (r := r) (d := false) (fs := fs) (fd := fd)
      (by rw [hs, duties_cell m ρ c (.copy d) hr]; exact Finset.mem_singleton_self _) () N
      (show (outM d ((src d)^[r] c)).view.amount (SemLoc.dma sem) = N from credit_out d _)
      (by rw [hs]; exact amount_cell m ρ c (.copy d) r false)
      (by
        rw [hs, payload_cell]
        unfold pay has hasL owns
        iintro ⟨H, HF⟩
        isplitr [HF]
        · iexists _
          isplitr
          rotate_left
          · iexact H
          · ipureintro; rw [View.read_write_univ]; exact hfs
        · iexists fs
          isplitr; · ipureintro; exact hfs
          iexact HF)) $$ [Hs Hd Ht]
  · rw [hs]
    isplitr; · iexact HI
    isplitl [Hs]; · iexact Hs
    isplitl [Hd]; · iexact Hd
    isplitl [Ht]; · iexact Ht
    iexact HR
  rw [hs]
  iintro Hc
  iapply Hk
  iexact Hc

end Steps

end Cert.GatherProof

end
-- ==== Proof.GatherSteps.lean ====
/-
# The gather: loads, stores, and the steps it repeats

The loads and stores of the staged pieces and the accumulator; then the steps that come once per hop and direction:
starting a copy into the result and waiting for it, sending, and waiting for a departure and for an arrival.
-/
module

public import proofs.«01_k».proof.Proof.GatherRules

@[expose] public section

noncomputable section

namespace Cert.GatherProof

open Cert.GatherIdeal Cert.GatherIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)
variable (K : Dev nD × Kind → ℕ)

/-! ## Payloads -/

/-- A piece at the shape the accumulator's rectangle has it; -/
def up (v : Mat F) : S1x1024x1024.Idx → Elt F .f32 := shapeCast S1x1024x1024 v shapeCasts_S1024x1024_S1x1024x1024
/-- and back. -/
def dn (v : S1x1024x1024.Idx → Elt F .f32) : Mat F := shapeCast S1024x1024 v shapeCasts_S1x1024x1024_S1024x1024
theorem dn_up (v : Mat F) : dn (up v) = v := by
  unfold dn up; funext j
  show v (Shape.reshapeEquiv _ (Shape.reshapeEquiv _ j)) = v j
  rw [Shape.reshapeEquiv_reshapeEquiv, Shape.reshapeEquiv_self]

theorem cast_self (v : Mat F) : shapeCast S1024x1024 v shapeCasts_S1024x1024_S1024x1024 = v := by
  funext j
  show v (Shape.reshapeEquiv _ j) = v j
  rw [Shape.reshapeEquiv_self]

theorem pay1_eq (v : Mat F) : k0_pay1 v = up v :=
  show up (shapeCast S1024x1024 v shapeCasts_S1024x1024_S1024x1024) = _ by rw [cast_self]
theorem pay2_eq (v : Mat F) : k0_pay2 v = v := cast_self v
theorem pay3_eq (v : Mat F) : k0_pay3 v = up v := rfl

/-! ## Loads and stores -/

/-- The two staged operands of device `c`. -/
def yy (c : Dev nD) : sProp (MM F) :=
  iprop(has c (Memref.whole cc0_stg0_0) (Y m ρ c false) ∗ has c (Memref.whole cc0_stg1_0) (Y m ρ c true))

section Steps

variable (c : Dev nD) {α : Type} {Q : α → sProp (MM F)}

/-- A load of the whole of a piece. -/
theorem load_all (p : Memref sig .tc .vmem S1024x1024 .f32) (X : Mat F) {inb}
    {hl : p.view.LoadsAt (Rect.unit (s := S1024x1024) ![0, 0] S1024x1024.size inb).toLoadRect}
    {k : Mat F → Prog (TpuEff nD τ sig (Elt F) Λ₀ .tc) α} :
    has c p X ⊢ iprop((has c p X -∗ wp frame (wpE (defs₀ (F := F)) 𝒱₀ (c : Thread nD τ) none) Set.univ (k X) Q)
      -∗ wp frame (wpE (defs₀ (F := F)) 𝒱₀ (c : Thread nD τ) none) Set.univ (.op (.load p (Rect.unit (s := S1024x1024) ![0, 0] S1024x1024.size inb).toLoadRect hl) k) Q) := by
  have h := wp_load_rect_whole (Q := Q) (k := k) (hl := hl) c p inb ![0, 0] inb rfl X
  rwa [show (fun j => X ((Rect.unit (s := S1024x1024) ![0, 0] S1024x1024.size inb).emb j)) = X from funext fun j => congrArg X (funext fun a => Fin.ext (by
    rw [Rect.emb_apply]; show ![0, 0] a + 1 * (j a).val = (j a).val; fin_cases a <;> simp))] at h

/-- Direction `d`'s piece of a buffer of two such pieces. -/
abbrev rowM (R : Memref sig .tc .vmem S2x1024x1024 .f32) (d : Bool) : Memref sig .tc .vmem S1024x1024 .f32 :=
  (R.slice (rectA d) (fun _ => rfl)).squeeze S1024x1024 squeezes_S1x1024x1024_S1024x1024

/-- A load of a direction's piece of the accumulator. -/
theorem load_row (R : Memref sig .tc .vmem S2x1024x1024 .f32) (d : Bool) {off : Fin 3 → ℕ} {inb} (ho : off = offA d)
    {hl : R.view.LoadsAt (Rect.unit (s := S2x1024x1024) off S1x1024x1024.size inb).toLoadRect}
    {k : (S1x1024x1024.Idx → Elt F .f32) → Prog (TpuEff nD τ sig (Elt F) Λ₀ .tc) α} (X : Mat F) :
    has c (rowM R d) X ⊢ iprop((has c (rowM R d) X -∗ wp frame (wpE (defs₀ (F := F)) 𝒱₀ (c : Thread nD τ) none) Set.univ (k (up X)) Q)
      -∗ wp frame (wpE (defs₀ (F := F)) 𝒱₀ (c : Thread nD τ) none) Set.univ (.op (.load R (Rect.unit (s := S2x1024x1024) off S1x1024x1024.size inb).toLoadRect hl) k) Q) := by
  subst ho
  exact wp_load_piece c R inb squeezes_S1x1024x1024_S1024x1024 shapeCasts_S1024x1024_S1x1024x1024 X

/-- A store of a whole such piece. -/
theorem store_row (R : Memref sig .tc .vmem S2x1024x1024 .f32) (d : Bool) {off : Fin 3 → ℕ} {inb} (ho : off = offA d) {w : S1x1024x1024.Idx → Elt F .f32} (Y : Mat F) (hw : w = up Y)
    {hx : (R.access (Rect.unit (s := S2x1024x1024) off S1x1024x1024.size inb)).Stores Finset.univ} {hm}
    {k : PUnit → Prog (TpuEff nD τ sig (Elt F) Λ₀ .tc) α} :
    hasAny c (rowM R d) ⊢ iprop((has c (rowM R d) Y -∗ wp frame (wpE (defs₀ (F := F)) 𝒱₀ (c : Thread nD τ) none) Set.univ (k ⟨⟩) Q)
      -∗ wp frame (wpE (defs₀ (F := F)) 𝒱₀ (c : Thread nD τ) none) Set.univ (.op (.store R (Rect.unit (s := S2x1024x1024) off S1x1024x1024.size inb) w Finset.univ hx hm) k) Q) := by
  subst ho hw
  unfold hasAny
  iintro ⟨%X, H⟩
  have h := wp_store_piece (Q := Q) (k := k) (w := up Y) (hx := hx) (hm := hm) c R inb squeezes_S1x1024x1024_S1024x1024 shapeCasts_S1x1024x1024_S1024x1024 X
  rw [show shapeCast S1024x1024 (up Y) shapeCasts_S1x1024x1024_S1024x1024 = Y from dn_up Y] at h
  iapply h $$ H

theorem hasAny_intro {sp : Space} {s : Shape} {e : EltTy} (p : Memref sig .tc sp s e) (X : s.Idx → Elt F e) :
    has c p X ⊢ (hasAny c p : sProp (MM F)) := by
  unfold hasAny; iintro H; iexists X; iexact H

theorem hasAny_elim {sp : Space} {s : Shape} {e : EltTy} (p : Memref sig .tc sp s e) :
    (hasAny c p : sProp (MM F)) ⊢ iprop(∃ X, has c p X) := by
  unfold hasAny; exact BI.Entails.refl _

/-! ## Copies into the result -/

/-- What a device needs for the copy of the piece that comes after `r` hops: to be allowed its contribution, and the place
    in the result. -/
def copyTok (d : Bool) (r : ℕ) : sProp (MM F) := iprop(tok c (.copy d) r false ∗ hasAny c (outM d ((src d)^[r] c)))
/-- Where it stands at the copies' semaphore before that copy; -/
def copyAt (d : Bool) (r : ℕ) : sProp (MM F) := iprop(atR c (.copy d) r ∗ upto c (.copy d) r)
/-- while the copy is on its way. -/
def copyMid (d : Bool) (r : ℕ) : sProp (MM F) := iprop(due c (.copy d) ∗ atR c (.copy d) r)

/-- Starting a copy. -/
theorem copy_start (d : Bool) (r : ℕ) (hr : r < 3) {sem : DmaSem sig} {srcM : Memref sig .tc .vmem S1024x1024 .f32}
    {dstM : Memref sig .tc .hbm S1024x1024 .f32} {hsrc hdst hsem} {k : PUnit → Prog (TpuEff nD τ sig (Elt F) Λ₀ .tc) α}
    (hs : SemLoc.dma sem = semOf (.copy d)) (hsM : srcM = stage d r) (hdM : dstM = outM d ((src d)^[r] c)) :
    iprop(ctx m ρ K ∗ hasL c (stage d r) (got m ρ c d r) ∗ copyTok c d r ∗ copyAt c d r)
      ⊢ iprop((copyMid c d r -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma srcM (.here dstM) (.dma sem) hsrc hdst hsem) k) Q) := by
  unfold copyTok copyAt copyMid
  iintro ⟨#HC, Ha, ⟨Ht, Ho⟩, Hat, Hr⟩ Hk
  iapply (copy_out m ρ K c d r hr hs hsM hdM) $$ [Ha Ho Ht Hr]
  · isplitr; · iexact HC
    isplitl [Hr]; · iexact Hr
    isplitl [Ha]; · iexact Ha
    isplitl [Ho]; · iexact Ho
    iexact Ht
  iintro Hd
  iapply Hk
  isplitl [Hd]; · iexact Hd
  iexact Hat

/-- Waiting for a copy that is not the last. -/
theorem copy_wait (d : Bool) (r : ℕ) (hr : r < 2) (l : List (Bool × Kind)) {sem : DmaSem sig} {srcM : Memref sig .tc .vmem S1024x1024 .f32}
    {dstM : Memref sig .tc .hbm S1024x1024 .f32} {h₁ h₂} {k : PUnit → Prog (TpuEff nD τ sig (Elt F) Λ₀ .tc) α}
    (hs : SemLoc.dma sem = semOf (.copy d)) (hdM : dstM = outM d ((src d)^[r] c)) (hl : ∀ p ∈ l, 0 < lvl p.2) :
    iprop(ctx m ρ K ∗ copyMid c d r ∗ owing c l)
      ⊢ iprop(((owing c l ∗ copyAt c d (r + 1) ∗ has c (outM d ((src d)^[r] c)) (got m ρ c d r) ∗ hasL c (stage d r) (got m ρ c d r))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM h₁ h₂) k) Q) := by
  subst hdM
  unfold copyMid copyAt
  iintro ⟨#HC, ⟨Hd, Hat⟩, HO⟩ Hk
  iapply (wait_step m ρ K c (.copy d) r (Nat.lt_succ_of_lt hr) l (wait_dma c (.copy d) hs (credit_out d _)) hl) $$ [Hd Hat HO]
  · isplitr; · iexact HC
    isplitl [Hd]; · iexact Hd
    isplitl [HO]; · iexact HO
    iexact Hat
  iintro ⟨HO, Hat, Hr, Hp⟩
  ihave Hp := (Entails.of_eq (show gets m ρ c (.copy d) r = iprop(has c (outM d ((src d)^[r] c)) (got m ρ c d r) ∗ hasL c (stage d r) (got m ρ c d r)) from rfl)) $$ Hp
  iapply Hk
  isplitl [HO]; · iexact HO
  isplitl [Hat Hr]
  · isplitl [Hat]; · iexact Hat
    iexact Hr
  iexact Hp

/-- Waiting for the last. -/
theorem copy_last (d : Bool) (l : List (Bool × Kind)) {sem : DmaSem sig} {srcM : Memref sig .tc .vmem S1024x1024 .f32}
    {dstM : Memref sig .tc .hbm S1024x1024 .f32} {h₁ h₂} {k : PUnit → Prog (TpuEff nD τ sig (Elt F) Λ₀ .tc) α}
    (hs : SemLoc.dma sem = semOf (.copy d)) (hdM : dstM = outM d (src d (src d c))) (hl : ∀ p ∈ l, 0 < lvl p.2) :
    iprop(ctx m ρ K ∗ copyMid c d 2 ∗ owing c l)
      ⊢ iprop(((owing c l ∗ done c (.copy d) ∗ has c (outM d (src d (src d c))) (got m ρ c d 2) ∗ hasL c (stage d 2) (got m ρ c d 2))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM h₁ h₂) k) Q) := by
  subst hdM
  unfold copyMid
  iintro ⟨#HC, ⟨Hd, Hat⟩, HO⟩ Hk
  iapply (wait_last m ρ K c (.copy d) 2 rfl l (wait_dma c (.copy d) hs (credit_out d _)) hl) $$ [Hd Hat HO]
  · isplitr; · iexact HC
    isplitl [Hd]; · iexact Hd
    isplitl [HO]; · iexact HO
    iexact Hat
  iintro ⟨HO, Hz, Hp⟩
  ihave Hp := (Entails.of_eq (show gets m ρ c (.copy d) 2 = iprop(has c (outM d (src d (src d c))) (got m ρ c d 2) ∗ hasL c (stage d 2) (got m ρ c d 2)) from rfl)) $$ Hp
  iapply Hk
  isplitl [HO]; · iexact HO
  isplitl [Hz]; · iexact Hz
  iexact Hp

/-! ## Hops -/

/-- What a device holds for sending at one hop in one direction: that it may send, that the neighbour's arrival may be
    paid, and its own place at the departures' semaphore; -/
def sendTok (d : Bool) (s : Fin 2) : sProp (MM F) :=
  iprop(tok c (.send d s) 0 false ∗ tok (dst d c) (.recv d s) 0 false ∗ atR c (.send d s) 0)
/-- while the transfer is on its way; -/
def sendMid (d : Bool) (s : Fin 2) : sProp (MM F) := iprop(due c (.send d s) ∗ atR c (.send d s) 0)
/-- and for receiving: its place at the arrivals' semaphore, and that it may expect an arrival. -/
def recvTok (d : Bool) (s : Fin 2) : sProp (MM F) := iprop(due c (.recv d s) ∗ atR c (.recv d s) 0)

/-- Sending. -/
theorem hop_send (d : Bool) (s : Fin 2) (l : List (Bool × Kind)) {n : Dev nD} {sS sR : DmaSem sig}
    {srcM dstM : Memref sig .tc .vmem S1024x1024 .f32} {hsc hsrc hdst hsem} {k : PUnit → Prog (TpuEff nD τ sig (Elt F) Λ₀ .tc) α}
    (hn : n = dst d c) (hsS : SemLoc.dma sS = semOf (.send d s)) (hsR : SemLoc.dma sR = semOf (.recv d s))
    (hsM : srcM = stage d s.val) (hdM : dstM = stage d (s.val + 1)) :
    iprop(ctx m ρ K ∗ hasR c (stage d s.val) (got m ρ c d s.val) ∗ hasAny (dst d c) (stage d (s.val + 1))
        ∗ owing c ((d, .recv d s) :: l) ∗ sendTok c d s)
      ⊢ iprop(((sendMid c d s ∗ owing c l) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma srcM (.remote (Dev.tc n : Thread nD τ) dstM (.dma sS) hsc) (.dma sR) hsrc hdst hsem) k) Q) := by
  unfold sendTok sendMid
  iintro ⟨#HC, Ha, Hd, HO, Ht₁, Ht₂, Hat⟩ Hk
  iapply (send_to m ρ K c d s l hn hsS hsR hsM hdM) $$ [Ha Hd HO Ht₁ Ht₂]
  · isplitr; · iexact HC
    isplitl [Ha]; · iexact Ha
    isplitl [Hd]; · iexact Hd
    isplitl [HO]; · iexact HO
    isplitl [Ht₁]; · iexact Ht₁
    iexact Ht₂
  iintro ⟨Hd, HO⟩
  iapply Hk
  isplitr [HO]
  · isplitl [Hd]; · iexact Hd
    iexact Hat
  iexact HO

/-- Waiting for the departure: the half that went with it is back. -/
theorem send_wait (d : Bool) (s : Fin 2) (l : List (Bool × Kind)) {sem : DmaSem sig} {srcM dstM : Memref sig .tc .vmem S1024x1024 .f32}
    {h₁ h₂} {k : PUnit → Prog (TpuEff nD τ sig (Elt F) Λ₀ .tc) α}
    (hs : SemLoc.dma sem = semOf (.send d s)) (hdM : dstM = stage d s.val) (hl : ∀ p ∈ l, 0 < lvl p.2) :
    iprop(ctx m ρ K ∗ sendMid c d s ∗ owing c l)
      ⊢ iprop(((owing c l ∗ done c (.send d s) ∗ hasR c (stage d s.val) (got m ρ c d s.val)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM h₁ h₂) k) Q) := by
  subst hdM
  unfold sendMid
  iintro ⟨#HC, ⟨Hd, Hat⟩, HO⟩ Hk
  iapply (wait_last m ρ K c (.send d s) 0 rfl l (wait_dma c (.send d s) hs (credit_stage d _)) hl) $$ [Hd Hat HO]
  · isplitr; · iexact HC
    isplitl [Hd]; · iexact Hd
    isplitl [HO]; · iexact HO
    iexact Hat
  iintro ⟨HO, Hz, Hp⟩
  ihave Hp := (Entails.of_eq (show gets m ρ c (.send d s) 0 = hasR c (stage d s.val) (got m ρ c d s.val) from rfl)) $$ Hp
  iapply Hk
  isplitl [HO]; · iexact HO
  isplitl [Hz]; · iexact Hz
  iexact Hp

/-- Waiting for an arrival: the next piece, in two halves. -/
theorem recv_wait (d : Bool) (s : Fin 2) (l : List (Bool × Kind)) {sem : DmaSem sig} {srcM dstM : Memref sig .tc .vmem S1024x1024 .f32}
    {h₁ h₂} {k : PUnit → Prog (TpuEff nD τ sig (Elt F) Λ₀ .tc) α}
    (hs : SemLoc.dma sem = semOf (.recv d s)) (hdM : dstM = stage d (s.val + 1)) (hl : ∀ p ∈ l, 2 + s.val < lvl p.2) :
    iprop(ctx m ρ K ∗ recvTok c d s ∗ owing c l)
      ⊢ iprop(((owing c l ∗ done c (.recv d s) ∗ hasL c (stage d (s.val + 1)) (got m ρ c d (s.val + 1))
              ∗ hasR c (stage d (s.val + 1)) (got m ρ c d (s.val + 1))) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcM dstM h₁ h₂) k) Q) := by
  subst hdM
  unfold recvTok
  iintro ⟨#HC, ⟨Hd, Hat⟩, HO⟩ Hk
  iapply (wait_last m ρ K c (.recv d s) 0 rfl l (wait_dma c (.recv d s) hs (credit_stage d _)) hl) $$ [Hd Hat HO]
  · isplitr; · iexact HC
    isplitl [Hd]; · iexact Hd
    isplitl [HO]; · iexact HO
    iexact Hat
  iintro ⟨HO, Hz, Hp⟩
  ihave Hp := (Entails.of_eq (show gets m ρ c (.recv d s) 0 = has c (stage d (s.val + 1)) (got m ρ c d (s.val + 1)) from rfl)) $$ Hp
  ihave Hp := (halve c (stage d (s.val + 1)) (got m ρ c d (s.val + 1))) $$ Hp
  iapply Hk
  isplitl [HO]; · iexact HO
  isplitl [Hz]; · iexact Hz
  iexact Hp

end Steps

end Cert.GatherProof

end
-- ==== Proof.GatherBody.lean ====
/-
# The gather: a device's kernel

What a device's kernel makes of its share of the protocol: its ten stretches in order, then the last copy and the exit
barrier.
-/
module

public import proofs.«01_k».proof.Proof.GatherSteps

@[expose] public section

noncomputable section

namespace Cert.GatherProof

open Cert.GatherIdeal Cert.GatherIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)
variable (K : Dev nD × Kind → ℕ)

/-- What a device still owes after its first `n` contributions. -/
abbrev rest (n : ℕ) : List (Bool × Kind) := debts.drop n

/-- What the signal of the barrier one way hands over: the device's own landing slots of the opposite direction. -/
theorem pay_bar (c : Dev nD) (x : Bool) :
    iprop(hasAny c (comM (!x) false) ∗ hasAny c (comM (!x) true)) = pay m ρ (dst x c) .bar 0 (!x) := by
  show _ = iprop(hasAny (dst (!x) (dst x c)) (comM (!x) false) ∗ hasAny (dst (!x) (dst x c)) (comM (!x) true))
  rw [show dst (!x) (dst x c) = c by cases x; exacts [prv_nxt c, nxt_prv c]]

/-- What the barrier's wait gives: both neighbours' landing slots. -/
theorem gets_bar (c : Dev nD) : gets m ρ c .bar 0
    = iprop((hasAny (nxt c) (comM false false) ∗ hasAny (nxt c) (comM false true)) ∗ (hasAny (prv c) (comM true false) ∗ hasAny (prv c) (comM true true))) := rfl

/-- What a device needs for the two signals and the wait of the barrier of kind `kd`. -/
def barTok (c : Dev nD) (kd : Kind) : sProp (MM F) :=
  iprop(tok (dst true c) kd 0 false ∗ tok (dst false c) kd 0 true ∗ atR c kd 0 ∗ due c kd)

theorem out_eq {off off' : Fin 2 → ℕ} {inb inb'} (h : off = off') :
    outR.slice (Rect.unit (s := S4096x2048) off S1024x1024.size inb) (fun _ => rfl) = outR.slice (Rect.unit (s := S4096x2048) off' S1024x1024.size inb') (fun _ => rfl) := by
  subst h; rfl

/-- What a device knows of its copies' semaphore at the start. -/
theorem copyAt_zero (c : Dev nD) (d : Bool) : iprop(ctx m ρ K ∗ atR c (.copy d) 0) ⊢ copyAt c d 0 := by
  unfold copyAt
  iintro ⟨#HC, H⟩
  ihave #H1 := (ctx_at m ρ K c (.copy d)) $$ HC
  icases H1 with ⟨-, #HR, -⟩
  isplitl [H]; · iexact H
  iexact HR

/-- The accumulator's piece, in two halves, is the first piece that has come. -/
theorem own_piece (c : Dev nD) (d : Bool) :
    has c (accM d) (Y m ρ c d) ⊢ iprop(hasL c (stage d 0) (got m ρ c d 0) ∗ hasR c (stage d 0) (got m ρ c d 0)) :=
  halve c (accM d) (Y m ρ c d)

/-! ## The stretches -/

/-- The left piece into the accumulator, the right one read. -/
theorem part1 (c : Dev nD) (Kt : (Σ' (d0 : Dev nD) (v2 : BitVec 32) (v13 : BitVec 32) (v24 : BitVec 32), FVec F S1024x1024 .f32) → sProp (MM F)) :
    iprop((yy m ρ c ∗ hasAny c (accM false))
        ∗ (∀ v2 v13 v24, (yy m ρ c ∗ has c (accM false) (Y m ρ c false)) -∗ Kt ⟨c, v2, v13, v24, Y m ρ c true⟩))
      ⊢ wp frame (wpE (defs₀ (F := F)) 𝒱₀ (c : Thread nD τ) none) Set.univ
          (k0_part1 (Memref.whole cc0_stg0_0) (Memref.isWhole_whole _) (Memref.whole cc0_stg1_0) (Memref.isWhole_whole _) (Memref.whole main_v1) (Memref.isWhole_whole _)
            accR (Memref.isWhole_whole _) comR (Memref.isWhole_whole _) cc0_scratch2 cc0_scratch3 cc0_scratch4 cc0_scoped0) Kt := by
  simp only [k0_part1_eq_skeleton]; unfold k0_part1_skel
  simp only [semSignalWord, semWaitWord, Prog.lift, Prog.bind_op, Prog.bind_ret, Prog.pure_eq_ret, wp_deviceId]
  unfold yy
  iintro ⟨⟨⟨Hf, Ht⟩, Ha⟩, Hk⟩
  iapply (load_all c (Memref.whole cc0_stg0_0) (Y m ρ c false)) $$ Hf; iintro Hf
  ihave Ha := (hasAny_elim c (accM false)) $$ Ha
  icases Ha with ⟨%X, Ha⟩
  iapply (load_row c accR false rfl X) $$ Ha; iintro Ha
  ihave Ha := (hasAny_intro c (accM false) X) $$ Ha
  iapply (store_row c accR false rfl (Y m ρ c false) (pay1_eq _)) $$ Ha; iintro Ha
  iapply (load_all c (Memref.whole cc0_stg1_0) (Y m ρ c true)) $$ Ht; iintro Ht
  rw [pay2_eq]
  rw [wp_ret]; imodintro; iapply Hk
  isplitl [Hf Ht]
  · isplitl [Hf]; · iexact Hf
    iexact Ht
  iexact Ha

/-- The right piece into the accumulator, the barrier, and the left piece's copy into the result started. -/
theorem part2 (c : Dev nD) (v2 v13 v24 : BitVec 32) (Kt : (Σ' (v59 : BitVec 32) (v60 : BitVec 32), BitVec 32) → sProp (MM F)) :
    iprop((ctx m ρ K ∗ hasL c (stage false 0) (got m ρ c false 0) ∗ hasAny c (accM true)
        ∗ (hasAny c (comM false false) ∗ hasAny c (comM false true)) ∗ (hasAny c (comM true false) ∗ hasAny c (comM true true))
        ∗ owing c (rest 0) ∗ barTok c .bar ∗ copyTok c false 0 ∗ copyAt c false 0)
        ∗ (∀ w, (has c (accM true) (Y m ρ c true) ∗ owing c (rest 2) ∗ done c .bar ∗ copyMid c false 0
            ∗ (hasAny (nxt c) (comM false false) ∗ hasAny (nxt c) (comM false true))
            ∗ (hasAny (prv c) (comM true false) ∗ hasAny (prv c) (comM true true))) -∗ Kt w))
      ⊢ wp frame (wpE (defs₀ (F := F)) 𝒱₀ (c : Thread nD τ) none) Set.univ
          (k0_part2 (Memref.whole cc0_stg0_0) (Memref.isWhole_whole _) (Memref.whole cc0_stg1_0) (Memref.isWhole_whole _) (Memref.whole main_v1) (Memref.isWhole_whole _)
            accR (Memref.isWhole_whole _) comR (Memref.isWhole_whole _) cc0_scratch2 cc0_scratch3 cc0_scratch4 cc0_scoped0 c v2 v13 v24 (Y m ρ c true)) Kt := by
  simp only [k0_part2_eq_skeleton]; unfold k0_part2_skel
  simp only [semSignalWord, semWaitWord, Prog.lift, Prog.bind_op, Prog.bind_ret, Prog.pure_eq_ret, wp_deviceId]
  unfold barTok
  iintro ⟨⟨#HC, Ha, Hb, Hcf, Hct, HO, ⟨Ht₁, Ht₂, Hat, Hdue⟩, Hct₀, Hca⟩, Hk⟩
  ihave Hb := (hasAny_elim c (accM true)) $$ Hb
  icases Hb with ⟨%X, Hb⟩
  iapply (load_row c accR true rfl X) $$ Hb; iintro Hb
  ihave Hb := (hasAny_intro c (accM true) X) $$ Hb
  iapply (store_row c accR true rfl (Y m ρ c true) (pay3_eq _)) $$ Hb; iintro Hb
  ihave Hcf := (Entails.of_eq (show iprop(hasAny c (comM false false) ∗ hasAny c (comM false true)) = pay m ρ (dst true c) .bar 0 false from pay_bar m ρ c true)) $$ Hcf
  ihave Hct := (Entails.of_eq (show iprop(hasAny c (comM true false) ∗ hasAny c (comM true true)) = pay m ρ (dst false c) .bar 0 true from pay_bar m ρ c false)) $$ Hct
  iapply (signal_to m ρ K c .bar true (rest 1) (dev1_eq c) rfl rfl (by decide)) $$ [HO Ht₁ Hcf]
  · isplitr; · iexact HC
    isplitl [HO]; · iexact HO
    isplitl [Ht₁]; · iexact Ht₁
    iexact Hcf
  iintro HO
  iapply (signal_to m ρ K c .bar false (rest 2) (dev2_eq c) rfl rfl (by decide)) $$ [HO Ht₂ Hct]
  · isplitr; · iexact HC
    isplitl [HO]; · iexact HO
    isplitl [Ht₂]; · iexact Ht₂
    iexact Hct
  iintro HO
  iapply (wait_last m ρ K c .bar 0 rfl (rest 2) (wait_reg c .bar rfl rfl) (by decide)) $$ [Hdue HO Hat]
  · isplitr; · iexact HC
    isplitl [Hdue]; · iexact Hdue
    isplitl [HO]; · iexact HO
    iexact Hat
  iintro ⟨HO, Hz, Hp⟩
  ihave Hp := (Entails.of_eq (gets_bar m ρ c)) $$ Hp
  icases Hp with ⟨Hn, Hp⟩
  iapply (copy_start m ρ K c false 0 (by decide) rfl rfl (out_eq (off1_eq c))) $$ [Ha Hct₀ Hca]
  · isplitr; · iexact HC
    isplitl [Ha]; · iexact Ha
    isplitl [Hct₀]; · iexact Hct₀
    iexact Hca
  iintro Hm
  rw [wp_ret]; imodintro; iapply Hk
  isplitl [Hb]; · iexact Hb
  isplitl [HO]; · iexact HO
  isplitl [Hz]; · iexact Hz
  isplitl [Hm]; · iexact Hm
  isplitl [Hn]; · iexact Hn
  iexact Hp

/-- The right piece's copy started, and the left piece's first hop. -/
theorem part3 (c : Dev nD) (v13 v24 v59 v60 w : BitVec 32) (Kt : PUnit → sProp (MM F)) :
    iprop((ctx m ρ K ∗ hasR c (stage false 0) (got m ρ c false 0) ∗ hasL c (stage true 0) (got m ρ c true 0) ∗ copyTok c true 0 ∗ copyAt c true 0
        ∗ hasAny (nxt c) (comM false false) ∗ owing c (rest 2) ∗ sendTok c false 0)
        ∗ ((copyMid c true 0 ∗ sendMid c false 0 ∗ owing c (rest 3)) -∗ Kt ⟨⟩))
      ⊢ wp frame (wpE (defs₀ (F := F)) 𝒱₀ (c : Thread nD τ) none) Set.univ
          (k0_part3 (Memref.whole cc0_stg0_0) (Memref.isWhole_whole _) (Memref.whole cc0_stg1_0) (Memref.isWhole_whole _) (Memref.whole main_v1) (Memref.isWhole_whole _)
            accR (Memref.isWhole_whole _) comR (Memref.isWhole_whole _) cc0_scratch2 cc0_scratch3 cc0_scratch4 cc0_scoped0 c v13 v24 v59 v60 w) Kt := by
  simp only [k0_part3_eq_skeleton]; unfold k0_part3_skel
  simp only [semSignalWord, semWaitWord, Prog.lift, Prog.bind_op, Prog.bind_ret, Prog.pure_eq_ret, wp_deviceId]
  iintro ⟨⟨#HC, Hs, Ha, Hct, Hca, Hd, HO, Hh⟩, Hk⟩
  iapply (copy_start m ρ K c true 0 (by decide) rfl rfl (out_eq (off2_eq c))) $$ [Ha Hct Hca]
  · isplitr; · iexact HC
    isplitl [Ha]; · iexact Ha
    isplitl [Hct]; · iexact Hct
    iexact Hca
  iintro Hm
  iapply (hop_send m ρ K c false 0 (rest 3) (dev3_eq c) rfl rfl rfl rfl) $$ [Hs Hd HO Hh]
  · isplitr; · iexact HC
    isplitl [Hs]; · iexact Hs
    isplitl [Hd]; · iexact Hd
    isplitl [HO]; · iexact HO
    iexact Hh
  iintro ⟨Hh, HO⟩
  rw [wp_ret]; imodintro; iapply Hk
  isplitl [Hm]; · iexact Hm
  isplitl [Hh]; · iexact Hh
  iexact HO

/-- The right piece's first hop; both first copies over; the left piece departed. -/
theorem part4 (c : Dev nD) (v24 : BitVec 32) (Kt : BitVec 32 → sProp (MM F)) :
    iprop((ctx m ρ K ∗ hasR c (stage true 0) (got m ρ c true 0) ∗ hasAny (prv c) (comM true false) ∗ owing c (rest 3) ∗ sendTok c true 0
        ∗ copyMid c false 0 ∗ copyMid c true 0 ∗ sendMid c false 0)
        ∗ (∀ w, (sendMid c true 0 ∗ owing c (rest 4) ∗ (copyAt c false 1 ∗ has c (outM false c) (got m ρ c false 0) ∗ hasL c (stage false 0) (got m ρ c false 0))
            ∗ (copyAt c true 1 ∗ has c (outM true c) (got m ρ c true 0) ∗ hasL c (stage true 0) (got m ρ c true 0))
            ∗ done c (.send false 0) ∗ hasR c (stage false 0) (got m ρ c false 0)) -∗ Kt w))
      ⊢ wp frame (wpE (defs₀ (F := F)) 𝒱₀ (c : Thread nD τ) none) Set.univ
          (k0_part4 (Memref.whole cc0_stg0_0) (Memref.isWhole_whole _) (Memref.whole cc0_stg1_0) (Memref.isWhole_whole _) (Memref.whole main_v1) (Memref.isWhole_whole _)
            accR (Memref.isWhole_whole _) comR (Memref.isWhole_whole _) cc0_scratch2 cc0_scratch3 cc0_scratch4 cc0_scoped0 c v24) Kt := by
  simp only [k0_part4_eq_skeleton]; unfold k0_part4_skel
  simp only [semSignalWord, semWaitWord, Prog.lift, Prog.bind_op, Prog.bind_ret, Prog.pure_eq_ret, wp_deviceId]
  iintro ⟨⟨#HC, Hs, Hd, HO, Hh, Hmf, Hmt, Hsf⟩, Hk⟩
  iapply (hop_send m ρ K c true 0 (rest 4) (dev4_eq c) rfl rfl rfl rfl) $$ [Hs Hd HO Hh]
  · isplitr; · iexact HC
    isplitl [Hs]; · iexact Hs
    isplitl [Hd]; · iexact Hd
    isplitl [HO]; · iexact HO
    iexact Hh
  iintro ⟨Hh, HO⟩
  iapply (copy_wait m ρ K c false 0 (by decide) (rest 4) rfl (out_eq (off1_eq c)) (by decide)) $$ [Hmf HO]
  · isplitr; · iexact HC
    isplitl [Hmf]; · iexact Hmf
    iexact HO
  iintro ⟨HO, Hf⟩
  iapply (copy_wait m ρ K c true 0 (by decide) (rest 4) rfl (out_eq (off2_eq c)) (by decide)) $$ [Hmt HO]
  · isplitr; · iexact HC
    isplitl [Hmt]; · iexact Hmt
    iexact HO
  iintro ⟨HO, Ht⟩
  iapply (send_wait m ρ K c false 0 (rest 4) rfl rfl (by decide)) $$ [Hsf HO]
  · isplitr; · iexact HC
    isplitl [Hsf]; · iexact Hsf
    iexact HO
  iintro ⟨HO, Hz⟩
  rw [wp_ret]; imodintro; iapply Hk
  isplitl [Hh]; · iexact Hh
  isplitl [HO]; · iexact HO
  isplitl [Hf]; · iexact Hf
  isplitl [Ht]; · iexact Ht
  iexact Hz

/-- The first arrival from the left, and its copy started. -/
theorem part5 (c : Dev nD) (v2 v110 : BitVec 32) (Kt : PUnit → sProp (MM F)) :
    iprop((ctx m ρ K ∗ recvTok c false 0 ∗ owing c (rest 4) ∗ copyTok c false 1 ∗ copyAt c false 1)
        ∗ ((owing c (rest 4) ∗ done c (.recv false 0) ∗ hasR c (stage false 1) (got m ρ c false 1) ∗ copyMid c false 1) -∗ Kt ⟨⟩))
      ⊢ wp frame (wpE (defs₀ (F := F)) 𝒱₀ (c : Thread nD τ) none) Set.univ
          (k0_part5 (Memref.whole cc0_stg0_0) (Memref.isWhole_whole _) (Memref.whole cc0_stg1_0) (Memref.isWhole_whole _) (Memref.whole main_v1) (Memref.isWhole_whole _)
            accR (Memref.isWhole_whole _) comR (Memref.isWhole_whole _) cc0_scratch2 cc0_scratch3 cc0_scratch4 cc0_scoped0 c v2 v110) Kt := by
  simp only [k0_part5_eq_skeleton]; unfold k0_part5_skel
  simp only [semSignalWord, semWaitWord, Prog.lift, Prog.bind_op, Prog.bind_ret, Prog.pure_eq_ret, wp_deviceId]
  iintro ⟨⟨#HC, Hr, HO, Hct, Hca⟩, Hk⟩
  iapply (recv_wait m ρ K c false 0 (rest 4) rfl rfl (by decide)) $$ [Hr HO]
  · isplitr; · iexact HC
    isplitl [Hr]; · iexact Hr
    iexact HO
  iintro ⟨HO, Hz, Ha, Hs⟩
  iapply (copy_start m ρ K c false 1 (by decide) rfl rfl (out_eq (off3_0 c))) $$ [Ha Hct Hca]
  · isplitr; · iexact HC
    isplitl [Ha]; · iexact Ha
    isplitl [Hct]; · iexact Hct
    iexact Hca
  iintro Hm
  rw [wp_ret]; imodintro; iapply Hk
  isplitl [HO]; · iexact HO
  isplitl [Hz]; · iexact Hz
  isplitl [Hs]; · iexact Hs
  iexact Hm

/-- The right piece departed, the first arrival from the right, and its copy started. -/
theorem part6 (c : Dev nD) (v2 v13 : BitVec 32) (Kt : PUnit → sProp (MM F)) :
    iprop((ctx m ρ K ∗ sendMid c true 0 ∗ recvTok c true 0 ∗ owing c (rest 4) ∗ copyTok c true 1 ∗ copyAt c true 1)
        ∗ ((owing c (rest 4) ∗ (done c (.send true 0) ∗ hasR c (stage true 0) (got m ρ c true 0)) ∗ done c (.recv true 0)
            ∗ hasR c (stage true 1) (got m ρ c true 1) ∗ copyMid c true 1) -∗ Kt ⟨⟩))
      ⊢ wp frame (wpE (defs₀ (F := F)) 𝒱₀ (c : Thread nD τ) none) Set.univ
          (k0_part6 (Memref.whole cc0_stg0_0) (Memref.isWhole_whole _) (Memref.whole cc0_stg1_0) (Memref.isWhole_whole _) (Memref.whole main_v1) (Memref.isWhole_whole _)
            accR (Memref.isWhole_whole _) comR (Memref.isWhole_whole _) cc0_scratch2 cc0_scratch3 cc0_scratch4 cc0_scoped0 c v2 v13) Kt := by
  simp only [k0_part6_eq_skeleton]; unfold k0_part6_skel
  simp only [semSignalWord, semWaitWord, Prog.lift, Prog.bind_op, Prog.bind_ret, Prog.pure_eq_ret, wp_deviceId]
  iintro ⟨⟨#HC, Hsm, Hr, HO, Hct, Hca⟩, Hk⟩
  iapply (send_wait m ρ K c true 0 (rest 4) rfl rfl (by decide)) $$ [Hsm HO]
  · isplitr; · iexact HC
    isplitl [Hsm]; · iexact Hsm
    iexact HO
  iintro ⟨HO, Hd⟩
  iapply (recv_wait m ρ K c true 0 (rest 4) rfl rfl (by decide)) $$ [Hr HO]
  · isplitr; · iexact HC
    isplitl [Hr]; · iexact Hr
    iexact HO
  iintro ⟨HO, Hz, Ha, Hs⟩
  iapply (copy_start m ρ K c true 1 (by decide) rfl rfl (out_eq (off4_0 c))) $$ [Ha Hct Hca]
  · isplitr; · iexact HC
    isplitl [Ha]; · iexact Ha
    isplitl [Hct]; · iexact Hct
    iexact Hca
  iintro Hm
  rw [wp_ret]; imodintro; iapply Hk
  isplitl [HO]; · iexact HO
  isplitl [Hd]; · iexact Hd
  isplitl [Hz]; · iexact Hz
  isplitl [Hs]; · iexact Hs
  iexact Hm

/-- The second hop both ways; the second copy on the left over. -/
theorem part7 (c : Dev nD) (v13 v24 : BitVec 32) (Kt : PUnit → sProp (MM F)) :
    iprop((ctx m ρ K ∗ (hasR c (stage false 1) (got m ρ c false 1) ∗ hasAny (nxt c) (comM false true) ∗ sendTok c false 1)
        ∗ (hasR c (stage true 1) (got m ρ c true 1) ∗ hasAny (prv c) (comM true true) ∗ sendTok c true 1) ∗ owing c (rest 4) ∗ copyMid c false 1)
        ∗ ((sendMid c false 1 ∗ sendMid c true 1 ∗ owing c (rest 6)
            ∗ (copyAt c false 2 ∗ has c (outM false (src false c)) (got m ρ c false 1) ∗ hasL c (stage false 1) (got m ρ c false 1))) -∗ Kt ⟨⟩))
      ⊢ wp frame (wpE (defs₀ (F := F)) 𝒱₀ (c : Thread nD τ) none) Set.univ
          (k0_part7 (Memref.whole cc0_stg0_0) (Memref.isWhole_whole _) (Memref.whole cc0_stg1_0) (Memref.isWhole_whole _) (Memref.whole main_v1) (Memref.isWhole_whole _)
            accR (Memref.isWhole_whole _) comR (Memref.isWhole_whole _) cc0_scratch2 cc0_scratch3 cc0_scratch4 cc0_scoped0 c v13 v24) Kt := by
  simp only [k0_part7_eq_skeleton]; unfold k0_part7_skel
  simp only [semSignalWord, semWaitWord, Prog.lift, Prog.bind_op, Prog.bind_ret, Prog.pure_eq_ret, wp_deviceId]
  iintro ⟨⟨#HC, ⟨Hf, Hfd, Hft⟩, ⟨Ht, Htd, Htt⟩, HO, Hm⟩, Hk⟩
  iapply (hop_send m ρ K c false 1 (rest 5) (dev5_eq c) rfl rfl rfl rfl) $$ [Hf Hfd HO Hft]
  · isplitr; · iexact HC
    isplitl [Hf]; · iexact Hf
    isplitl [Hfd]; · iexact Hfd
    isplitl [HO]; · iexact HO
    iexact Hft
  iintro ⟨Hsf, HO⟩
  iapply (hop_send m ρ K c true 1 (rest 6) (dev6_eq c) rfl rfl rfl rfl) $$ [Ht Htd HO Htt]
  · isplitr; · iexact HC
    isplitl [Ht]; · iexact Ht
    isplitl [Htd]; · iexact Htd
    isplitl [HO]; · iexact HO
    iexact Htt
  iintro ⟨Hst, HO⟩
  iapply (copy_wait m ρ K c false 1 (by decide) (rest 6) rfl (out_eq (off3_0 c)) (by decide)) $$ [Hm HO]
  · isplitr; · iexact HC
    isplitl [Hm]; · iexact Hm
    iexact HO
  iintro ⟨HO, Hf⟩
  rw [wp_ret]; imodintro; iapply Hk
  isplitl [Hsf]; · iexact Hsf
  isplitl [Hst]; · iexact Hst
  isplitl [HO]; · iexact HO
  iexact Hf

/-- The second copy on the right over; the left piece departed again, and the second arrival from the left. -/
theorem part8 (c : Dev nD) (v2 v24 : BitVec 32) (Kt : (Σ' (v210 : BitVec 32) (c4_i32_233 : BitVec 32), BitVec 1) → sProp (MM F)) :
    iprop((ctx m ρ K ∗ copyMid c true 1 ∗ sendMid c false 1 ∗ recvTok c false 1 ∗ owing c (rest 6))
        ∗ (∀ w, (owing c (rest 6) ∗ (copyAt c true 2 ∗ has c (outM true (src true c)) (got m ρ c true 1) ∗ hasL c (stage true 1) (got m ρ c true 1))
            ∗ (done c (.send false 1) ∗ hasR c (stage false 1) (got m ρ c false 1))
            ∗ (done c (.recv false 1) ∗ hasL c (stage false 2) (got m ρ c false 2) ∗ hasR c (stage false 2) (got m ρ c false 2))) -∗ Kt w))
      ⊢ wp frame (wpE (defs₀ (F := F)) 𝒱₀ (c : Thread nD τ) none) Set.univ
          (k0_part8 (Memref.whole cc0_stg0_0) (Memref.isWhole_whole _) (Memref.whole cc0_stg1_0) (Memref.isWhole_whole _) (Memref.whole main_v1) (Memref.isWhole_whole _)
            accR (Memref.isWhole_whole _) comR (Memref.isWhole_whole _) cc0_scratch2 cc0_scratch3 cc0_scratch4 cc0_scoped0 c v2 v24) Kt := by
  simp only [k0_part8_eq_skeleton]; unfold k0_part8_skel
  simp only [semSignalWord, semWaitWord, Prog.lift, Prog.bind_op, Prog.bind_ret, Prog.pure_eq_ret, wp_deviceId]
  iintro ⟨⟨#HC, Hm, Hs, Hr, HO⟩, Hk⟩
  iapply (copy_wait m ρ K c true 1 (by decide) (rest 6) rfl (out_eq (off4_0 c)) (by decide)) $$ [Hm HO]
  · isplitr; · iexact HC
    isplitl [Hm]; · iexact Hm
    iexact HO
  iintro ⟨HO, Ht⟩
  iapply (send_wait m ρ K c false 1 (rest 6) rfl rfl (by decide)) $$ [Hs HO]
  · isplitr; · iexact HC
    isplitl [Hs]; · iexact Hs
    iexact HO
  iintro ⟨HO, Hz⟩
  iapply (recv_wait m ρ K c false 1 (rest 6) rfl rfl (by decide)) $$ [Hr HO]
  · isplitr; · iexact HC
    isplitl [Hr]; · iexact Hr
    iexact HO
  iintro ⟨HO, Hr⟩
  rw [wp_ret]; imodintro; iapply Hk
  isplitl [HO]; · iexact HO
  isplitl [Ht]; · iexact Ht
  isplitl [Hz]; · iexact Hz
  iexact Hr

/-- The last copy on the left started; the right piece departed again. -/
theorem part9 (c : Dev nD) (v13 v210 v : BitVec 32) (w : BitVec 1) (Kt : PUnit → sProp (MM F)) :
    iprop((ctx m ρ K ∗ hasL c (stage false 2) (got m ρ c false 2) ∗ copyTok c false 2 ∗ copyAt c false 2 ∗ sendMid c true 1 ∗ owing c (rest 6))
        ∗ ((owing c (rest 6) ∗ copyMid c false 2 ∗ done c (.send true 1) ∗ hasR c (stage true 1) (got m ρ c true 1)) -∗ Kt ⟨⟩))
      ⊢ wp frame (wpE (defs₀ (F := F)) 𝒱₀ (c : Thread nD τ) none) Set.univ
          (k0_part9 (Memref.whole cc0_stg0_0) (Memref.isWhole_whole _) (Memref.whole cc0_stg1_0) (Memref.isWhole_whole _) (Memref.whole main_v1) (Memref.isWhole_whole _)
            accR (Memref.isWhole_whole _) comR (Memref.isWhole_whole _) cc0_scratch2 cc0_scratch3 cc0_scratch4 cc0_scoped0 c v13 v210 v w) Kt := by
  simp only [k0_part9_eq_skeleton]; unfold k0_part9_skel
  simp only [semSignalWord, semWaitWord, Prog.lift, Prog.bind_op, Prog.bind_ret, Prog.pure_eq_ret, wp_deviceId]
  iintro ⟨⟨#HC, Ha, Hct, Hca, Hs, HO⟩, Hk⟩
  iapply (copy_start m ρ K c false 2 (by decide) rfl rfl (out_eq (off3_1 c))) $$ [Ha Hct Hca]
  · isplitr; · iexact HC
    isplitl [Ha]; · iexact Ha
    isplitl [Hct]; · iexact Hct
    iexact Hca
  iintro Hm
  iapply (send_wait m ρ K c true 1 (rest 6) rfl rfl (by decide)) $$ [Hs HO]
  · isplitr; · iexact HC
    isplitl [Hs]; · iexact Hs
    iexact HO
  iintro ⟨HO, Hz⟩
  rw [wp_ret]; imodintro; iapply Hk
  isplitl [HO]; · iexact HO
  isplitl [Hm]; · iexact Hm
  iexact Hz

/-- The second arrival from the right, its copy started, and the last copy on the left over. -/
theorem part10 (c : Dev nD) (v2 : BitVec 32) (Kt : PUnit → sProp (MM F)) :
    iprop((ctx m ρ K ∗ recvTok c true 1 ∗ copyTok c true 2 ∗ copyAt c true 2 ∗ copyMid c false 2 ∗ owing c (rest 6))
        ∗ ((owing c (rest 6) ∗ copyMid c true 2 ∗ (done c (.recv true 1) ∗ hasR c (stage true 2) (got m ρ c true 2))
            ∗ (done c (.copy false) ∗ has c (outM false (src false (src false c))) (got m ρ c false 2) ∗ hasL c (stage false 2) (got m ρ c false 2))) -∗ Kt ⟨⟩))
      ⊢ wp frame (wpE (defs₀ (F := F)) 𝒱₀ (c : Thread nD τ) none) Set.univ
          (k0_part10 (Memref.whole cc0_stg0_0) (Memref.isWhole_whole _) (Memref.whole cc0_stg1_0) (Memref.isWhole_whole _) (Memref.whole main_v1) (Memref.isWhole_whole _)
            accR (Memref.isWhole_whole _) comR (Memref.isWhole_whole _) cc0_scratch2 cc0_scratch3 cc0_scratch4 cc0_scoped0 c v2) Kt := by
  simp only [k0_part10_eq_skeleton]; unfold k0_part10_skel
  simp only [semSignalWord, semWaitWord, Prog.lift, Prog.bind_op, Prog.bind_ret, Prog.pure_eq_ret, wp_deviceId]
  iintro ⟨⟨#HC, Hr, Hct, Hca, Hm, HO⟩, Hk⟩
  iapply (recv_wait m ρ K c true 1 (rest 6) rfl rfl (by decide)) $$ [Hr HO]
  · isplitr; · iexact HC
    isplitl [Hr]; · iexact Hr
    iexact HO
  iintro ⟨HO, Hz, Ha, Hs⟩
  iapply (copy_start m ρ K c true 2 (by decide) rfl rfl (out_eq (off4_1 c))) $$ [Ha Hct Hca]
  · isplitr; · iexact HC
    isplitl [Ha]; · iexact Ha
    isplitl [Hct]; · iexact Hct
    iexact Hca
  iintro Hm'
  iapply (copy_last m ρ K c false (rest 6) rfl (out_eq (off3_1 c)) (by decide)) $$ [Hm HO]
  · isplitr; · iexact HC
    isplitl [Hm]; · iexact Hm
    iexact HO
  iintro ⟨HO, Hf⟩
  rw [wp_ret]; imodintro; iapply Hk
  isplitl [HO]; · iexact HO
  isplitl [Hm']; · iexact Hm'
  isplitl [Hz Hs]
  · isplitl [Hz]; · iexact Hz
    iexact Hs
  iexact Hf

/-! ## What a device starts from and ends with -/

/-- What a device holds of the protocol before it starts, its copies' places in the result among it. -/
def ghost0 (c : Dev nD) : sProp (MM F) :=
  iprop(barTok c .bar ∗ barTok c .bar2
    ∗ ((copyTok c false 0 ∗ copyTok c false 1 ∗ copyTok c false 2) ∗ (copyTok c true 0 ∗ copyTok c true 1 ∗ copyTok c true 2))
    ∗ (atR c (.copy false) 0 ∗ atR c (.copy true) 0)
    ∗ (sendTok c false 0 ∗ sendTok c true 0) ∗ (sendTok c false 1 ∗ sendTok c true 1)
    ∗ (recvTok c false 0 ∗ recvTok c true 0) ∗ (recvTok c false 1 ∗ recvTok c true 1))

/-- Its scratch buffers, in pieces. -/
def scratch (c : Dev nD) : sProp (MM F) :=
  iprop((hasAny c (accM false) ∗ hasAny c (accM true))
    ∗ (hasAny c (comM false false) ∗ hasAny c (comM false true) ∗ hasAny c (comM true false) ∗ hasAny c (comM true true)))

/-- The pieces of the result in one direction. -/
def filled (c : Dev nD) (d : Bool) : sProp (MM F) :=
  iprop(has c (outM d c) (got m ρ c d 0) ∗ has c (outM d (src d c)) (got m ρ c d 1) ∗ has c (outM d (src d (src d c))) (got m ρ c d 2))

/-- All of its semaphores at zero. -/
def zeros (c : Dev nD) : sProp (MM F) :=
  iprop(done c .bar ∗ done c .bar2 ∗ (done c (.copy false) ∗ done c (.copy true))
    ∗ (done c (.send false 0) ∗ done c (.send true 0)) ∗ (done c (.send false 1) ∗ done c (.send true 1))
    ∗ (done c (.recv false 0) ∗ done c (.recv true 0)) ∗ (done c (.recv false 1) ∗ done c (.recv true 1)))

/-- A piece given back in both halves is a piece held. -/
theorem whole_again (c : Dev nD) (p : Memref sig .tc .vmem S1024x1024 .f32) (X : Mat F) : iprop(hasL c p X ∗ hasR c p X) ⊢ (hasAny c p : sProp (MM F)) :=
  (unhalve c p X).trans (hasAny_intro c p X)

/-! ## The kernel of one device -/

set_option maxHeartbeats 1000000 in
/-- From its share of the protocol and its scratch a device's kernel ends with the six pieces of the result that came
    holding what their devices had finished, every semaphore at zero and nothing owed. -/
theorem sound_body (c : Dev nD) (Kt : PUnit → sProp (MM F)) :
    iprop((ctx m ρ K ∗ ghost0 c ∗ scratch c ∗ owing c debts ∗ yy m ρ c)
        ∗ ((yy m ρ c ∗ owing c [] ∗ scratch c ∗ (filled m ρ c false ∗ filled m ρ c true) ∗ zeros c) -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole main_v1) (Memref.isWhole_whole _)
            accR (Memref.isWhole_whole _) comR (Memref.isWhole_whole _) cc0_scratch2 cc0_scratch3 cc0_scratch4 cc0_scoped0) Kt := by
  rw [cc0_body_eq_skeleton]; unfold cc0_body_skel ghost0 scratch
  iintro ⟨⟨#HC, ⟨Tb, Tb2, ⟨⟨F0, F1, F2⟩, G0, G1, G2⟩, ⟨Q0, Q1⟩, ⟨S00, S10⟩, ⟨S01, S11⟩, ⟨R00, R10⟩, R01, R11⟩, ⟨⟨A0, A1⟩, C00, C01, C10, C11⟩, HO, Hyy⟩, Hk⟩
  ihave Q0 := (copyAt_zero m ρ K c false) $$ [Q0]
  · isplitr; · iexact HC
    iexact Q0
  ihave Q1 := (copyAt_zero m ρ K c true) $$ [Q1]
  · isplitr; · iexact HC
    iexact Q1
  simp only [wp_bind]
  iapply (part1 m ρ c)
  isplitl [Hyy A0]
  · isplitl [Hyy]; · iexact Hyy
    iexact A0
  iintro %v2 %v13 %v24 ⟨Hyy, A0⟩
  dsimp only
  ihave A0 := (own_piece m ρ c false) $$ A0
  icases A0 with ⟨A0, A0'⟩
  iapply (part2 m ρ K c _ _ _)
  isplitl [A0 A1 C00 C01 C10 C11 HO Tb F0 Q0]
  · isplitr; · iexact HC
    isplitl [A0]; · iexact A0
    isplitl [A1]; · iexact A1
    isplitl [C00 C01]
    · isplitl [C00]; · iexact C00
      iexact C01
    isplitl [C10 C11]
    · isplitl [C10]; · iexact C10
      iexact C11
    isplitl [HO]; · iexact HO
    isplitl [Tb]; · iexact Tb
    isplitl [F0]; · iexact F0
    iexact Q0
  iintro %w2 ⟨A1, HO, Zb, F0, ⟨N0, N1⟩, P0, P1⟩
  obtain ⟨v59, v60, w60⟩ := w2
  dsimp only
  ihave A1 := (own_piece m ρ c true) $$ A1
  icases A1 with ⟨A1, A1'⟩
  iapply (part3 m ρ K c _ _ _ _ _)
  isplitl [A0' A1 G0 Q1 N0 HO S00]
  · isplitr; · iexact HC
    isplitl [A0']; · iexact A0'
    isplitl [A1]; · iexact A1
    isplitl [G0]; · iexact G0
    isplitl [Q1]; · iexact Q1
    isplitl [N0]; · iexact N0
    isplitl [HO]; · iexact HO
    iexact S00
  iintro ⟨G0, S00, HO⟩
  iapply (part4 m ρ K c _)
  isplitl [A1' P0 HO S10 F0 G0 S00]
  · isplitr; · iexact HC
    isplitl [A1']; · iexact A1'
    isplitl [P0]; · iexact P0
    isplitl [HO]; · iexact HO
    isplitl [S10]; · iexact S10
    isplitl [F0]; · iexact F0
    isplitl [G0]; · iexact G0
    iexact S00
  iintro %w4 ⟨S10, HO, ⟨Q0, OF0, A0⟩, ⟨Q1, OG0, A1⟩, ZS00, A0'⟩
  iapply (part5 m ρ K c _ _)
  isplitl [R00 HO F1 Q0]
  · isplitr; · iexact HC
    isplitl [R00]; · iexact R00
    isplitl [HO]; · iexact HO
    isplitl [F1]; · iexact F1
    iexact Q0
  iintro ⟨HO, ZR00, B0', F1⟩
  iapply (part6 m ρ K c _ _)
  isplitl [S10 R10 HO G1 Q1]
  · isplitr; · iexact HC
    isplitl [S10]; · iexact S10
    isplitl [R10]; · iexact R10
    isplitl [HO]; · iexact HO
    isplitl [G1]; · iexact G1
    iexact Q1
  iintro ⟨HO, ⟨ZS10, A1'⟩, ZR10, B1', G1⟩
  iapply (part7 m ρ K c _ _)
  isplitl [B0' N1 S01 B1' P1 S11 HO F1]
  · isplitr; · iexact HC
    isplitl [B0' N1 S01]
    · isplitl [B0']; · iexact B0'
      isplitl [N1]; · iexact N1
      iexact S01
    isplitl [B1' P1 S11]
    · isplitl [B1']; · iexact B1'
      isplitl [P1]; · iexact P1
      iexact S11
    isplitl [HO]; · iexact HO
    iexact F1
  iintro ⟨S01, S11, HO, Q0, OF1, B0⟩
  iapply (part8 m ρ K c _ _)
  isplitl [G1 S01 R01 HO]
  · isplitr; · iexact HC
    isplitl [G1]; · iexact G1
    isplitl [S01]; · iexact S01
    isplitl [R01]; · iexact R01
    iexact HO
  iintro %w8 ⟨HO, ⟨Q1, OG1, B1⟩, ⟨ZS01, B0'⟩, ZR01, D0, D0'⟩
  obtain ⟨v210, w210, v211⟩ := w8
  dsimp only
  iapply (part9 m ρ K c _ _ _ _)
  isplitl [D0 F2 Q0 S11 HO]
  · isplitr; · iexact HC
    isplitl [D0]; · iexact D0
    isplitl [F2]; · iexact F2
    isplitl [Q0]; · iexact Q0
    isplitl [S11]; · iexact S11
    iexact HO
  iintro ⟨HO, F2, ZS11, B1'⟩
  iapply (part10 m ρ K c _)
  isplitl [R11 G2 Q1 F2 HO]
  · isplitr; · iexact HC
    isplitl [R11]; · iexact R11
    isplitl [G2]; · iexact G2
    isplitl [Q1]; · iexact Q1
    isplitl [F2]; · iexact F2
    iexact HO
  iintro ⟨HO, G2, ⟨ZR11, D1'⟩, ZC0, OF2, D0⟩
  simp only [semSignalWord, semWaitWord, Prog.lift, Prog.bind_op, Prog.bind_ret, Prog.pure_eq_ret]
  iapply (copy_last m ρ K c true (rest 6) rfl (out_eq (off4_1 c)) (by decide)) $$ [G2 HO]
  · isplitr; · iexact HC
    isplitl [G2]; · iexact G2
    iexact HO
  iintro ⟨HO, ZC1, OG2, D1⟩
  rw [wp_ret]; imodintro
  unfold barTok
  icases Tb2 with ⟨T1, T0, Qb, Db⟩
  iapply (signal_to m ρ K c .bar2 true (rest 7) (dev7_eq c) rfl rfl (by decide)) $$ [HO T1]
  · isplitr; · iexact HC
    isplitl [HO]; · iexact HO
    isplitl [T1]; · iexact T1
    unfold pay; iempintro
  iintro HO
  rw [wp_ret]; imodintro
  iapply (signal_to m ρ K c .bar2 false [] (dev8_eq c) rfl rfl (by decide)) $$ [HO T0]
  · isplitr; · iexact HC
    isplitl [HO]; · iexact HO
    isplitl [T0]; · iexact T0
    unfold pay; iempintro
  iintro HO
  rw [wp_ret]; imodintro
  iapply (wait_last m ρ K c .bar2 0 rfl [] (wait_reg c .bar2 rfl rfl) (by decide)) $$ [Db HO Qb]
  · isplitr; · iexact HC
    isplitl [Db]; · iexact Db
    isplitl [HO]; · iexact HO
    iexact Qb
  iintro ⟨HO, Zb2, -⟩
  rw [wp_ret]; imodintro
  rw [wp_ret]
  imodintro
  iapply Hk
  unfold filled zeros
  isplitl [Hyy]; · iexact Hyy
  isplitl [HO]; · iexact HO
  isplitl [A0 A0' A1 A1' B0 B0' B1 B1' D0 D0' D1 D1']
  · isplitl [A0 A0' A1 A1']
    · isplitl [A0 A0']
      · iapply (whole_again c (accM false) (got m ρ c false 0)); isplitl [A0] <;> iassumption
      iapply (whole_again c (accM true) (got m ρ c true 0)); isplitl [A1] <;> iassumption
    isplitl [B0 B0']
    · iapply (whole_again c (comM false false) (got m ρ c false 1)); isplitl [B0] <;> iassumption
    isplitl [D0 D0']
    · iapply (whole_again c (comM false true) (got m ρ c false 2)); isplitl [D0] <;> iassumption
    isplitl [B1 B1']
    · iapply (whole_again c (comM true false) (got m ρ c true 1)); isplitl [B1] <;> iassumption
    iapply (whole_again c (comM true true) (got m ρ c true 2)); isplitl [D1] <;> iassumption
  isplitl [OF0 OF1 OF2 OG0 OG1 OG2]
  · isplitl [OF0 OF1 OF2]
    · isplitl [OF0]; · iexact OF0
      isplitl [OF1]; · iexact OF1
      iexact OF2
    isplitl [OG0]; · iexact OG0
    isplitl [OG1]; · iexact OG1
    iexact OG2
  isplitl [Zb]; · iexact Zb
  isplitl [Zb2]; · iexact Zb2
  isplitl [ZC0 ZC1]
  · isplitl [ZC0] <;> iassumption
  isplitl [ZS00 ZS10]
  · isplitl [ZS00] <;> iassumption
  isplitl [ZS01 ZS11]
  · isplitl [ZS01] <;> iassumption
  isplitl [ZR00 ZR10]
  · isplitl [ZR00] <;> iassumption
  isplitl [ZR01] <;> iassumption

end Cert.GatherProof

end
-- ==== Proof.GatherDeal.lean ====
/-
# The gather: dealing the protocol out

What each device is given at launch: the start of its semaphores' rounds, the tokens of the contributions it makes to its
own and its neighbours' semaphores, and credit for what the neighbours owe it; and how that comes out of one ghost state
for all four devices.
-/
module

public import proofs.«01_k».proof.Proof.GatherBody

@[expose] public section

noncomputable section

namespace Cert.GatherProof

open Cert.GatherIdeal Cert.GatherIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## Whose contribution is whose -/

/-- The device in direction `d`, as a permutation. -/
def dstE (d : Bool) : Dev nD ≃ Dev nD := ⟨dst d, src d, fun c => src_dst d c, fun c => dst_src d c⟩

/-- The device to whose semaphore of kind `p.1` a device makes the contribution `p.2`. -/
def owner : Kind × Bool → Dev nD ≃ Dev nD
  | (.bar, d) => dstE (!d)
  | (.bar2, d) => dstE (!d)
  | (.recv d _, _) => dstE d
  | _ => Equiv.refl _

/-- The tokens of all contributions to device `c`'s semaphores, for up to three rounds; -/
def toks (c : Dev nD) : sProp (MM F) := bigSep Finset.univ fun p : Kind × Bool × Fin 3 => tok c p.1 p.2.2.val p.2.1
/-- those of the contributions it makes; -/
def payToks (c : Dev nD) : sProp (MM F) := bigSep Finset.univ fun p : Kind × Bool × Fin 3 => tok (owner (p.1, p.2.1) c) p.1 p.2.2.val p.2.1
/-- and the start of its semaphores' rounds. -/
def starts (c : Dev nD) : sProp (MM F) := bigSep Finset.univ fun k : Kind => atR c k 0

theorem toks_around : (bigSep Finset.univ fun c : Dev nD => (toks c : sProp (MM F))) = bigSep Finset.univ fun c : Dev nD => payToks c := by
  unfold toks payToks
  rw [BI.bigSep_univ_comm]
  refine Eq.trans (bigSep_congr fun p _ => bigSep_univ_equiv (owner (p.1, p.2.1)) fun c : Dev nD => (tok c p.1 p.2.2.val p.2.1 : sProp (MM F))) ?_
  rw [BI.bigSep_univ_comm]

/-! ## The credit -/

/-- What all devices together owe one semaphore. -/
theorem owed_sum (c : Dev nD) (k : Kind) : ∀ l : List (Bool × Kind),
    ∑ d : Dev nD, owe d l (cell c k) () = (l.map fun p => if p.2 = k then unit k else 0).sum
  | [] => Finset.sum_eq_zero fun d _ => rfl
  | p :: l => by
    rw [List.map_cons, List.sum_cons, ← owed_sum c k l, Nat.add_comm, ← Finset.sum_add_distrib.trans (congrArg _ ?_)]
    · exact Finset.sum_congr rfl fun d _ => rfl
    · show ∑ d : Dev nD, tallyAt (cell (dst p.1 d) p.2) () (unit p.2) (cell c k) () = _
      by_cases h : p.2 = k
      · rw [if_pos h, ← h, Fintype.sum_eq_single (src p.1 c)]
        · rw [tallyAt_apply, if_pos ⟨by rw [dst_src], rfl⟩]
        · intro d hd
          rw [tallyAt_apply, if_neg]
          rintro ⟨h1, _⟩
          exact hd (by rw [(cell_injective h1).1, src_dst])
      · rw [if_neg h]
        refine Finset.sum_eq_zero fun d _ => ?_
        rw [tallyAt_apply, if_neg]
        rintro ⟨h1, _⟩
        exact h (cell_injective h1).2.symm

/-- What a device is given for what the others owe it on its semaphore of kind `k`. -/
def inc (c : Dev nD) (k : Kind) : sProp (MM F) :=
  cred (tallyOn (cell c k) (launchCredit (Pipeline.owing fun d => owe d debts) 0 (cell c k)))

theorem inc_eq (c : Dev nD) (k : Kind) (h : (debts.map fun p => if p.2 = k then unit k else 0).sum = total k) :
    (inc c k : sProp (MM F)) = due c k := by
  unfold inc
  have e : tallyOn (cell c k) (launchCredit (Pipeline.owing fun d => owe d debts) 0 (cell c k)) = (tallyAt (cell c k) () (total k) : CellTallies nD τ sig Unit) := by
    unfold tallyAt; refine congrArg _ (Finsupp.ext fun u => ?_); cases u
    rw [Pipeline.launchCredit_owing, Finsupp.single_eq_same, owed_sum, h]
  rw [e]

theorem incs (c : Dev nD) : (Pipeline.launchCred (fun d => owe d debts) c : sProp (MM F)) ⊢ bigSep Finset.univ fun k : Kind => inc c k := by
  unfold Pipeline.launchCred
  exact (BI.bigSep_subset (Finset.subset_univ (Finset.univ.map ⟨semOf, semOf_injective⟩))).trans (Entails.of_eq (BI.bigSep_map _))

/-! ## A device's share -/

theorem bigSep_kinds (Φ : Kind → sProp (MM F)) : bigSep Finset.univ Φ = iprop(Φ .bar ∗ Φ .bar2 ∗ Φ (.copy false) ∗ Φ (.copy true) ∗ Φ (.send false 0) ∗ Φ (.send false 1) ∗
      Φ (.send true 0) ∗ Φ (.send true 1) ∗ Φ (.recv false 0) ∗ Φ (.recv false 1) ∗ Φ (.recv true 0) ∗ Φ (.recv true 1)) :=
  bigSep_univ_eq_bigSepL allKinds (by decide +kernel) (by decide +kernel) Φ

/-- The contributions a device in fact makes. -/
def needed : List (Kind × Bool × Fin 3) :=
  [(.bar, false, 0), (.bar, true, 0), (.bar2, false, 0), (.bar2, true, 0),
    (.copy false, false, 0), (.copy false, false, 1), (.copy false, false, 2), (.copy true, false, 0), (.copy true, false, 1), (.copy true, false, 2),
    (.send false 0, false, 0), (.send false 1, false, 0), (.send true 0, false, 0), (.send true 1, false, 0),
    (.recv false 0, false, 0), (.recv false 1, false, 0), (.recv true 0, false, 0), (.recv true 1, false, 0)]

/-- Their tokens. -/
theorem payToks_needed (c : Dev nD) : (payToks c : sProp (MM F)) ⊢
    iprop(tok (dst true c) .bar 0 false ∗ tok (dst false c) .bar 0 true ∗ tok (dst true c) .bar2 0 false ∗ tok (dst false c) .bar2 0 true
      ∗ tok c (.copy false) 0 false ∗ tok c (.copy false) 1 false ∗ tok c (.copy false) 2 false
      ∗ tok c (.copy true) 0 false ∗ tok c (.copy true) 1 false ∗ tok c (.copy true) 2 false
      ∗ tok c (.send false 0) 0 false ∗ tok c (.send false 1) 0 false ∗ tok c (.send true 0) 0 false ∗ tok c (.send true 1) 0 false
      ∗ tok (dst false c) (.recv false 0) 0 false ∗ tok (dst false c) (.recv false 1) 0 false
      ∗ tok (dst true c) (.recv true 0) 0 false ∗ tok (dst true c) (.recv true 1) 0 false) :=
  (BI.bigSep_subset (Finset.subset_univ needed.toFinset)).trans
    (Entails.of_eq (bigSep_eq_bigSepL_of_eq needed rfl (by decide +kernel) fun p : Kind × Bool × Fin 3 => tok (owner (p.1, p.2.1) c) p.1 p.2.2.val p.2.1))

theorem sum_bar : (debts.map fun p => if p.2 = Kind.bar then unit .bar else 0).sum = total .bar := rfl
theorem sum_bar2 : (debts.map fun p => if p.2 = Kind.bar2 then unit .bar2 else 0).sum = total .bar2 := rfl
theorem sum_recv (d : Bool) (s : Fin 2) : (debts.map fun p => if p.2 = Kind.recv d s then unit (.recv d s) else 0).sum = total (.recv d s) := by
  revert d s
  simp [debts, unit, total, Fin.forall_fin_succ]

/-- The starts, the tokens, the credit and the result's pieces are what the kernel's proof starts from. -/
theorem ghost_intro (c : Dev nD) : iprop(starts c ∗ payToks c ∗ (bigSep Finset.univ fun k : Kind => inc c k) ∗ outs c) ⊢ (ghost0 c : sProp (MM F)) := by
  unfold starts
  rw [bigSep_kinds, bigSep_kinds]
  unfold ghost0 barTok copyTok sendTok recvTok outs
  rw [← inc_eq c .bar sum_bar, ← inc_eq c .bar2 sum_bar2, ← inc_eq c (.recv false 0) (sum_recv _ _), ← inc_eq c (.recv false 1) (sum_recv _ _),
    ← inc_eq c (.recv true 0) (sum_recv _ _), ← inc_eq c (.recv true 1) (sum_recv _ _)]
  iintro ⟨Hs, Ht, Hi, Ho⟩
  ihave Ht := (payToks_needed c) $$ Ht
  icases Hs with ⟨Ab, Ab2, Ac0, Ac1, As00, As01, As10, As11, Ar00, Ar01, Ar10, Ar11⟩
  icases Ht with ⟨Tb0, Tb1, Te0, Te1, F0, F1, F2, G0, G1, G2, Ts00, Ts01, Ts10, Ts11, Tr00, Tr01, Tr10, Tr11⟩
  icases Hi with ⟨Db, Db2, -, -, -, -, -, -, Dr00, Dr01, Dr10, Dr11⟩
  icases Ho with ⟨P0, P1, P2, Q0, Q1, Q2⟩
  isplitl [Tb0 Tb1 Ab Db]
  · isplitl [Tb0]; · iexact Tb0
    isplitl [Tb1]; · iexact Tb1
    isplitl [Ab]; · iexact Ab
    iexact Db
  isplitl [Te0 Te1 Ab2 Db2]
  · isplitl [Te0]; · iexact Te0
    isplitl [Te1]; · iexact Te1
    isplitl [Ab2]; · iexact Ab2
    iexact Db2
  isplitl [F0 F1 F2 G0 G1 G2 P0 P1 P2 Q0 Q1 Q2]
  · isplitl [F0 F1 F2 P0 P1 P2]
    · isplitl [F0 P0]
      · isplitl [F0]; · iexact F0
        iexact P0
      isplitl [F1 P1]
      · isplitl [F1]; · iexact F1
        iexact P1
      isplitl [F2]; · iexact F2
      iexact P2
    isplitl [G0 Q0]
    · isplitl [G0]; · iexact G0
      iexact Q0
    isplitl [G1 Q1]
    · isplitl [G1]; · iexact G1
      iexact Q1
    isplitl [G2]; · iexact G2
    iexact Q2
  isplitl [Ac0 Ac1]
  · isplitl [Ac0]; · iexact Ac0
    iexact Ac1
  isplitl [Ts00 Tr00 As00 Ts10 Tr10 As10]
  · isplitl [Ts00 Tr00 As00]
    · isplitl [Ts00]; · iexact Ts00
      isplitl [Tr00]; · iexact Tr00
      iexact As00
    isplitl [Ts10]; · iexact Ts10
    isplitl [Tr10]; · iexact Tr10
    iexact As10
  isplitl [Ts01 Tr01 As01 Ts11 Tr11 As11]
  · isplitl [Ts01 Tr01 As01]
    · isplitl [Ts01]; · iexact Ts01
      isplitl [Tr01]; · iexact Tr01
      iexact As01
    isplitl [Ts11]; · iexact Ts11
    isplitl [Tr11]; · iexact Tr11
    iexact As11
  isplitl [Dr00 Ar00 Dr10 Ar10]
  · isplitl [Dr00 Ar00]
    · isplitl [Dr00]; · iexact Dr00
      iexact Ar00
    isplitl [Dr10]; · iexact Dr10
    iexact Ar10
  isplitl [Dr01 Ar01]
  · isplitl [Dr01]; · iexact Dr01
    iexact Ar01
  isplitl [Dr11]; · iexact Dr11
  iexact Ar11

/-! ## The semaphores -/

/-- The kinds of semaphore that are the kernel's own: all but the runtime's barrier. -/
abbrev OwnKind : Type := {k : Kind // k ≠ .bar}
abbrev osem (k : OwnKind) : SemLoc sig := semOf k.1

theorem ownSemFacts : Pipeline.OwnSemFacts cfg0.spec osem := by decide +kernel

/-- The kernel's own semaphores, listed. -/
def ownKinds : List OwnKind :=
  [⟨.bar2, by decide⟩, ⟨.copy false, by decide⟩, ⟨.copy true, by decide⟩, ⟨.send false 0, by decide⟩, ⟨.send false 1, by decide⟩,
    ⟨.send true 0, by decide⟩, ⟨.send true 1, by decide⟩, ⟨.recv false 0, by decide⟩, ⟨.recv false 1, by decide⟩, ⟨.recv true 0, by decide⟩,
    ⟨.recv true 1, by decide⟩]

abbrev ownZeros (c : Dev nD) : sProp (MM F) := Pipeline.ownSems0 (Ix := Unit) (Name := ℕ) (U := UU) (Lvl := ℕ) (Val := Elt F) (τ := τ) osem c

theorem ownSems0_eq (c : Dev nD) : (ownZeros c : sProp (MM F)) = iprop(done c .bar2 ∗ done c (.copy false) ∗ done c (.copy true) ∗ done c (.send false 0) ∗ done c (.send false 1) ∗
      done c (.send true 0) ∗ done c (.send true 1) ∗ done c (.recv false 0) ∗ done c (.recv false 1) ∗ done c (.recv true 0) ∗ done c (.recv true 1)) :=
  Pipeline.ownSems0_eq_of_list c osem ownKinds (by decide +kernel) (by decide +kernel)
/-- The barrier semaphore is the one unscoped semaphore. -/
theorem unscopedSems0_eq (c : Dev nD) : (unscopedSems0 c : sProp (MM F)) = done c .bar := by
  unfold unscopedSems0; rw [bigSep_eq_bigSepL_of_eq [semOf .bar] (by decide +kernel) (by decide)]; rfl

theorem sems0_eq (c : Dev nD) :
    iprop(ownZeros c ∗ unscopedSems0 c) ⊢ (bigSep Finset.univ fun k : Kind => done c k : sProp (MM F)) := by
  rw [ownSems0_eq, unscopedSems0_eq, bigSep_kinds]
  iintro ⟨H, HB⟩
  isplitl [HB]; · iexact HB
  iexact H

/-- The kernel's end state has them all at zero. -/
theorem zeros_exit (c : Dev nD) : (zeros c : sProp (MM F)) ⊢ iprop(unscopedSems0 c ∗ ownZeros c) := by
  rw [ownSems0_eq, unscopedSems0_eq]
  unfold zeros
  iintro ⟨Hb, Hb2, ⟨Hc0, Hc1⟩, ⟨S00, S10⟩, ⟨S01, S11⟩, ⟨R00, R10⟩, R01, R11⟩
  isplitl [Hb]; · iexact Hb
  isplitl [Hb2]; · iexact Hb2
  isplitl [Hc0]; · iexact Hc0
  isplitl [Hc1]; · iexact Hc1
  isplitl [S00]; · iexact S00
  isplitl [S01]; · iexact S01
  isplitl [S10]; · iexact S10
  isplitl [S11]; · iexact S11
  isplitl [R00]; · iexact R00
  isplitl [R01]; · iexact R01
  isplitl [R10]; · iexact R10
  iexact R11

/-! ## The ghost state -/

theorem cells_injective : Function.Injective (fun p : Dev nD × Kind => cell p.1 p.2) := fun p p' h =>
  Prod.ext (cell_injective h).1 (cell_injective h).2
def gatherCells : Finset (GSem nD τ sig) := Finset.univ.map ⟨fun p : Dev nD × Kind => cell p.1 p.2, cells_injective⟩

abbrev tokOf (p : Dev nD × Kind × Bool × Fin 3) : GSem nD τ sig × ℕ × Bool := (cell p.1 p.2.1, p.2.2.2.val, p.2.2.1)
theorem tokOf_injective : Function.Injective tokOf := fun p p' h => by
  have h1 := cell_injective (congrArg Prod.fst h)
  exact Prod.ext h1.1 (Prod.ext h1.2 (Prod.ext (congrArg (fun x : GSem nD τ sig × ℕ × Bool => x.2.2) h)
    (Fin.ext (congrArg (fun x : GSem nD τ sig × ℕ × Bool => x.2.1) h))))
def gatherToks : Finset (GSem nD τ sig × ℕ × Bool) := Finset.univ.map ⟨tokOf, tokOf_injective⟩

/-- The ghost element the launch mints. -/
def u₀ : UU :=
  (initOf (Pipeline.cells cfgs cellOf_inj) (Pipeline.launchToks cfgs cellOf_inj), initOf gatherCells gatherToks)

/-- What it deals device `c`; -/
def G (c : Dev nD) : sProp (MM F) :=
  iprop((bigSep Finset.univ fun k : Kind => roundState ER (gatherRd m ρ) (cell c k) 0)
    ∗ starts c ∗ (bigSep Finset.univ fun k : Kind => reached ER (cell c k) 0) ∗ toks c)

/-- and what each device has once the invariants are in place. -/
def G' (c : Dev nD) : sProp (MM F) := iprop(∃ K, recs m ρ K ∗ starts c ∗ payToks c)

theorem fund_gather : BI.own (ER (initOf gatherCells gatherToks)) ⊢ (|==> bigSep Finset.univ (G m ρ) : sProp (MM F)) := by
  have hX (Φ : GSem nD τ sig → sProp (MM F)) : bigSep gatherCells Φ = bigSep Finset.univ fun c : Dev nD => bigSep Finset.univ fun k : Kind => Φ (cell c k) := by
    unfold gatherCells; rw [BI.bigSep_map, bigSep_univ_prod]; rfl
  have hT : bigSep gatherToks (fun x => (dutyTok ER x.1 x.2.1 x.2.2 : sProp (MM F))) = bigSep Finset.univ fun c : Dev nD => toks c := by
    unfold gatherToks; rw [BI.bigSep_map, bigSep_univ_prod]; rfl
  iintro HX
  imod (Rounds.fund ER (gatherRd m ρ) gatherCells gatherToks) $$ HX with ⟨Hst, Hr, Hat, Htok⟩
  imodintro
  ihave Hst' := (Entails.of_eq (hX fun g => roundState ER (gatherRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem core_alloc (c : Dev nD) :
    iprop(ownZeros c ∗ unscopedSems0 c ∗ G m ρ c)
      ⊢ |={Set.univ}=> iprop((bigSep Finset.univ fun k : Kind => iprop(∃ κ : ℕ, cellInv ER (gatherRd m ρ) κ (cell c k)))
          ∗ (bigSep Finset.univ fun k : Kind => reached ER (cell c k) 0) ∗ starts c ∗ toks c) := by
  unfold G
  iintro ⟨Hos, Hus, Hst, Hat, Hr, Htok⟩
  ihave Hv := (sems0_eq (F := F) c) $$ [Hos Hus]
  · isplitl [Hos] <;> iassumption
  imod (show iprop((bigSep Finset.univ fun k : Kind => done c k) ∗ bigSep Finset.univ fun k : Kind => roundState ER (gatherRd m ρ) (cell c k) 0)
      ⊢ (|={Set.univ}=> bigSep Finset.univ fun k : Kind => iprop(∃ κ : ℕ, cellInv ER (gatherRd m ρ) κ (cell c k)) : sProp (MM F)) from by
        rw [← bigSep_sep']
        exact (bigSep_mono fun k _ => (Rounds.body_intro ER (gatherRd m ρ) (cell c k)).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

theorem bigSep_with_persistent {I : Type} [DecidableEq I] {S : Finset I} {R : sProp (MM F)} [BI.Persistent R] {Φ Ψ : I → sProp (MM F)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem recs_eq (K : Dev nD × Kind → ℕ) : recs m ρ K
    = iprop((bigSep Finset.univ fun p : Dev nD × Kind => cellInv ER (gatherRd m ρ) (K p) (cell p.1 p.2)) ∗ bigSep Finset.univ fun p : Dev nD × Kind => reached ER (cell p.1 p.2) 0) := by
  unfold recs rec1; rw [bigSep_sep']

theorem regroup :
    (bigSep Finset.univ fun c : Dev nD => iprop((bigSep Finset.univ fun k : Kind => iprop(∃ κ : ℕ, cellInv ER (gatherRd m ρ) κ (cell c k)))
          ∗ (bigSep Finset.univ fun k : Kind => reached ER (cell c k) 0) ∗ starts c ∗ toks c) : sProp (MM F))
      ⊢ bigSep Finset.univ (G' m ρ) := by
  rw [bigSep_sep', bigSep_sep', bigSep_sep', ← bigSep_univ_prod (fun p : Dev nD × Kind => iprop(∃ κ : ℕ, cellInv ER (gatherRd m ρ) κ (cell p.1 p.2))),
    ← bigSep_univ_prod (fun p : Dev nD × Kind => (reached ER (cell p.1 p.2) 0 : sProp (MM F))), toks_around]
  iintro ⟨HI, #HR, Hat, Htok⟩
  ihave HK := (BI.bigSep_exists_pi Finset.univ (fun (p : Dev nD × Kind) (κ : ℕ) => (cellInv ER (gatherRd m ρ) κ (cell p.1 p.2) : sProp (MM F)))) $$ HI
  icases HK with ⟨%K, #HI⟩
  iapply (bigSep_with_persistent (R := recs m ρ K) (Φ := fun c => iprop(starts c ∗ payToks c)) fun c _ => show _ ⊢ G' m ρ c by
    unfold G'; iintro ⟨#H, H1, H2⟩; iexists K; isplitr; · iexact H
    isplitl [H1] <;> iassumption)
  isplitr
  · rw [recs_eq]; isplitl; · iexact HI
    iexact HR
  · rw [bigSep_sep']
    isplitl [Hat] <;> iassumption

/-- All devices' semaphores at once into the protocol. -/
theorem glob : (bigSep Finset.univ fun c => iprop(ownZeros c ∗ unscopedSems0 c ∗ G m ρ c) : sProp (MM F))
    ⊢ |={Set.univ}=> bigSep Finset.univ (G' m ρ) :=
  ((bigSep_mono fun c _ => core_alloc m ρ c).trans (bigSep_fupd _ _)).trans (BI.fupd_mono (regroup m ρ))

end Cert.GatherProof

end
-- ==== Proof.GatherLaunch.lean ====
/-
# The gather: the launch

Four devices run the second slice's kernel together: what the launch gives each, that its kernel ends with every piece
that came in its result, and so what every execution ends with.
-/
module

public import Idealize.ShloMosaic.Lib.Pipeline.CollectiveSegs
public import proofs.«01_k».proof.Proof.GatherDeal

@[expose] public section

noncomputable section

namespace Cert.GatherProof

open Cert.GatherIdeal Cert.GatherIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The data of the launch -/

/-- What a device holds before the launch gives it its scratch. -/
def start (c : Dev nD) : sProp (MM F) :=
  iprop((∃ K, ctx m ρ K) ∗ ghost0 c)

def Φ₀ (c : Dev nD) : sProp (MM F) := iprop(start m ρ c ∗ scratch c)
def Φ₁ (c : Dev nD) : sProp (MM F) := iprop(scratch c ∗ (filled m ρ c false ∗ filled m ρ c true) ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Y m ρ c false
    | ⟨1, _⟩ => Y m ρ c true
  Φ t := match t with
    | ⟨0, _⟩ => Φ₀ m ρ c
    | ⟨_ + 1, _⟩ => Φ₁ m ρ c
  q _ := fullShare
  owed t := match t with
    | ⟨0, _⟩ => owe c debts
    | ⟨_ + 1, _⟩ => 0

theorem share_eq (c : Dev nD) (w : Fin cfg0.W) : (dats m ρ 0 c).share w = fullShare := by unfold Dat.share; split <;> rfl

theorem before_left (c : Dev nD) (d) : (dats m ρ 0 c).before (0 : Fin 2) t0_0 d = Y m ρ c false := by
  unfold Dat.before; rw [if_pos (fetch0_0 t0_0)]; rfl
theorem before_right (c : Dev nD) (d) : (dats m ρ 0 c).before (1 : Fin 2) t0_0 d = Y m ρ c true := by
  unfold Dat.before; rw [if_pos (fetch0_1 t0_0)]; rfl

/-! ## One device -/

def bodyPre (c : Dev nD) : sProp (MM F) :=
  iprop(Φ₀ m ρ c ∗ (dats m ρ 0 c).owesAt () t0_0.castSucc
    ∗ (∃ d, has c (Memref.whole cc0_stg0_0) ((dats m ρ 0 c).before (0 : Fin 2) t0_0 d))
    ∗ (∃ d, has c (Memref.whole cc0_stg1_0) ((dats m ρ 0 c).before (1 : Fin 2) t0_0 d)))
def bodyPost (c : Dev nD) : sProp (MM F) :=
  iprop(Φ₁ m ρ c ∗ (dats m ρ 0 c).owesAt () t0_0.succ
    ∗ has c (Memref.whole cc0_stg0_0) (Y m ρ c false) ∗ has c (Memref.whole cc0_stg1_0) (Y m ρ c true))

theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole main_v1) (Memref.isWhole_whole _)
      accR (Memref.isWhole_whole _) comR (Memref.isWhole_whole _) cc0_scratch2 cc0_scratch3 cc0_scratch4 cc0_scoped0) (fun _ => bodyPost m ρ c)
  unfold bodyPre Φ₀ start Dat.owesAt Pipeline.owesWithin
  iintro ⟨⟨⟨⟨%K, Hctx⟩, Hg⟩, Hscr⟩, ⟨%W, %hW, HO⟩, ⟨%d, Hx⟩, ⟨%d', Hw⟩⟩
  rw [before_left, before_right]
  iapply (sound_body m ρ K c fun _ => bodyPost m ρ c)
  isplitl [Hctx Hg Hscr HO Hx Hw]
  · isplitl [Hctx]; · iexact Hctx
    isplitl [Hg]; · iexact Hg
    isplitl [Hscr]; · iexact Hscr
    isplitl [HO]; · unfold owing; iexists W; iexact HO
    unfold yy
    isplitl [Hx] <;> iassumption
  · unfold yy bodyPost Φ₁ owing Dat.owesAt Pipeline.owesWithin
    iintro ⟨⟨Hx, Hw⟩, ⟨%W', HO⟩, Hscr, Hfin, Hz⟩
    isplitl [Hscr Hfin Hz]
    · isplitl [Hscr]; · iexact Hscr
      isplitl [Hfin] <;> iassumption
    isplitl [HO]
    · iexists W'
      isplitr; · ipureintro; exact fun _ _ => Or.inl trivial
      iexact HO
    isplitl [Hx] <;> iassumption

/-! ## The launch's side conditions -/

theorem start_intro (c : Dev nD) :
    iprop(Pipeline.unscopedRestP Pipeline.Prefetch.none cfg0.spec c (fun b => m ((c : Thread nD τ).loc b)) ∗ levAts L lv
        ∗ Pipeline.launchCred (fun d => owe d debts) c ∗ prngReg c (ρ c) ∗ G' m ρ c)
      ⊢ |={Set.univ}=> iprop(start m ρ c ∗ emp) := by
  have e : (Pipeline.unscopedRestP Pipeline.Prefetch.none cfg0.spec c (fun b => m ((c : Thread nD τ).loc b)) : sProp (MM F))
      = (((c : Thread nD τ).loc main_v1) ↦{fullShare} m ((c : Thread nD τ).loc main_v1)) := by
    rw [Pipeline.unscopedRestP_none]; exact unscopedRest0_eq c _
  rw [e]
  unfold G' start ctx
  iintro ⟨Hout, Hlev, Hcr, -, ⟨%K, Hrecs, Hst, Htok⟩⟩
  ihave Hinc := (incs (F := F) c) $$ Hcr
  ihave Ho := (out_split c _) $$ Hout
  ihave Hg := (ghost_intro (F := F) c) $$ [Hst Htok Hinc Ho]
  · isplitl [Hst]; · iexact Hst
    isplitl [Htok]; · iexact Htok
    isplitl [Hinc] <;> iassumption
  imodintro
  isplitl
  · isplitl [Hrecs Hlev]
    · iexists K
      isplitl [Hrecs] <;> iassumption
    iexact Hg
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (Pipeline.scopedRest cfg0.spec c : sProp (MM F)) = _ from scopedRest0_eq c]
  unfold Φ₀ scratch
  iintro ⟨Hs, -, Ha, Hc⟩
  isplitl [Hs]; · iexact Hs
  isplitl [Ha]; · iapply (acc_split c); iexact Ha
  iapply (com_split c); iexact Hc

/-- What a device's run leaves: the pieces of the result that came and the barrier semaphore. -/
def left (c : Dev nD) : sProp (MM F) := iprop((filled m ρ c false ∗ filled m ρ c true) ∗ unscopedSems0 c)

theorem phi1_exit (c : Dev nD) :
    (dats m ρ 0 c).Φ (Fin.last cfg0.N) ⊢ iprop(left m ρ c ∗ ownZeros c ∗ Pipeline.scopedRest cfg0.spec c) := by
  rw [show (dats m ρ 0 c).Φ (Fin.last cfg0.N) = Φ₁ m ρ c from rfl, show (Pipeline.scopedRest cfg0.spec c : sProp (MM F)) = _ from scopedRest0_eq c]
  unfold Φ₁ scratch left
  iintro ⟨⟨Ha, Hc⟩, Hf, Hz⟩
  ihave Hz := (zeros_exit (F := F) c) $$ Hz
  icases Hz with ⟨Hu, Ho⟩
  isplitl [Hf Hu]
  · isplitl [Hf] <;> iassumption
  isplitl [Ho]; · iexact Ho
  isplitl [Ha]; · iapply (acc_join c); iexact Ha
  iapply (com_join c); iexact Hc

/-- The staging semaphores are at level 0, below everything owed. -/
theorem waits (c : Dev nD) : (levAts L lv : sProp (MM F)) ⊢ Pipeline.cellsWaits cfgs (dats m ρ) () 0 c :=
  Pipeline.cellsWaits_intro cfgs (dats m ρ) () 0 c fun w s t => by
    have hn : lv ((c : Thread nD τ), .dma ((cfg0.win w).sem s)) () ≤ 0 := by
      show (match kindOf (.dma ((cfg0.win w).sem s)) with | .some k => lvl k | none => 0) ≤ 0
      clear t; revert w s; decide +kernel
    rcases t with ⟨_ | _, ht⟩
    · exact mayWait_below c _ 0 hn debts (by decide)
    · exact mayWait_below c _ 0 hn [] (by decide)

/-! ## Reading the end state -/

/-- A piece a device holds is what memory holds there. -/
theorem has_read (c : Dev nD) {sp : Space} {s : Shape} {e : EltTy} (p : Memref sig .tc sp s e) (X : s.Idx → Elt F e) (s' : Phys nD τ sig (Elt F)) :
    iprop(has c p X ∗ SI s') ⊢ (⌜p.view.read (Elt F) (s'.mem.mem (p.view.loc (c : Thread nD τ))) = X⌝ : sProp (MM F)) := by
  unfold has owns
  iintro ⟨⟨%f, %hf, H⟩, HSI⟩
  ihave %h := (SI_pointsTo_agree) $$ [H HSI]
  · isplitl [HSI] <;> iassumption
  ipureintro
  rw [← hf]
  exact View.read_congr h

/-- What is known of device `c` at the end: its pieces of the result and its unscoped semaphore. -/
def endAt (c : Dev nD) (s : MemSt nD τ sig (Elt F)) : Prop :=
  (∀ d, ∀ r < 3, (outM d ((src d)^[r] c)).view.read (Elt F) (s.mem ((c : Thread nD τ).loc main_v1)) = got m ρ c d r)
    ∧ ∀ sm : SemLoc sig, sm.isScoped .tc = false → s.sem ((c.tc : Thread nD τ), sm) = 0

theorem filled_read (c : Dev nD) (d : Bool) (s' : Phys nD τ sig (Elt F)) :
    iprop(filled m ρ c d ∗ SI s') ⊢ (⌜∀ r < 3, (outM d ((src d)^[r] c)).view.read (Elt F) (s'.mem.mem ((c : Thread nD τ).loc main_v1)) = got m ρ c d r⌝ : sProp (MM F)) := by
  unfold filled
  iintro ⟨⟨H0, H1, H2⟩, HSI⟩
  ihave %h0 := (has_read c (outM d c) _ s') $$ [H0 HSI]
  · isplitl [H0] <;> iassumption
  ihave %h1 := (has_read c (outM d (src d c)) _ s') $$ [H1 HSI]
  · isplitl [H1] <;> iassumption
  ihave %h2 := (has_read c (outM d (src d (src d c))) _ s') $$ [H2 HSI]
  · isplitl [H2] <;> iassumption
  ipureintro
  intro r hr
  match r, hr with
  | 0, _ => exact h0
  | 1, _ => exact h1
  | 2, _ => exact h2

theorem left_read (c : Dev nD) (s' : Phys nD τ sig (Elt F)) :
    iprop(left m ρ c ∗ emp ∗ SI s') ⊢ |={Set.univ}=> (iprop(⌜endAt m ρ c s'.mem⌝ ∗ SI s') : sProp (MM F)) := by
  unfold left
  iintro ⟨⟨⟨H0, H1⟩, Hu⟩, -, HSI⟩
  ihave %h0 := (filled_read m ρ c false s') $$ [H0 HSI]
  · isplitl [H0] <;> iassumption
  ihave %h1 := (filled_read m ρ c true s') $$ [H1 HSI]
  · isplitl [H1] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨fun d => by cases d; exacts [h0, h1], hs⟩
  iexact HSI

/-! ## The run -/

/-- Every device's arguments as they were, and in its result the pieces that came. -/
def ends (r : PUnit × MemSt nD τ sig (Elt F)) : Prop := ∀ c : Dev nD,
  r.2.mem ((c : Thread nD τ).loc main_arg0) = m ((c : Thread nD τ).loc main_arg0)
    ∧ r.2.mem ((c : Thread nD τ).loc main_arg1) = m ((c : Thread nD τ).loc main_arg1)
    ∧ ∀ d, ∀ n < 3, (outM d ((src d)^[n] c)).view.read (Elt F) (r.2.mem ((c : Thread nD τ).loc main_v1)) = got m ρ c d n

set_option maxRecDepth 8000 in
/-- From any memory with every semaphore at zero, every weakly fair execution of the four devices ends as `ends` says, with
    every semaphore at zero. -/
theorem run_main : θ_run defs (onTc (τ := τ) (main (F := F))) (s₀ m ρ) (fun r => ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owe d debts) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_gather m ρ) $$ HX with HG
      imodintro
      isplitl [HP] <;> iassumption)
    (hglob := glob m ρ)
    (hA := fun _ _ => rfl) (hpf := fun _ k => k.elim0)
    (X := start m ρ) (Y := left m ρ) (Z := fun _ => iprop(emp))
    (hX := start_intro m ρ) (hin := phi0_intro m ρ) (hout := phi1_exit m ρ)
    (QY := endAt m ρ) (hY := left_read m ρ)
    (hQ := fun _ h hs => ⟨fun c => ⟨((h c).1 (0 : Fin 2)).trans ((dats m ρ 0 c).arrAt_in (0 : Fin 2) rfl _),
      ((h c).1 (1 : Fin 2)).trans ((dats m ρ 0 c).arrAt_in (1 : Fin 2) rfl _), (h c).2.2.1⟩, sem_eq_zero hs fun c => (h c).2.2.2⟩)

end Cert.GatherProof

end
-- ==== Proof.GatherMask.lean ====
/-
# What the gather's mask says

The gather's mask of the statement at the reference's row `r`: the chunk of 1024 rows that `r` lies in, counted within device
`r / 4096`'s array, is not that of the device opposite.
-/
module

public import proofs.«01_k».proof.On_gathered
public import proofs.«01_k».proof.Proof.Gen.On_gathered
public import Idealize.ShloMosaic.Lib.Pointwise
public import Idealize.ShloMosaic.Lib.Routing.Words
public import Idealize.ShloMosaic.Lib.WordCmp

@[expose] public section

noncomputable section

namespace Cert.GatherProof

open Idealize.ShloMosaic Cert.On_gathered

/-- Where the mask is set, the row's chunk is not the opposite device's. -/
theorem mask_at {F : FTy → Type} [FloatOps F] (x w : FVec F S4096x1024 .f32) (r : Fin 16384) (l : Fin 2048)
    (h : Cert.On_gathered.fn (F := F) x w (ix2 r l) = 1#1) : r.val / 1024 % 4 ≠ (r.val / 4096 + 2) % 4 := by
  have hr := r.isLt
  pointwise [Cert.On_gathered.fn] at h
  have hd : ∀ k : ℕ, 0 < k → k < 2 ^ 31 → IntOp.divsi ArithUnit.host (BitVec.ofNat 32 r.val) (BitVec.ofNat 32 k) = BitVec.ofNat 32 (r.val / k) :=
    fun k h0 hk => Routing.divsi_word _ (by omega) h0 hk
  have hm : ∀ a : ℕ, a < 2 ^ 31 → IntOp.remsi ArithUnit.host (BitVec.ofNat 32 a) 4#32 = BitVec.ofNat 32 (a % 4) :=
    fun a ha => Routing.remsi_word _ ha (by decide) (by decide)
  have ha : ∀ a b : ℕ, IntOp.addi (BitVec.ofNat 32 a) (BitVec.ofNat 32 b) = BitVec.ofNat 32 (a + b) := fun a b => (BitVec.ofNat_add a b).symm
  rw [hd 1024 (by decide) (by decide), hd 4096 (by decide) (by decide), hm _ (by omega), ha, hm _ (by omega),
    WordCmp.cmpi_ne_ofNat_eq_one_iff (by omega) (by omega)] at h
  exact h

end Cert.GatherProof

end
-- ==== Proof.GatherValue.lean ====
/-
# The gather's frames, and its value

Each program of the second slice runs to its end without a fault, leaves its arguments as they were and every semaphore at
zero; and every row that came to a device is the same row of the reference. Nothing is computed, only moved, so both are
proved once for any number system, and stated over the words and over the extended reals.
-/
module

public import proofs.«01_k».proof.Defs
public import proofs.«01_k».proof.Proof.GatherLaunch
public import proofs.«01_k».proof.Proof.GatherMask
public import proofs.«01_k».proof.Proof.Gen.Gather
public import proofs.«01_k».proof.Proof.Gen.Whole
public import proofs.«01_k».proof.Proof.Gen.Whole.Run
public import proofs.«01_k».proof.Proof.Gen.WholeIdeal
public import proofs.«01_k».proof.Proof.Gen.WholeIdeal.Run
public import Idealize.ShloMosaic.Lib.Layout

@[expose] public section

noncomputable section

namespace Cert.GatherProof

open Cert.GatherIdeal Cert.GatherIdeal.Gen

open Idealize.ShloMosaic Idealize.SL.Sem
open Idealize.ShloMosaic.TcCoe

/-! ## The frames -/

set_option maxRecDepth 65536 in
/-- The gather's two programs have the same kernel functions; -/
theorem bodies_eq : Cert.Gather.defs₀ (F := Bits) = Cert.GatherIdeal.defs₀ (F := Bits) := by
  unfold Cert.Gather.defs₀ Cert.GatherIdeal.defs₀
  congr 1
  funext r x
  match r, x with
  | 0, (t, s) => rfl

/-- hence so are their tables of bodies. -/
theorem tables_eq : Cert.Gather.defs (F := Bits) = Cert.GatherIdeal.defs (F := Bits) :=
  congrArg (Pipeline.defs (Cert.GatherIdeal.pcfgs (F := Bits))) bodies_eq

/-- The idealized gather's frame, -/
theorem frame_ideal : Cert.quiescent_GatherIdeal := fun m ρ _ =>
  (θ_run Cert.GatherIdeal.defs _ _).mono (fun _ h => ⟨fun c => ⟨(h.1 c).1, (h.1 c).2.1⟩, h.2⟩) (run_main (F := Ideal) m ρ)

/-- the gather's own, -/
theorem frame_gather : Cert.quiescent_Gather := fun m ρ _ => by
  rw [tables_eq]
  exact (θ_run Cert.GatherIdeal.defs _ _).mono (fun _ h => ⟨fun c => ⟨(h.1 c).1, (h.1 c).2.1⟩, h.2⟩) (run_main (F := Bits) m ρ)

/-- its idealized reference's, -/
theorem frame_whole_ideal : Cert.quiescent_WholeIdeal := fun m ρ _ =>
  (θ_run Cert.WholeIdeal.defs _ _).mono (fun r h => ⟨fun c => (h c).2, sem_eq_zero_of_no_sems (by decide) r.2⟩)
    (Cert.WholeIdeal.Value.run (F := Ideal) m ρ)

/-- and its reference's. -/
theorem frame_whole : Cert.quiescent_Whole := fun m ρ _ =>
  (θ_run Cert.Whole.defs _ _).mono (fun r h => ⟨fun c => (h c).2, sem_eq_zero_of_no_sems (by decide) r.2⟩)
    (Cert.Whole.Value.run (F := Bits) m ρ)

/-! ## What came -/

variable {F : FTy → Type} [FloatOps F]
variable (m : (ℓ : Loc nD τ sig) → Buf (Elt F) ℓ) (ρ : Dev nD → PrngReg)

/-- The arrays of finished chunks: a direction's chunks, one below the other; -/
abbrev Half (F : FTy → Type) : Type := (⟨2, ![4096, 1024]⟩ : Shape).Idx → F .f32
/-- a device's result; and all four below each other. -/
abbrev Result (F : FTy → Type) : Type := (⟨2, ![4096, 2048]⟩ : Shape).Idx → F .f32
abbrev Results (F : FTy → Type) : Type := (⟨2, ![16384, 2048]⟩ : Shape).Idx → F .f32

/-- What direction `d`'s argument holds on device `c`. -/
abbrev chunkOf (c : Dev nD) (d : Bool) : S1024x1024.Idx → F .f32 := match d with
  | false => m ((c : Thread nD τ).loc main_arg0)
  | true => m ((c : Thread nD τ).loc main_arg1)

/-- The window of an argument is the whole of the device's chunk. -/
theorem Y_eq (c : Dev nD) (d : Bool) (i : S1024x1024.Idx) : Y m ρ c d i = chunkOf m c d i := by
  cases d
  · show m ((c : Thread nD τ).loc main_arg0) ((win0_0.blk (0 : Fin 1)).view.emb i) = m ((c : Thread nD τ).loc main_arg0) i
    congr 1
    funext a
    apply Fin.ext
    show 0 * S1024x1024.size a + 1 * (i a).val = (i a).val
    omega
  · show m ((c : Thread nD τ).loc main_arg1) ((win0_1.blk (0 : Fin 1)).view.emb i) = m ((c : Thread nD τ).loc main_arg1) i
    congr 1
    funext a
    apply Fin.ext
    show 0 * S1024x1024.size a + 1 * (i a).val = (i a).val
    omega

/-- The first column that direction `d` works on. -/
abbrev colOf (d : Bool) : ℕ := match d with | false => 0 | true => 1024
theorem colOf_lt (d : Bool) (b : Fin 1024) : colOf d + b.val < 2048 := by
  have := b.isLt; cases d <;> simp only [colOf] <;> omega
theorem rowOf_lt (i : Dev nD) (a : Fin 1024) : 1024 * i.val + a.val < 4096 := by
  have h := i.isLt; have := a.isLt; change i.val < 4 at h; omega
theorem chunk_lt (c : Dev nD) (a : Fin 1024) : c.val * 1024 + a.val < 4096 := by
  have h := c.isLt; have := a.isLt; change c.val < 4 at h; omega
theorem rowAll_lt (c : Dev nD) (r : Fin 4096) : c.val * 4096 + r.val < 16384 := by
  have h := c.isLt; have := r.isLt; change c.val < 4 at h; omega

variable (L R : Half F)

/-- Each device holds its block of the rows of both halves. -/
def Dealt : Prop := ∀ c : Dev nD,
  m ((c : Thread nD τ).loc main_arg0) = Layout.block ⟨2, ![1024, 1024]⟩ ⟨2, ![4096, 1024]⟩ 0 4 c L
    ∧ m ((c : Thread nD τ).loc main_arg1) = Layout.block ⟨2, ![1024, 1024]⟩ ⟨2, ![4096, 1024]⟩ 0 4 c R

variable {m L R}

/-- Element by element. -/
theorem chunk_at (h : Dealt m L R) (c : Dev nD) (d : Bool) (a b : Fin 1024) :
    chunkOf m c d (ix2 a b) = cond d R L (ix2 ⟨c.val * 1024 + a.val, chunk_lt c a⟩ b) := by
  cases d
  · show m ((c : Thread nD τ).loc main_arg0) (ix2 a b) = L _
    rw [(h c).1, Layout.block_apply]
    refine congrArg L (funext fun x => Fin.ext ?_)
    rw [Layout.Tiles.idx_val]
    fin_cases x <;> rfl
  · show m ((c : Thread nD τ).loc main_arg1) (ix2 a b) = R _
    rw [(h c).2, Layout.block_apply]
    refine congrArg R (funext fun x => Fin.ext ?_)
    rw [Layout.Tiles.idx_val]
    fin_cases x <;> rfl

/-! ## The reference -/

/-- The reference's left half, each chunk one place down, -/
def leftRef (L : Half F) : Half F :=
  concatenate (α := F .f32) Cert.WholeIdeal.S4096x1024 0
    [⟨Cert.WholeIdeal.S1024x1024, extractStridedSlice Cert.WholeIdeal.S1024x1024 ![3072, 0] L Cert.WholeIdeal.Facts₀.slices_S4096x1024_S1024x1024_3072_0⟩,
      ⟨Cert.WholeIdeal.S3072x1024, extractStridedSlice Cert.WholeIdeal.S3072x1024 ![0, 0] L Cert.WholeIdeal.Facts₀.slices_S4096x1024_S3072x1024_0_0⟩]
    Cert.WholeIdeal.Facts₀.concatenates_S1024x1024_S3072x1024_S4096x1024_d0

/-- its right half, each chunk one place up, -/
def rightRef (R : Half F) : Half F :=
  concatenate (α := F .f32) Cert.WholeIdeal.S4096x1024 0
    [⟨Cert.WholeIdeal.S3072x1024, extractStridedSlice Cert.WholeIdeal.S3072x1024 ![1024, 0] R Cert.WholeIdeal.Facts₀.slices_S4096x1024_S3072x1024_1024_0⟩,
      ⟨Cert.WholeIdeal.S1024x1024, extractStridedSlice Cert.WholeIdeal.S1024x1024 ![0, 0] R Cert.WholeIdeal.Facts₀.slices_S4096x1024_S1024x1024_0_0⟩]
    Cert.WholeIdeal.Facts₀.concatenates_S3072x1024_S1024x1024_S4096x1024_d0

/-- the two side by side, -/
def oneRef (L R : Half F) : Result F :=
  concatenate (α := F .f32) Cert.WholeIdeal.S4096x2048 1 [⟨Cert.WholeIdeal.S4096x1024, leftRef L⟩, ⟨Cert.WholeIdeal.S4096x1024, rightRef R⟩]
    Cert.WholeIdeal.Facts₀.concatenates_S4096x1024_S4096x1024_S4096x2048_d1

/-- two copies of that one below the other, -/
def twoRef (L R : Half F) : (⟨2, ![8192, 2048]⟩ : Shape).Idx → F .f32 :=
  concatenate (α := F .f32) Cert.WholeIdeal.S8192x2048 0 [⟨Cert.WholeIdeal.S4096x2048, oneRef L R⟩, ⟨Cert.WholeIdeal.S4096x2048, oneRef L R⟩]
    Cert.WholeIdeal.Facts₀.concatenates_S4096x2048_S4096x2048_S8192x2048_d0

/-- and four. -/
def allRef (L R : Half F) : Results F :=
  concatenate (α := F .f32) Cert.WholeIdeal.S16384x2048 0 [⟨Cert.WholeIdeal.S8192x2048, twoRef L R⟩, ⟨Cert.WholeIdeal.S8192x2048, twoRef L R⟩]
    Cert.WholeIdeal.Facts₀.concatenates_S8192x2048_S8192x2048_S16384x2048_d0

/-- The copies are alike. -/
theorem allRef_at (c : Dev nD) (r : Fin 4096) (l : Fin 2048) : allRef L R (ix2 ⟨c.val * 4096 + r.val, rowAll_lt c r⟩ l) = oneRef L R (ix2 r l) := by
  have hc := c.isLt
  have hr := r.isLt
  change c.val < 4 at hc
  unfold allRef twoRef
  pointwise
  split_ifs <;> exact congrArg (fun q => oneRef L R (ix2 q l)) (Fin.ext (by simp only [] at *; omega))

/-- The left half of the copy: the chunk of device `e` stands where the next device's rows are, -/
theorem leftRef_at (e : Dev nD) (a b : Fin 1024) :
    leftRef L (ix2 ⟨1024 * (dst false e).val + a.val, rowOf_lt _ a⟩ b) = L (ix2 ⟨e.val * 1024 + a.val, chunk_lt e a⟩ b) := by
  have he := e.isLt
  have ha := a.isLt
  change e.val < 4 at he
  have hq : (dst false e).val = (e.val + 1) % 4 := rfl
  unfold leftRef
  pointwise
  split_ifs <;> exact congrArg (fun q => L (ix2 q b)) (Fin.ext (by simp only [] at *; omega))

/-- A row of the right half, -/
theorem rightRef_row (q : Fin 4096) (b : Fin 1024) :
    rightRef R (ix2 q b) = R (ix2 ⟨(q.val + 1024) % 4096, Nat.mod_lt _ (by decide)⟩ b) := by
  have hq := q.isLt
  unfold rightRef
  set_option maxRecDepth 20000 in pointwise
  split_ifs <;> exact congrArg (fun q => R (ix2 q b)) (Fin.ext (by simp only [] at *; omega))

/-- and the right half: where the previous device's are. -/
theorem rightRef_at (e : Dev nD) (a b : Fin 1024) :
    rightRef R (ix2 ⟨1024 * (dst true e).val + a.val, rowOf_lt _ a⟩ b) = R (ix2 ⟨e.val * 1024 + a.val, chunk_lt e a⟩ b) := by
  have he := e.isLt
  have ha := a.isLt
  change e.val < 4 at he
  have hq : (dst true e).val = (e.val + 3) % 4 := rfl
  rw [rightRef_row]
  exact congrArg (fun q => R (ix2 q b)) (Fin.ext (by show _ % _ = _; simp only []; omega))

/-- The two together. -/
theorem oneRef_at (e : Dev nD) (d : Bool) (a b : Fin 1024) :
    oneRef L R (ix2 ⟨1024 * (dst d e).val + a.val, rowOf_lt _ a⟩ ⟨colOf d + b.val, colOf_lt d b⟩)
      = cond d R L (ix2 ⟨e.val * 1024 + a.val, chunk_lt e a⟩ b) := by
  have hb := b.isLt
  cases d
  · refine Eq.trans ?_ (leftRef_at e a b)
    unfold oneRef
    pointwise
    rfl
  · refine Eq.trans ?_ (rightRef_at e a b)
    unfold oneRef
    pointwise
    rfl

/-! ## The comparison -/

/-- Where an element of a piece of the result lies. -/
theorem outM_ix (d : Bool) (e : Dev nD) (a b : Fin 1024) :
    (outM d e).view.emb (ix2 a b) = ix2 ⟨1024 * (dst d e).val + a.val, rowOf_lt _ a⟩ ⟨colOf d + b.val, colOf_lt d b⟩ := by
  funext x
  apply Fin.ext
  cases d <;> fin_cases x
  · show 1024 * (dst false e).val + 1 * a.val = 1024 * (dst false e).val + a.val
    omega
  · show 0 + 1 * b.val = 0 + b.val
    omega
  · show 1024 * (dst true e).val + 1 * a.val = 1024 * (dst true e).val + a.val
    omega
  · show 1024 + 1 * b.val = 1024 + b.val
    omega

/-- Every chunk but the opposite device's comes in each direction. -/
theorem came (c q : Dev nD) (d : Bool) (h : q.val ≠ (c.val + 2) % 4) : ∃ n < 3, dst d ((src d)^[n] c) = q := by
  revert c q d; decide

/-- A row outside the opposite device's chunk, and a column, as an element of a piece that came. -/
theorem place (c : Dev nD) (r : Fin 4096) (l : Fin 2048) (h : (c.val * 4096 + r.val) / 1024 % 4 ≠ ((c.val * 4096 + r.val) / 4096 + 2) % 4) :
    ∃ (d : Bool) (n : ℕ) (a b : Fin 1024), n < 3 ∧ r = ⟨1024 * (dst d ((src d)^[n] c)).val + a.val, rowOf_lt _ a⟩ ∧ l = ⟨colOf d + b.val, colOf_lt d b⟩ := by
  have hc := c.isLt
  have hr := r.isLt
  have hl := l.isLt
  change c.val < 4 at hc
  have hq : r.val / 1024 ≠ (c.val + 2) % 4 := by omega
  by_cases hlt : l.val < 1024
  · obtain ⟨n, hn, e⟩ := came c ⟨r.val / 1024, by show _ < 4; omega⟩ false hq
    refine ⟨false, n, ⟨r.val % 1024, Nat.mod_lt _ (by decide)⟩, ⟨l.val, hlt⟩, hn, Fin.ext ?_, Fin.ext ?_⟩
    · rw [e]
      show r.val = 1024 * (r.val / 1024) + r.val % 1024
      omega
    · show l.val = 0 + l.val
      omega
  · obtain ⟨n, hn, e⟩ := came c ⟨r.val / 1024, by show _ < 4; omega⟩ true hq
    refine ⟨true, n, ⟨r.val % 1024, Nat.mod_lt _ (by decide)⟩, ⟨l.val - 1024, by omega⟩, hn, Fin.ext ?_, Fin.ext ?_⟩
    · rw [e]
      show r.val = 1024 * (r.val / 1024) + r.val % 1024
      omega
    · show l.val = 1024 + (l.val - 1024)
      omega

/-- Device `c`'s block of an array of all the rows, at an element. -/
theorem block_rows {α : Type} (c : Fin 4) (v : (⟨2, ![16384, 2048]⟩ : Shape).Idx → α) (h : Layout.Tiles ⟨2, ![4096, 2048]⟩ ⟨2, ![16384, 2048]⟩ 0 4)
    (r : Fin 4096) (l : Fin 2048) :
    Layout.block ⟨2, ![4096, 2048]⟩ ⟨2, ![16384, 2048]⟩ 0 4 c v h (ix2 r l) = v (ix2 ⟨c.val * 4096 + r.val, rowAll_lt c r⟩ l) := by
  rw [Layout.block_apply]
  refine congrArg v (funext fun x => Fin.ext ?_)
  rw [Layout.Tiles.idx_val]
  fin_cases x <;> rfl

/-- A result that holds the pieces that came is, under the mask, the device's block of the reference's. -/
theorem result_at (ρ : Dev nD → PrngReg) (h : Dealt m L R) (c : Dev nD) (v : Result F)
    (hv : ∀ d, ∀ n < 3, (outM d ((src d)^[n] c)).view.read (Elt F) v = got m ρ c d n)
    (i : (⟨2, ![4096, 2048]⟩ : Shape).Idx) (ht : Layout.Tiles ⟨2, ![4096, 2048]⟩ ⟨2, ![16384, 2048]⟩ 0 4)
    (hi : Layout.block ⟨2, ![4096, 2048]⟩ ⟨2, ![16384, 2048]⟩ 0 4 c (Cert.On_gathered.fn (F := F) L R) ht i = 1#1) :
    v i = Layout.block ⟨2, ![4096, 2048]⟩ ⟨2, ![16384, 2048]⟩ 0 4 c (allRef L R) ht i := by
  obtain ⟨r, l, rfl⟩ : ∃ (r : Fin 4096) (l : Fin 2048), i = ix2 r l := ⟨i 0, i 1, eq_ix2 i⟩
  rw [block_rows] at hi ⊢
  obtain ⟨d, n, a, b, hn, er, el⟩ := place c r l (mask_at _ _ _ _ hi)
  rw [allRef_at, er, el, oneRef_at, ← chunk_at h, ← Y_eq m ρ, ← outM_ix d ((src d)^[n] c) a b]
  exact congrFun (hv d n hn) (ix2 a b)

/-- The value claim over the words, -/
theorem value_words : Cert.bitexact_Gather_Whole_on_gathered := by
  intro m ρ m' ρ' _ h
  refine ⟨allRef (F := Bits) (m' (((0 : Dev Cert.Whole.nD).tc : Thread Cert.Whole.nD Cert.Whole.τ).loc Cert.Whole.main_arg0))
    (m' (((0 : Dev Cert.Whole.nD).tc : Thread Cert.Whole.nD Cert.Whole.τ).loc Cert.Whole.main_arg1)), ?_, ?_⟩
  · rw [tables_eq]
    exact (θ_run Cert.GatherIdeal.defs _ _).mono
      (fun r hr c => ⟨fun i hi => result_at ρ h c _ (hr.1 c).2.2 i _ hi, (hr.1 c).1, (hr.1 c).2.1⟩) (run_main (F := Bits) m ρ)
  · exact (θ_run Cert.Whole.defs _ _).mono (fun r hr => ⟨fun i _ => congrFun (hr 0).1 i, (hr 0).2⟩)
      (Cert.Whole.Value.run (F := Bits) m' ρ')

/-- and over the extended reals. -/
theorem value_ideal : Cert.algebraic_GatherIdeal_WholeIdeal_on_gathered := by
  intro m ρ m' ρ' _ h
  refine ⟨allRef (F := Ideal) (m' (((0 : Dev Cert.WholeIdeal.nD).tc : Thread Cert.WholeIdeal.nD Cert.WholeIdeal.τ).loc Cert.WholeIdeal.main_arg0))
    (m' (((0 : Dev Cert.WholeIdeal.nD).tc : Thread Cert.WholeIdeal.nD Cert.WholeIdeal.τ).loc Cert.WholeIdeal.main_arg1)), ?_, ?_⟩
  · exact (θ_run Cert.GatherIdeal.defs _ _).mono
      (fun r hr c => ⟨fun i hi => result_at ρ h c _ (hr.1 c).2.2 i _ hi, (hr.1 c).1, (hr.1 c).2.1⟩) (run_main (F := Ideal) m ρ)
  · exact (θ_run Cert.WholeIdeal.defs _ _).mono (fun r hr => ⟨fun i _ => congrFun (hr 0).1 i, (hr 0).2⟩)
      (Cert.WholeIdeal.Value.run (F := Ideal) m' ρ')

end Cert.GatherProof

end
-- ==== Proof.lean ====
/-
# The certificate

For the first slice, the reduce-scatter: the frames of the kernel, of its idealisation and of the reference (Frames.lean),
the idealisation without rewrites, and the value of what each device has finished (Value.lean). For the second, the gather:
the frames, the idealisation without rewrites, and the value of what came, over the words and over the extended reals
(GatherValue.lean).
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_bounded_KernelIdeal
public import proofs.«01_k».proof.Proof.Gen.Pre_bounded_ReferenceIdeal
public import proofs.«01_k».proof.Proof.Gen.On_finished
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.Whole
public import proofs.«01_k».proof.Proof.Gen.Whole.Run
public import proofs.«01_k».proof.Proof.Gen.WholeIdeal
public import proofs.«01_k».proof.Proof.Gen.WholeIdeal.Run
public import proofs.«01_k».proof.Proof.Gen.On_gathered
public import proofs.«01_k».proof.Proof.Frames
public import proofs.«01_k».proof.Proof.Value
public import proofs.«01_k».proof.Proof.GatherValue
public import Idealize.ShloMosaic.Adequacy
public import Idealize.ShloMosaic.Init

@[expose] public section

noncomputable section

namespace Cert.Proof

open Idealize.ShloMosaic Idealize.SL.Sem Cert.Kernel

/-- Every claim of the statement, in its order, after the programs' stated facts. -/
theorem claim : Cert.Claim :=
  ⟨Cert.Kernel.Gen.facts, Cert.KernelIdeal.Gen.facts, Cert.ReferenceIdeal.Gen.facts, Cert.Gather.Gen.facts, Cert.GatherIdeal.Gen.facts,
    Cert.WholeIdeal.Gen.facts, Cert.Whole.Gen.facts, Cert.Pre_bounded_KernelIdeal.Gen.facts, Cert.Pre_bounded_ReferenceIdeal.Gen.facts,
    Cert.On_finished.Gen.facts, Cert.On_gathered.Gen.facts,
    Cert.RingProof.frame_kernel, Cert.RingProof.frame_ideal, Cert.RingProof.frame_ideal_bounded, Cert.RingProof.frame_reference,
    Cert.RingProof.frame_reference_bounded,
    Cert.GatherProof.frame_gather, Cert.GatherProof.frame_ideal, Cert.GatherProof.frame_whole_ideal, Cert.GatherProof.frame_whole,
    trivial, Cert.RingProof.value, trivial, Cert.GatherProof.value_words, Cert.GatherProof.value_ideal⟩

end Cert.Proof

end
